-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v31_0)) (v1 : (c : Dev Cert.KernelIdeal.nD) → Buf (Elt Ideal) ((c.tc : Thread Cert.KernelIdeal.nD Cert.KernelIdeal.τ).loc Cert.KernelIdeal.main_v31_1)) (v2 : (c : Dev Cert.KernelIdeal.nD) → Buf (Elt Ideal) ((c.tc : Thread Cert.KernelIdeal.nD Cert.KernelIdeal.τ).loc Cert.KernelIdeal.main_v31_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v31_0) = v0 c
          ∧ r.2.mem ((c.tc : Thread Cert.KernelIdeal.nD Cert.KernelIdeal.τ).loc Cert.KernelIdeal.main_v31_1) = v1 c
          ∧ r.2.mem ((c.tc : Thread Cert.KernelIdeal.nD Cert.KernelIdeal.τ).loc Cert.KernelIdeal.main_v31_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v2_0) = v0 c
          ∧ r.2.mem ((c.tc : Thread Cert.ReferenceIdeal.nD Cert.ReferenceIdeal.τ).loc Cert.ReferenceIdeal.main_v2_1) = v1 c
          ∧ r.2.mem ((c.tc : Thread Cert.ReferenceIdeal.nD Cert.ReferenceIdeal.τ).loc Cert.ReferenceIdeal.main_v2_2) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S2x144x2304 : Shape := ⟨3, ![2, 144, 2304]⟩
abbrev S2x144 : Shape := ⟨2, ![2, 144]⟩
abbrev S2x2304 : Shape := ⟨2, ![2, 2304]⟩
abbrev S2304x12288 : Shape := ⟨2, ![2304, 12288]⟩
abbrev S12288 : Shape := ⟨1, ![12288]⟩
abbrev S6144x2304 : Shape := ⟨2, ![6144, 2304]⟩
abbrev S2304 : Shape := ⟨1, ![2304]⟩
abbrev S1x128x2304 : Shape := ⟨3, ![1, 128, 2304]⟩
abbrev S128x2304 : Shape := ⟨2, ![128, 2304]⟩
abbrev S1x16x2304 : Shape := ⟨3, ![1, 16, 2304]⟩
abbrev S16x2304 : Shape := ⟨2, ![16, 2304]⟩
abbrev S288x2304 : Shape := ⟨2, ![288, 2304]⟩
abbrev S1x128 : Shape := ⟨2, ![1, 128]⟩
abbrev S128 : Shape := ⟨1, ![128]⟩
abbrev S1x16 : Shape := ⟨2, ![1, 16]⟩
abbrev S16 : Shape := ⟨1, ![16]⟩
abbrev S288 : Shape := ⟨1, ![288]⟩
abbrev S288x1 : Shape := ⟨2, ![288, 1]⟩
abbrev S288x128 : Shape := ⟨2, ![288, 128]⟩
abbrev S1x12288 : Shape := ⟨2, ![1, 12288]⟩
abbrev S1x2304 : Shape := ⟨2, ![1, 2304]⟩
abbrev S2x144x6144 : Shape := ⟨3, ![2, 144, 6144]⟩
abbrev S10x2304x768 : Shape := ⟨3, ![10, 2304, 768]⟩
abbrev S3x6144x768 : Shape := ⟨3, ![3, 6144, 768]⟩
abbrev S10 : Shape := ⟨1, ![10]⟩
abbrev S3 : Shape := ⟨1, ![3]⟩
abbrev S8 : Shape := ⟨1, ![8]⟩
abbrev S1 : Shape := ⟨1, ![1]⟩
abbrev S_ : Shape := ⟨0, ![]⟩
abbrev S1x2304x768 : Shape := ⟨3, ![1, 2304, 768]⟩
abbrev S2304x768 : Shape := ⟨2, ![2304, 768]⟩
abbrev S1x6144x768 : Shape := ⟨3, ![1, 6144, 768]⟩
abbrev S6144x768 : Shape := ⟨2, ![6144, 768]⟩
abbrev S288x6144 : Shape := ⟨2, ![288, 6144]⟩
abbrev S288x768 : Shape := ⟨2, ![288, 768]⟩
abbrev S1x768 : Shape := ⟨2, ![1, 768]⟩
abbrev S32x128 : Shape := ⟨2, ![32, 128]⟩
abbrev S32 : Shape := ⟨1, ![32]⟩
abbrev S32x1 : Shape := ⟨2, ![32, 1]⟩
abbrev S1x128x6144 : Shape := ⟨3, ![1, 128, 6144]⟩
abbrev S128x6144 : Shape := ⟨2, ![128, 6144]⟩
abbrev S1x16x6144 : Shape := ⟨3, ![1, 16, 6144]⟩
abbrev S16x6144 : Shape := ⟨2, ![16, 6144]⟩
abbrev S128x128 : Shape := ⟨2, ![128, 128]⟩
abbrev S96x128 : Shape := ⟨2, ![96, 128]⟩
abbrev S32x768 : Shape := ⟨2, ![32, 768]⟩

abbrev nBuf : Space → Nat
  | .hbm => 42
  | .vmem => 14
  | .smem => 0
  | _ => 0

abbrev bufTy : (tb : Table) → Fin (tcTables nBuf tb) → BufTy
  | .hbm, ⟨0, _⟩ => ⟨S2x144x2304, .fp8e4m3⟩
  | .hbm, ⟨1, _⟩ => ⟨S2x144, .f32⟩
  | .hbm, ⟨2, _⟩ => ⟨S2x144x2304, .f32⟩
  | .hbm, ⟨3, _⟩ => ⟨S2x2304, .f32⟩
  | .hbm, ⟨4, _⟩ => ⟨S2304x12288, .fp8e4m3⟩
  | .hbm, ⟨5, _⟩ => ⟨S12288, .f32⟩
  | .hbm, ⟨6, _⟩ => ⟨S6144x2304, .fp8e4m3⟩
  | .hbm, ⟨7, _⟩ => ⟨S2304, .f32⟩
  | .hbm, ⟨8, _⟩ => ⟨S1x128x2304, .fp8e4m3⟩
  | .hbm, ⟨9, _⟩ => ⟨S128x2304, .fp8e4m3⟩
  | .hbm, ⟨10, _⟩ => ⟨S1x128x2304, .fp8e4m3⟩
  | .hbm, ⟨11, _⟩ => ⟨S128x2304, .fp8e4m3⟩
  | .hbm, ⟨12, _⟩ => ⟨S1x16x2304, .fp8e4m3⟩
  | .hbm, ⟨13, _⟩ => ⟨S16x2304, .fp8e4m3⟩
  | .hbm, ⟨14, _⟩ => ⟨S1x16x2304, .fp8e4m3⟩
  | .hbm, ⟨15, _⟩ => ⟨S16x2304, .fp8e4m3⟩
  | .hbm, ⟨16, _⟩ => ⟨S288x2304, .fp8e4m3⟩
  | .hbm, ⟨17, _⟩ => ⟨S1x128, .f32⟩
  | .hbm, ⟨18, _⟩ => ⟨S128, .f32⟩
  | .hbm, ⟨19, _⟩ => ⟨S1x128, .f32⟩
  | .hbm, ⟨20, _⟩ => ⟨S128, .f32⟩
  | .hbm, ⟨21, _⟩ => ⟨S1x16, .f32⟩
  | .hbm, ⟨22, _⟩ => ⟨S16, .f32⟩
  | .hbm, ⟨23, _⟩ => ⟨S1x16, .f32⟩
  | .hbm, ⟨24, _⟩ => ⟨S16, .f32⟩
  | .hbm, ⟨25, _⟩ => ⟨S288, .f32⟩
  | .hbm, ⟨26, _⟩ => ⟨S288x1, .f32⟩
  | .hbm, ⟨27, _⟩ => ⟨S288x128, .f32⟩
  | .hbm, ⟨28, _⟩ => ⟨S1x128x2304, .f32⟩
  | .hbm, ⟨29, _⟩ => ⟨S128x2304, .f32⟩
  | .hbm, ⟨30, _⟩ => ⟨S1x128x2304, .f32⟩
  | .hbm, ⟨31, _⟩ => ⟨S128x2304, .f32⟩
  | .hbm, ⟨32, _⟩ => ⟨S1x16x2304, .f32⟩
  | .hbm, ⟨33, _⟩ => ⟨S16x2304, .f32⟩
  | .hbm, ⟨34, _⟩ => ⟨S1x16x2304, .f32⟩
  | .hbm, ⟨35, _⟩ => ⟨S16x2304, .f32⟩
  | .hbm, ⟨36, _⟩ => ⟨S288x2304, .f32⟩
  | .hbm, ⟨37, _⟩ => ⟨S1x12288, .f32⟩
  | .hbm, ⟨38, _⟩ => ⟨S1x2304, .f32⟩
  | .hbm, ⟨39, _⟩ => ⟨S2x144x2304, .bf16⟩
  | .hbm, ⟨40, _⟩ => ⟨S2x144x6144, .fp8e4m3⟩
  | .hbm, ⟨41, _⟩ => ⟨S2x144, .f32⟩
  | .local _ .vmem, ⟨0, _⟩ => ⟨S288x2304, .fp8e4m3⟩
  | .local _ .vmem, ⟨1, _⟩ => ⟨S288x128, .f32⟩
  | .local _ .vmem, ⟨2, _⟩ => ⟨S288x2304, .f32⟩
  | .local _ .vmem, ⟨3, _⟩ => ⟨S2x2304, .f32⟩
  | .local _ .vmem, ⟨4, _⟩ => ⟨S1x12288, .f32⟩
  | .local _ .vmem, ⟨5, _⟩ => ⟨S1x2304, .f32⟩
  | .local _ .vmem, ⟨6, _⟩ => ⟨S2x144, .f32⟩
  | .local _ .vmem, ⟨7, _⟩ => ⟨S10x2304x768, .fp8e4m3⟩
  | .local _ .vmem, ⟨8, _⟩ => ⟨S3x6144x768, .fp8e4m3⟩
  | .local _ .vmem, ⟨9, _⟩ => ⟨S288x128, .f32⟩
  | .local _ .vmem, ⟨10, _⟩ => ⟨S288x6144, .f32⟩
  | .local _ .vmem, ⟨11, _⟩ => ⟨S288x6144, .fp8e4m3⟩
  | .local _ .vmem, ⟨12, _⟩ => ⟨S288x128, .f32⟩
  | .local _ .vmem, ⟨13, _⟩ => ⟨S288x2304, .bf16⟩
  | _, _ => ⟨S2x144x2304, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31_0 : Ref sig .tc := ⟨.hbm, 39, rfl⟩
abbrev main_v31_1 : Ref sig .tc := ⟨.hbm, 40, rfl⟩
abbrev main_v31_2 : Ref sig .tc := ⟨.hbm, 41, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_scratch0 : Ref sig .tc := ⟨.vmem, 7, rfl⟩
abbrev cc0_scratch1 : Ref sig .tc := ⟨.vmem, 8, rfl⟩
abbrev cc0_scratch2 : Ref sig .tc := ⟨.vmem, 9, rfl⟩
abbrev cc0_scoped0 : Ref sig .tc := ⟨.vmem, 10, rfl⟩
abbrev cc0_scoped1 : Ref sig .tc := ⟨.vmem, 11, rfl⟩
abbrev cc0_scoped2 : Ref sig .tc := ⟨.vmem, 12, rfl⟩
abbrev cc0_scoped3 : Ref sig .tc := ⟨.vmem, 13, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := .none

@[reducible] def k0_t1_loop : Scf.Loop 32 :=
  let c0_i32_68_r0 : BitVec 32 := 0#32
  let c8_i32_69_r0 : BitVec 32 := 8#32
  let v74_r0 : BitVec 32 := Scalar.addi c0_i32_68_r0 c8_i32_69_r0
  let c1_i32_70_r0 : BitVec 32 := 1#32
  ⟨c0_i32_68_r0, v74_r0, c1_i32_70_r0⟩
def k0_mult1 (k0_t1 : Fin k0_t1_loop.trips) : BitVec 32 :=
  let c2_i32_397_r0 : BitVec 32 := 2#32
  let c0_i32_68_r0 : BitVec 32 := 0#32
  let c1_i32_70_r0 : BitVec 32 := 1#32
  let arg17_r0 : BitVec 32 := Scf.iv c0_i32_68_r0 c1_i32_70_r0 k0_t1
  let v547_r0 : BitVec 32 := Scalar.muli c2_i32_397_r0 arg17_r0
  let c1_i32_399_r0 : BitVec 32 := 1#32
  let v550_r0 : BitVec 32 := Scalar.shrsi v547_r0 c1_i32_399_r0
  let c768_i32_400_r0 : BitVec 32 := 768#32
  let v551_r0 : BitVec 32 := Scalar.muli v550_r0 c768_i32_400_r0
  let c1_i32_401_r0 : BitVec 32 := 1#32
  let v552_r0 : BitVec 32 := Scalar.andi v547_r0 c1_i32_401_r0
  let c6144_i32_402_r0 : BitVec 32 := 6144#32
  let v553_r0 : BitVec 32 := Scalar.muli v552_r0 c6144_i32_402_r0
  let v554_r0 : BitVec 32 := Scalar.addi v551_r0 v553_r0
  v554_r0
def k0_off1 (k0_t1 : Fin k0_t1_loop.trips) : Fin 1 → Nat :=
  let c2_i32_397_r0 : BitVec 32 := 2#32
  let c0_i32_68_r0 : BitVec 32 := 0#32
  let c1_i32_70_r0 : BitVec 32 := 1#32
  let arg17_r0 : BitVec 32 := Scf.iv c0_i32_68_r0 c1_i32_70_r0 k0_t1
  let v547_r0 : BitVec 32 := Scalar.muli c2_i32_397_r0 arg17_r0
  let c8_i32_398_r0 : BitVec 32 := 8#32
  let v548_r0 : BitVec 32 := Scalar.addi v547_r0 c8_i32_398_r0
  let c10_i32_r0 : BitVec 32 := 10#32
  let v549_r0 : BitVec 32 := Scalar.remsi v548_r0 c10_i32_r0
  ![v549_r0.toNat]
def k0_off2 (k0_t1 : Fin k0_t1_loop.trips) : Fin 3 → Nat :=
  let c2_i32_397_r0 : BitVec 32 := 2#32
  let c0_i32_68_r0 : BitVec 32 := 0#32
  let c1_i32_70_r0 : BitVec 32 := 1#32
  let arg17_r0 : BitVec 32 := Scf.iv c0_i32_68_r0 c1_i32_70_r0 k0_t1
  let v547_r0 : BitVec 32 := Scalar.muli c2_i32_397_r0 arg17_r0
  let c8_i32_398_r0 : BitVec 32 := 8#32
  let v548_r0 : BitVec 32 := Scalar.addi v547_r0 c8_i32_398_r0
  let c10_i32_r0 : BitVec 32 := 10#32
  let v549_r0 : BitVec 32 := Scalar.remsi v548_r0 c10_i32_r0
  let c0_i32_403_r0 : BitVec 32 := 0#32
  let c0_i32_404_r0 : BitVec 32 := 0#32
  ![v549_r0.toNat, 0, 0]
def k0_off3 (k0_t1 : Fin k0_t1_loop.trips) : Fin 2 → Nat :=
  let c0_i32_405_r0 : BitVec 32 := 0#32
  let c2_i32_397_r0 : BitVec 32 := 2#32
  let c0_i32_68_r0 : BitVec 32 := 0#32
  let c1_i32_70_r0 : BitVec 32 := 1#32
  let arg17_r0 : BitVec 32 := Scf.iv c0_i32_68_r0 c1_i32_70_r0 k0_t1
  let v547_r0 : BitVec 32 := Scalar.muli c2_i32_397_r0 arg17_r0
  let c1_i32_399_r0 : BitVec 32 := 1#32
  let v550_r0 : BitVec 32 := Scalar.shrsi v547_r0 c1_i32_399_r0
  let c768_i32_400_r0 : BitVec 32 := 768#32
  let v551_r0 : BitVec 32 := Scalar.muli v550_r0 c768_i32_400_r0
  let c1_i32_401_r0 : BitVec 32 := 1#32
  let v552_r0 : BitVec 32 := Scalar.andi v547_r0 c1_i32_401_r0
  let c6144_i32_402_r0 : BitVec 32 := 6144#32
  let v553_r0 : BitVec 32 := Scalar.muli v552_r0 c6144_i32_402_r0
  let v554_r0 : BitVec 32 := Scalar.addi v551_r0 v553_r0
  let v555_r0 : BitVec 32 := v554_r0
  ![0, v555_r0.toNat]
def k0_mult2 (k0_t1 : Fin k0_t1_loop.trips) : BitVec 32 :=
  let c2_i32_397_r0 : BitVec 32 := 2#32
  let c0_i32_68_r0 : BitVec 32 := 0#32
  let c1_i32_70_r0 : BitVec 32 := 1#32
  let arg17_r0 : BitVec 32 := Scf.iv c0_i32_68_r0 c1_i32_70_r0 k0_t1
  let v547_r0 : BitVec 32 := Scalar.muli c2_i32_397_r0 arg17_r0
  let c1_i32_406_r0 : BitVec 32 := 1#32
  let v561_r0 : BitVec 32 := Scalar.addi v547_r0 c1_i32_406_r0
  let c1_i32_409_r0 : BitVec 32 := 1#32
  let v564_r0 : BitVec 32 := Scalar.shrsi v561_r0 c1_i32_409_r0
  let c768_i32_410_r0 : BitVec 32 := 768#32
  let v565_r0 : BitVec 32 := Scalar.muli v564_r0 c768_i32_410_r0
  let c1_i32_411_r0 : BitVec 32 := 1#32
  let v566_r0 : BitVec 32 := Scalar.andi v561_r0 c1_i32_411_r0
  let c6144_i32_412_r0 : BitVec 32 := 6144#32
  let v567_r0 : BitVec 32 := Scalar.muli v566_r0 c6144_i32_412_r0
  let v568_r0 : BitVec 32 := Scalar.addi v565_r0 v567_r0
  v568_r0
def k0_off4 (k0_t1 : Fin k0_t1_loop.trips) : Fin 1 → Nat :=
  let c2_i32_397_r0 : BitVec 32 := 2#32
  let c0_i32_68_r0 : BitVec 32 := 0#32
  let c1_i32_70_r0 : BitVec 32 := 1#32
  let arg17_r0 : BitVec 32 := Scf.iv c0_i32_68_r0 c1_i32_70_r0 k0_t1
  let v547_r0 : BitVec 32 := Scalar.muli c2_i32_397_r0 arg17_r0
  let c1_i32_406_r0 : BitVec 32 := 1#32
  let v561_r0 : BitVec 32 := Scalar.addi v547_r0 c1_i32_406_r0
  let c8_i32_407_r0 : BitVec 32 := 8#32
  let v562_r0 : BitVec 32 := Scalar.addi v561_r0 c8_i32_407_r0
  let c10_i32_408_r0 : BitVec 32 := 10#32
  let v563_r0 : BitVec 32 := Scalar.remsi v562_r0 c10_i32_408_r0
  ![v563_r0.toNat]
def k0_off5 (k0_t1 : Fin k0_t1_loop.trips) : Fin 3 → Nat :=
  let c2_i32_397_r0 : BitVec 32 := 2#32
  let c0_i32_68_r0 : BitVec 32 := 0#32
  let c1_i32_70_r0 : BitVec 32 := 1#32
  let arg17_r0 : BitVec 32 := Scf.iv c0_i32_68_r0 c1_i32_70_r0 k0_t1
  let v547_r0 : BitVec 32 := Scalar.muli c2_i32_397_r0 arg17_r0
  let c1_i32_406_r0 : BitVec 32 := 1#32
  let v561_r0 : BitVec 32 := Scalar.addi v547_r0 c1_i32_406_r0
  let c8_i32_407_r0 : BitVec 32 := 8#32
  let v562_r0 : BitVec 32 := Scalar.addi v561_r0 c8_i32_407_r0
  let c10_i32_408_r0 : BitVec 32 := 10#32
  let v563_r0 : BitVec 32 := Scalar.remsi v562_r0 c10_i32_408_r0
  let c0_i32_413_r0 : BitVec 32 := 0#32
  let c0_i32_414_r0 : BitVec 32 := 0#32
  ![v563_r0.toNat, 0, 0]
def k0_off6 (k0_t1 : Fin k0_t1_loop.trips) : Fin 2 → Nat :=
  let c0_i32_415_r0 : BitVec 32 := 0#32
  let c2_i32_397_r0 : BitVec 32 := 2#32
  let c0_i32_68_r0 : BitVec 32 := 0#32
  let c1_i32_70_r0 : BitVec 32 := 1#32
  let arg17_r0 : BitVec 32 := Scf.iv c0_i32_68_r0 c1_i32_70_r0 k0_t1
  let v547_r0 : BitVec 32 := Scalar.muli c2_i32_397_r0 arg17_r0
  let c1_i32_406_r0 : BitVec 32 := 1#32
  let v561_r0 : BitVec 32 := Scalar.addi v547_r0 c1_i32_406_r0
  let c1_i32_409_r0 : BitVec 32 := 1#32
  let v564_r0 : BitVec 32 := Scalar.shrsi v561_r0 c1_i32_409_r0
  let c768_i32_410_r0 : BitVec 32 := 768#32
  let v565_r0 : BitVec 32 := Scalar.muli v564_r0 c768_i32_410_r0
  let c1_i32_411_r0 : BitVec 32 := 1#32
  let v566_r0 : BitVec 32 := Scalar.andi v561_r0 c1_i32_411_r0
  let c6144_i32_412_r0 : BitVec 32 := 6144#32
  let v567_r0 : BitVec 32 := Scalar.muli v566_r0 c6144_i32_412_r0
  let v568_r0 : BitVec 32 := Scalar.addi v565_r0 v567_r0
  let v569_r0 : BitVec 32 := v568_r0
  ![0, v569_r0.toNat]
def k0_mult3 (k0_t1 : Fin k0_t1_loop.trips) : BitVec 32 :=
  let c0_i32_68_r0 : BitVec 32 := 0#32
  let c1_i32_70_r0 : BitVec 32 := 1#32
  let arg17_r0 : BitVec 32 := Scf.iv c0_i32_68_r0 c1_i32_70_r0 k0_t1
  let c768_i32_418_r0 : BitVec 32 := 768#32
  let v577_r0 : BitVec 32 := Scalar.muli arg17_r0 c768_i32_418_r0
  v577_r0
def k0_off7 (k0_t1 : Fin k0_t1_loop.trips) : Fin 3 → Nat :=
  let c2_i32_397_r0 : BitVec 32 := 2#32
  let c0_i32_68_r0 : BitVec 32 := 0#32
  let c1_i32_70_r0 : BitVec 32 := 1#32
  let arg17_r0 : BitVec 32 := Scf.iv c0_i32_68_r0 c1_i32_70_r0 k0_t1
  let v547_r0 : BitVec 32 := Scalar.muli c2_i32_397_r0 arg17_r0
  let c8_i32_416_r0 : BitVec 32 := 8#32
  let v575_r0 : BitVec 32 := Scalar.addi v547_r0 c8_i32_416_r0
  let c10_i32_417_r0 : BitVec 32 := 10#32
  let v576_r0 : BitVec 32 := Scalar.remsi v575_r0 c10_i32_417_r0
  let v583_r0 : Index := Scalar.indexCast v576_r0
  let c0_423_r0 : Index := 0#32
  let c0_424_r0 : Index := 0#32
  ![v583_r0.toNat, 0, 0]
def k0_off8 (k0_t1 : Fin k0_t1_loop.trips) : Fin 2 → Nat :=
  let c0_426_r0 : Index := 0#32
  let c0_i32_68_r0 : BitVec 32 := 0#32
  let c1_i32_70_r0 : BitVec 32 := 1#32
  let arg17_r0 : BitVec 32 := Scf.iv c0_i32_68_r0 c1_i32_70_r0 k0_t1
  let c768_i32_418_r0 : BitVec 32 := 768#32
  let v577_r0 : BitVec 32 := Scalar.muli arg17_r0 c768_i32_418_r0
  let v578_r0 : BitVec 32 := v577_r0
  let v588_r0 : Index := Scalar.indexCast v578_r0
  ![0, v588_r0.toNat]
def k0_off9 (k0_t1 : Fin k0_t1_loop.trips) : Fin 3 → Nat :=
  let c2_i32_397_r0 : BitVec 32 := 2#32
  let c0_i32_68_r0 : BitVec 32 := 0#32
  let c1_i32_70_r0 : BitVec 32 := 1#32
  let arg17_r0 : BitVec 32 := Scf.iv c0_i32_68_r0 c1_i32_70_r0 k0_t1
  let v547_r0 : BitVec 32 := Scalar.muli c2_i32_397_r0 arg17_r0
  let c8_i32_416_r0 : BitVec 32 := 8#32
  let v575_r0 : BitVec 32 := Scalar.addi v547_r0 c8_i32_416_r0
  let c10_i32_417_r0 : BitVec 32 := 10#32
  let v576_r0 : BitVec 32 := Scalar.remsi v575_r0 c10_i32_417_r0
  let c1_i32_429_r0 : BitVec 32 := 1#32
  let v595_r0 : BitVec 32 := Scalar.addi v576_r0 c1_i32_429_r0
  let v596_r0 : Index := Scalar.indexCast v595_r0
  let c0_430_r0 : Index := 0#32
  let c0_431_r0 : Index := 0#32
  ![v596_r0.toNat, 0, 0]
def k0_off10 (k0_t1 : Fin k0_t1_loop.trips) : Fin 2 → Nat :=
  let c0_434_r0 : Index := 0#32
  let c6144_i32_433_r0 : BitVec 32 := 6144#32
  let c0_i32_68_r0 : BitVec 32 := 0#32
  let c1_i32_70_r0 : BitVec 32 := 1#32
  let arg17_r0 : BitVec 32 := Scf.iv c0_i32_68_r0 c1_i32_70_r0 k0_t1
  let c768_i32_418_r0 : BitVec 32 := 768#32
  let v577_r0 : BitVec 32 := Scalar.muli arg17_r0 c768_i32_418_r0
  let v578_r0 : BitVec 32 := v577_r0
  let v601_r0 : BitVec 32 := Scalar.addi c6144_i32_433_r0 v578_r0
  let v602_r0 : Index := Scalar.indexCast v601_r0
  ![0, v602_r0.toNat]
def k0_off11 (k0_t1 : Fin k0_t1_loop.trips) : Fin 2 → Nat :=
  let c0_435_r0 : Index := 0#32
  let c0_i32_68_r0 : BitVec 32 := 0#32
  let c1_i32_70_r0 : BitVec 32 := 1#32
  let arg17_r0 : BitVec 32 := Scf.iv c0_i32_68_r0 c1_i32_70_r0 k0_t1
  let c768_i32_418_r0 : BitVec 32 := 768#32
  let v577_r0 : BitVec 32 := Scalar.muli arg17_r0 c768_i32_418_r0
  let v578_r0 : BitVec 32 := v577_r0
  let v610_r0 : Index := Scalar.indexCast v578_r0
  ![0, v610_r0.toNat]
def k0_cond1 (k0_t1 : Fin k0_t1_loop.trips) : BitVec 1 :=
  let c2_i32_397_r0 : BitVec 32 := 2#32
  let c0_i32_68_r0 : BitVec 32 := 0#32
  let c1_i32_70_r0 : BitVec 32 := 1#32
  let arg17_r0 : BitVec 32 := Scf.iv c0_i32_68_r0 c1_i32_70_r0 k0_t1
  let v547_r0 : BitVec 32 := Scalar.muli c2_i32_397_r0 arg17_r0
  let c10_i32_440_r0 : BitVec 32 := 10#32
  let v636_r0 : BitVec 32 := Scalar.addi v547_r0 c10_i32_440_r0
  let c16_i32_441_r0 : BitVec 32 := 16#32
  let v637_r0 : BitVec 1 := Scalar.cmpi .slt v636_r0 c16_i32_441_r0
  let v638_r0 : BitVec 32 := Scalar.extui v637_r0
  let c0_i32_442_r0 : BitVec 32 := 0#32
  let v639_r0 : BitVec 1 := Scalar.cmpi .ne v638_r0 c0_i32_442_r0
  v639_r0

def k0_mult4 (k0_t1 : Fin k0_t1_loop.trips) : BitVec 32 :=
  let c2_i32_397_r0 : BitVec 32 := 2#32
  let c0_i32_68_r0 : BitVec 32 := 0#32
  let c1_i32_70_r0 : BitVec 32 := 1#32
  let arg17_r0 : BitVec 32 := Scf.iv c0_i32_68_r0 c1_i32_70_r0 k0_t1
  let v547_r0 : BitVec 32 := Scalar.muli c2_i32_397_r0 arg17_r0
  let c10_i32_444_r0 : BitVec 32 := 10#32
  let v640_r0 : BitVec 32 := Scalar.addi v547_r0 c10_i32_444_r0
  let c1_i32_447_r0 : BitVec 32 := 1#32
  let v643_r0 : BitVec 32 := Scalar.shrsi v640_r0 c1_i32_447_r0
  let c768_i32_448_r0 : BitVec 32 := 768#32
  let v644_r0 : BitVec 32 := Scalar.muli v643_r0 c768_i32_448_r0
  let c1_i32_449_r0 : BitVec 32 := 1#32
  let v645_r0 : BitVec 32 := Scalar.andi v640_r0 c1_i32_449_r0
  let c6144_i32_450_r0 : BitVec 32 := 6144#32
  let v646_r0 : BitVec 32 := Scalar.muli v645_r0 c6144_i32_450_r0
  let v647_r0 : BitVec 32 := Scalar.addi v644_r0 v646_r0
  v647_r0
def k0_off12 (k0_t1 : Fin k0_t1_loop.trips) : Fin 1 → Nat :=
  let c2_i32_397_r0 : BitVec 32 := 2#32
  let c0_i32_68_r0 : BitVec 32 := 0#32
  let c1_i32_70_r0 : BitVec 32 := 1#32
  let arg17_r0 : BitVec 32 := Scf.iv c0_i32_68_r0 c1_i32_70_r0 k0_t1
  let v547_r0 : BitVec 32 := Scalar.muli c2_i32_397_r0 arg17_r0
  let c10_i32_444_r0 : BitVec 32 := 10#32
  let v640_r0 : BitVec 32 := Scalar.addi v547_r0 c10_i32_444_r0
  let c8_i32_445_r0 : BitVec 32 := 8#32
  let v641_r0 : BitVec 32 := Scalar.addi v640_r0 c8_i32_445_r0
  let c10_i32_446_r0 : BitVec 32 := 10#32
  let v642_r0 : BitVec 32 := Scalar.remsi v641_r0 c10_i32_446_r0
  ![v642_r0.toNat]
def k0_off13 (k0_t1 : Fin k0_t1_loop.trips) : Fin 3 → Nat :=
  let c2_i32_397_r0 : BitVec 32 := 2#32
  let c0_i32_68_r0 : BitVec 32 := 0#32
  let c1_i32_70_r0 : BitVec 32 := 1#32
  let arg17_r0 : BitVec 32 := Scf.iv c0_i32_68_r0 c1_i32_70_r0 k0_t1
  let v547_r0 : BitVec 32 := Scalar.muli c2_i32_397_r0 arg17_r0
  let c10_i32_444_r0 : BitVec 32 := 10#32
  let v640_r0 : BitVec 32 := Scalar.addi v547_r0 c10_i32_444_r0
  let c8_i32_445_r0 : BitVec 32 := 8#32
  let v641_r0 : BitVec 32 := Scalar.addi v640_r0 c8_i32_445_r0
  let c10_i32_446_r0 : BitVec 32 := 10#32
  let v642_r0 : BitVec 32 := Scalar.remsi v641_r0 c10_i32_446_r0
  let c0_i32_451_r0 : BitVec 32 := 0#32
  let c0_i32_452_r0 : BitVec 32 := 0#32
  ![v642_r0.toNat, 0, 0]
def k0_off14 (k0_t1 : Fin k0_t1_loop.trips) : Fin 2 → Nat :=
  let c0_i32_453_r0 : BitVec 32 := 0#32
  let c2_i32_397_r0 : BitVec 32 := 2#32
  let c0_i32_68_r0 : BitVec 32 := 0#32
  let c1_i32_70_r0 : BitVec 32 := 1#32
  let arg17_r0 : BitVec 32 := Scf.iv c0_i32_68_r0 c1_i32_70_r0 k0_t1
  let v547_r0 : BitVec 32 := Scalar.muli c2_i32_397_r0 arg17_r0
  let c10_i32_444_r0 : BitVec 32 := 10#32
  let v640_r0 : BitVec 32 := Scalar.addi v547_r0 c10_i32_444_r0
  let c1_i32_447_r0 : BitVec 32 := 1#32
  let v643_r0 : BitVec 32 := Scalar.shrsi v640_r0 c1_i32_447_r0
  let c768_i32_448_r0 : BitVec 32 := 768#32
  let v644_r0 : BitVec 32 := Scalar.muli v643_r0 c768_i32_448_r0
  let c1_i32_449_r0 : BitVec 32 := 1#32
  let v645_r0 : BitVec 32 := Scalar.andi v640_r0 c1_i32_449_r0
  let c6144_i32_450_r0 : BitVec 32 := 6144#32
  let v646_r0 : BitVec 32 := Scalar.muli v645_r0 c6144_i32_450_r0
  let v647_r0 : BitVec 32 := Scalar.addi v644_r0 v646_r0
  let v648_r0 : BitVec 32 := v647_r0
  ![0, v648_r0.toNat]
def k0_mult5 (k0_t1 : Fin k0_t1_loop.trips) : BitVec 32 :=
  let c2_i32_397_r0 : BitVec 32 := 2#32
  let c0_i32_68_r0 : BitVec 32 := 0#32
  let c1_i32_70_r0 : BitVec 32 := 1#32
  let arg17_r0 : BitVec 32 := Scf.iv c0_i32_68_r0 c1_i32_70_r0 k0_t1
  let v547_r0 : BitVec 32 := Scalar.muli c2_i32_397_r0 arg17_r0
  let c1_i32_454_r0 : BitVec 32 := 1#32
  let v654_r0 : BitVec 32 := Scalar.addi v547_r0 c1_i32_454_r0
  let c10_i32_455_r0 : BitVec 32 := 10#32
  let v655_r0 : BitVec 32 := Scalar.addi v654_r0 c10_i32_455_r0
  let c1_i32_458_r0 : BitVec 32 := 1#32
  let v658_r0 : BitVec 32 := Scalar.shrsi v655_r0 c1_i32_458_r0
  let c768_i32_459_r0 : BitVec 32 := 768#32
  let v659_r0 : BitVec 32 := Scalar.muli v658_r0 c768_i32_459_r0
  let c1_i32_460_r0 : BitVec 32 := 1#32
  let v660_r0 : BitVec 32 := Scalar.andi v655_r0 c1_i32_460_r0
  let c6144_i32_461_r0 : BitVec 32 := 6144#32
  let v661_r0 : BitVec 32 := Scalar.muli v660_r0 c6144_i32_461_r0
  let v662_r0 : BitVec 32 := Scalar.addi v659_r0 v661_r0
  v662_r0
def k0_off15 (k0_t1 : Fin k0_t1_loop.trips) : Fin 1 → Nat :=
  let c2_i32_397_r0 : BitVec 32 := 2#32
  let c0_i32_68_r0 : BitVec 32 := 0#32
  let c1_i32_70_r0 : BitVec 32 := 1#32
  let arg17_r0 : BitVec 32 := Scf.iv c0_i32_68_r0 c1_i32_70_r0 k0_t1
  let v547_r0 : BitVec 32 := Scalar.muli c2_i32_397_r0 arg17_r0
  let c1_i32_454_r0 : BitVec 32 := 1#32
  let v654_r0 : BitVec 32 := Scalar.addi v547_r0 c1_i32_454_r0
  let c10_i32_455_r0 : BitVec 32 := 10#32
  let v655_r0 : BitVec 32 := Scalar.addi v654_r0 c10_i32_455_r0
  let c8_i32_456_r0 : BitVec 32 := 8#32
  let v656_r0 : BitVec 32 := Scalar.addi v655_r0 c8_i32_456_r0
  let c10_i32_457_r0 : BitVec 32 := 10#32
  let v657_r0 : BitVec 32 := Scalar.remsi v656_r0 c10_i32_457_r0
  ![v657_r0.toNat]
def k0_off16 (k0_t1 : Fin k0_t1_loop.trips) : Fin 3 → Nat :=
  let c2_i32_397_r0 : BitVec 32 := 2#32
  let c0_i32_68_r0 : BitVec 32 := 0#32
  let c1_i32_70_r0 : BitVec 32 := 1#32
  let arg17_r0 : BitVec 32 := Scf.iv c0_i32_68_r0 c1_i32_70_r0 k0_t1
  let v547_r0 : BitVec 32 := Scalar.muli c2_i32_397_r0 arg17_r0
  let c1_i32_454_r0 : BitVec 32 := 1#32
  let v654_r0 : BitVec 32 := Scalar.addi v547_r0 c1_i32_454_r0
  let c10_i32_455_r0 : BitVec 32 := 10#32
  let v655_r0 : BitVec 32 := Scalar.addi v654_r0 c10_i32_455_r0
  let c8_i32_456_r0 : BitVec 32 := 8#32
  let v656_r0 : BitVec 32 := Scalar.addi v655_r0 c8_i32_456_r0
  let c10_i32_457_r0 : BitVec 32 := 10#32
  let v657_r0 : BitVec 32 := Scalar.remsi v656_r0 c10_i32_457_r0
  let c0_i32_462_r0 : BitVec 32 := 0#32
  let c0_i32_463_r0 : BitVec 32 := 0#32
  ![v657_r0.toNat, 0, 0]
def k0_off17 (k0_t1 : Fin k0_t1_loop.trips) : Fin 2 → Nat :=
  let c0_i32_464_r0 : BitVec 32 := 0#32
  let c2_i32_397_r0 : BitVec 32 := 2#32
  let c0_i32_68_r0 : BitVec 32 := 0#32
  let c1_i32_70_r0 : BitVec 32 := 1#32
  let arg17_r0 : BitVec 32 := Scf.iv c0_i32_68_r0 c1_i32_70_r0 k0_t1
  let v547_r0 : BitVec 32 := Scalar.muli c2_i32_397_r0 arg17_r0
  let c1_i32_454_r0 : BitVec 32 := 1#32
  let v654_r0 : BitVec 32 := Scalar.addi v547_r0 c1_i32_454_r0
  let c10_i32_455_r0 : BitVec 32 := 10#32
  let v655_r0 : BitVec 32 := Scalar.addi v654_r0 c10_i32_455_r0
  let c1_i32_458_r0 : BitVec 32 := 1#32
  let v658_r0 : BitVec 32 := Scalar.shrsi v655_r0 c1_i32_458_r0
  let c768_i32_459_r0 : BitVec 32 := 768#32
  let v659_r0 : BitVec 32 := Scalar.muli v658_r0 c768_i32_459_r0
  let c1_i32_460_r0 : BitVec 32 := 1#32
  let v660_r0 : BitVec 32 := Scalar.andi v655_r0 c1_i32_460_r0
  let c6144_i32_461_r0 : BitVec 32 := 6144#32
  let v661_r0 : BitVec 32 := Scalar.muli v660_r0 c6144_i32_461_r0
  let v662_r0 : BitVec 32 := Scalar.addi v659_r0 v661_r0
  let v663_r0 : BitVec 32 := v662_r0
  ![0, v663_r0.toNat]
@[reducible] def k0_t2_loop : Scf.Loop 32 :=
  let c0_i32_73_r0 : BitVec 32 := 0#32
  let c9_i32_74_r0 : BitVec 32 := 9#32
  let v76_r0 : BitVec 32 := Scalar.addi c0_i32_73_r0 c9_i32_74_r0
  let c1_i32_75_r0 : BitVec 32 := 1#32
  ⟨c0_i32_73_r0, v76_r0, c1_i32_75_r0⟩
def k0_mult6 (k0_t2 : Fin k0_t2_loop.trips) : BitVec 32 :=
  let c0_i32_73_r0 : BitVec 32 := 0#32
  let c1_i32_75_r0 : BitVec 32 := 1#32
  let arg17_r0 : BitVec 32 := Scf.iv c0_i32_73_r0 c1_i32_75_r0 k0_t2
  let c32_i32_r0 : BitVec 32 := 32#32
  let v547_r0 : BitVec 32 := Scalar.muli arg17_r0 c32_i32_r0
  v547_r0
def k0_off18 (k0_t2 : Fin k0_t2_loop.trips) : Fin 2 → Nat :=
  let c0_i32_73_r0 : BitVec 32 := 0#32
  let c1_i32_75_r0 : BitVec 32 := 1#32
  let arg17_r0 : BitVec 32 := Scf.iv c0_i32_73_r0 c1_i32_75_r0 k0_t2
  let c32_i32_r0 : BitVec 32 := 32#32
  let v547_r0 : BitVec 32 := Scalar.muli arg17_r0 c32_i32_r0
  let v548_r0 : BitVec 32 := v547_r0
  let v549_r0 : Index := Scalar.indexCast v548_r0
  let c0_397_r0 : Index := 0#32
  ![v549_r0.toNat, 0]
def k0_off19 (k0_t2 : Fin k0_t2_loop.trips) : Fin 2 → Nat :=
  let c0_i32_73_r0 : BitVec 32 := 0#32
  let c1_i32_75_r0 : BitVec 32 := 1#32
  let arg17_r0 : BitVec 32 := Scf.iv c0_i32_73_r0 c1_i32_75_r0 k0_t2
  let c32_i32_r0 : BitVec 32 := 32#32
  let v547_r0 : BitVec 32 := Scalar.muli arg17_r0 c32_i32_r0
  let v548_r0 : BitVec 32 := v547_r0
  let v565_r0 : Index := Scalar.indexCast v548_r0
  let c0_403_r0 : Index := 0#32
  ![v565_r0.toNat, 0]
def k0_off20 (k0_t2 : Fin k0_t2_loop.trips) : Fin 2 → Nat :=
  let c0_i32_73_r0 : BitVec 32 := 0#32
  let c1_i32_75_r0 : BitVec 32 := 1#32
  let arg17_r0 : BitVec 32 := Scf.iv c0_i32_73_r0 c1_i32_75_r0 k0_t2
  let c32_i32_r0 : BitVec 32 := 32#32
  let v547_r0 : BitVec 32 := Scalar.muli arg17_r0 c32_i32_r0
  let v548_r0 : BitVec 32 := v547_r0
  let v577_r0 : Index := Scalar.indexCast v548_r0
  let c128_407_r0 : Index := 128#32
  ![v577_r0.toNat, 128]
def k0_off21 (k0_t2 : Fin k0_t2_loop.trips) : Fin 2 → Nat :=
  let c0_i32_73_r0 : BitVec 32 := 0#32
  let c1_i32_75_r0 : BitVec 32 := 1#32
  let arg17_r0 : BitVec 32 := Scf.iv c0_i32_73_r0 c1_i32_75_r0 k0_t2
  let c32_i32_r0 : BitVec 32 := 32#32
  let v547_r0 : BitVec 32 := Scalar.muli arg17_r0 c32_i32_r0
  let v548_r0 : BitVec 32 := v547_r0
  let v589_r0 : Index := Scalar.indexCast v548_r0
  let c256_411_r0 : Index := 256#32
  ![v589_r0.toNat, 256]
def k0_off22 (k0_t2 : Fin k0_t2_loop.trips) : Fin 2 → Nat :=
  let c0_i32_73_r0 : BitVec 32 := 0#32
  let c1_i32_75_r0 : BitVec 32 := 1#32
  let arg17_r0 : BitVec 32 := Scf.iv c0_i32_73_r0 c1_i32_75_r0 k0_t2
  let c32_i32_r0 : BitVec 32 := 32#32
  let v547_r0 : BitVec 32 := Scalar.muli arg17_r0 c32_i32_r0
  let v548_r0 : BitVec 32 := v547_r0
  let v601_r0 : Index := Scalar.indexCast v548_r0
  let c384_r0 : Index := 384#32
  ![v601_r0.toNat, 384]
def k0_off23 (k0_t2 : Fin k0_t2_loop.trips) : Fin 2 → Nat :=
  let c0_i32_73_r0 : BitVec 32 := 0#32
  let c1_i32_75_r0 : BitVec 32 := 1#32
  let arg17_r0 : BitVec 32 := Scf.iv c0_i32_73_r0 c1_i32_75_r0 k0_t2
  let c32_i32_r0 : BitVec 32 := 32#32
  let v547_r0 : BitVec 32 := Scalar.muli arg17_r0 c32_i32_r0
  let v548_r0 : BitVec 32 := v547_r0
  let v613_r0 : Index := Scalar.indexCast v548_r0
  let c512_r0 : Index := 512#32
  ![v613_r0.toNat, 512]
def k0_off24 (k0_t2 : Fin k0_t2_loop.trips) : Fin 2 → Nat :=
  let c0_i32_73_r0 : BitVec 32 := 0#32
  let c1_i32_75_r0 : BitVec 32 := 1#32
  let arg17_r0 : BitVec 32 := Scf.iv c0_i32_73_r0 c1_i32_75_r0 k0_t2
  let c32_i32_r0 : BitVec 32 := 32#32
  let v547_r0 : BitVec 32 := Scalar.muli arg17_r0 c32_i32_r0
  let v548_r0 : BitVec 32 := v547_r0
  let v625_r0 : Index := Scalar.indexCast v548_r0
  let c640_r0 : Index := 640#32
  ![v625_r0.toNat, 640]
def k0_off25 (k0_t2 : Fin k0_t2_loop.trips) : Fin 2 → Nat :=
  let c0_i32_73_r0 : BitVec 32 := 0#32
  let c1_i32_75_r0 : BitVec 32 := 1#32
  let arg17_r0 : BitVec 32 := Scf.iv c0_i32_73_r0 c1_i32_75_r0 k0_t2
  let c32_i32_r0 : BitVec 32 := 32#32
  let v547_r0 : BitVec 32 := Scalar.muli arg17_r0 c32_i32_r0
  let v548_r0 : BitVec 32 := v547_r0
  let v637_r0 : Index := Scalar.indexCast v548_r0
  let c768_424_r0 : Index := 768#32
  ![v637_r0.toNat, 768]
def k0_off26 (k0_t2 : Fin k0_t2_loop.trips) : Fin 2 → Nat :=
  let c0_i32_73_r0 : BitVec 32 := 0#32
  let c1_i32_75_r0 : BitVec 32 := 1#32
  let arg17_r0 : BitVec 32 := Scf.iv c0_i32_73_r0 c1_i32_75_r0 k0_t2
  let c32_i32_r0 : BitVec 32 := 32#32
  let v547_r0 : BitVec 32 := Scalar.muli arg17_r0 c32_i32_r0
  let v548_r0 : BitVec 32 := v547_r0
  let v649_r0 : Index := Scalar.indexCast v548_r0
  let c896_r0 : Index := 896#32
  ![v649_r0.toNat, 896]
def k0_off27 (k0_t2 : Fin k0_t2_loop.trips) : Fin 2 → Nat :=
  let c0_i32_73_r0 : BitVec 32 := 0#32
  let c1_i32_75_r0 : BitVec 32 := 1#32
  let arg17_r0 : BitVec 32 := Scf.iv c0_i32_73_r0 c1_i32_75_r0 k0_t2
  let c32_i32_r0 : BitVec 32 := 32#32
  let v547_r0 : BitVec 32 := Scalar.muli arg17_r0 c32_i32_r0
  let v548_r0 : BitVec 32 := v547_r0
  let v661_r0 : Index := Scalar.indexCast v548_r0
  let c1024_r0 : Index := 1024#32
  ![v661_r0.toNat, 1024]
def k0_off28 (k0_t2 : Fin k0_t2_loop.trips) : Fin 2 → Nat :=
  let c0_i32_73_r0 : BitVec 32 := 0#32
  let c1_i32_75_r0 : BitVec 32 := 1#32
  let arg17_r0 : BitVec 32 := Scf.iv c0_i32_73_r0 c1_i32_75_r0 k0_t2
  let c32_i32_r0 : BitVec 32 := 32#32
  let v547_r0 : BitVec 32 := Scalar.muli arg17_r0 c32_i32_r0
  let v548_r0 : BitVec 32 := v547_r0
  let v673_r0 : Index := Scalar.indexCast v548_r0
  let c1152_r0 : Index := 1152#32
  ![v673_r0.toNat, 1152]
def k0_off29 (k0_t2 : Fin k0_t2_loop.trips) : Fin 2 → Nat :=
  let c0_i32_73_r0 : BitVec 32 := 0#32
  let c1_i32_75_r0 : BitVec 32 := 1#32
  let arg17_r0 : BitVec 32 := Scf.iv c0_i32_73_r0 c1_i32_75_r0 k0_t2
  let c32_i32_r0 : BitVec 32 := 32#32
  let v547_r0 : BitVec 32 := Scalar.muli arg17_r0 c32_i32_r0
  let v548_r0 : BitVec 32 := v547_r0
  let v685_r0 : Index := Scalar.indexCast v548_r0
  let c1280_r0 : Index := 1280#32
  ![v685_r0.toNat, 1280]
def k0_off30 (k0_t2 : Fin k0_t2_loop.trips) : Fin 2 → Nat :=
  let c0_i32_73_r0 : BitVec 32 := 0#32
  let c1_i32_75_r0 : BitVec 32 := 1#32
  let arg17_r0 : BitVec 32 := Scf.iv c0_i32_73_r0 c1_i32_75_r0 k0_t2
  let c32_i32_r0 : BitVec 32 := 32#32
  let v547_r0 : BitVec 32 := Scalar.muli arg17_r0 c32_i32_r0
  let v548_r0 : BitVec 32 := v547_r0
  let v697_r0 : Index := Scalar.indexCast v548_r0
  let c1408_r0 : Index := 1408#32
  ![v697_r0.toNat, 1408]
def k0_off31 (k0_t2 : Fin k0_t2_loop.trips) : Fin 2 → Nat :=
  let c0_i32_73_r0 : BitVec 32 := 0#32
  let c1_i32_75_r0 : BitVec 32 := 1#32
  let arg17_r0 : BitVec 32 := Scf.iv c0_i32_73_r0 c1_i32_75_r0 k0_t2
  let c32_i32_r0 : BitVec 32 := 32#32
  let v547_r0 : BitVec 32 := Scalar.muli arg17_r0 c32_i32_r0
  let v548_r0 : BitVec 32 := v547_r0
  let v709_r0 : Index := Scalar.indexCast v548_r0
  let c1536_443_r0 : Index := 1536#32
  ![v709_r0.toNat, 1536]
def k0_off32 (k0_t2 : Fin k0_t2_loop.trips) : Fin 2 → Nat :=
  let c0_i32_73_r0 : BitVec 32 := 0#32
  let c1_i32_75_r0 : BitVec 32 := 1#32
  let arg17_r0 : BitVec 32 := Scf.iv c0_i32_73_r0 c1_i32_75_r0 k0_t2
  let c32_i32_r0 : BitVec 32 := 32#32
  let v547_r0 : BitVec 32 := Scalar.muli arg17_r0 c32_i32_r0
  let v548_r0 : BitVec 32 := v547_r0
  let v721_r0 : Index := Scalar.indexCast v548_r0
  let c1664_r0 : Index := 1664#32
  ![v721_r0.toNat, 1664]
def k0_off33 (k0_t2 : Fin k0_t2_loop.trips) : Fin 2 → Nat :=
  let c0_i32_73_r0 : BitVec 32 := 0#32
  let c1_i32_75_r0 : BitVec 32 := 1#32
  let arg17_r0 : BitVec 32 := Scf.iv c0_i32_73_r0 c1_i32_75_r0 k0_t2
  let c32_i32_r0 : BitVec 32 := 32#32
  let v547_r0 : BitVec 32 := Scalar.muli arg17_r0 c32_i32_r0
  let v548_r0 : BitVec 32 := v547_r0
  let v733_r0 : Index := Scalar.indexCast v548_r0
  let c1792_r0 : Index := 1792#32
  ![v733_r0.toNat, 1792]
def k0_off34 (k0_t2 : Fin k0_t2_loop.trips) : Fin 2 → Nat :=
  let c0_i32_73_r0 : BitVec 32 := 0#32
  let c1_i32_75_r0 : BitVec 32 := 1#32
  let arg17_r0 : BitVec 32 := Scf.iv c0_i32_73_r0 c1_i32_75_r0 k0_t2
  let c32_i32_r0 : BitVec 32 := 32#32
  let v547_r0 : BitVec 32 := Scalar.muli arg17_r0 c32_i32_r0
  let v548_r0 : BitVec 32 := v547_r0
  let v745_r0 : Index := Scalar.indexCast v548_r0
  let c1920_r0 : Index := 1920#32
  ![v745_r0.toNat, 1920]
def k0_off35 (k0_t2 : Fin k0_t2_loop.trips) : Fin 2 → Nat :=
  let c0_i32_73_r0 : BitVec 32 := 0#32
  let c1_i32_75_r0 : BitVec 32 := 1#32
  let arg17_r0 : BitVec 32 := Scf.iv c0_i32_73_r0 c1_i32_75_r0 k0_t2
  let c32_i32_r0 : BitVec 32 := 32#32
  let v547_r0 : BitVec 32 := Scalar.muli arg17_r0 c32_i32_r0
  let v548_r0 : BitVec 32 := v547_r0
  let v757_r0 : Index := Scalar.indexCast v548_r0
  let c2048_r0 : Index := 2048#32
  ![v757_r0.toNat, 2048]
def k0_off36 (k0_t2 : Fin k0_t2_loop.trips) : Fin 2 → Nat :=
  let c0_i32_73_r0 : BitVec 32 := 0#32
  let c1_i32_75_r0 : BitVec 32 := 1#32
  let arg17_r0 : BitVec 32 := Scf.iv c0_i32_73_r0 c1_i32_75_r0 k0_t2
  let c32_i32_r0 : BitVec 32 := 32#32
  let v547_r0 : BitVec 32 := Scalar.muli arg17_r0 c32_i32_r0
  let v548_r0 : BitVec 32 := v547_r0
  let v769_r0 : Index := Scalar.indexCast v548_r0
  let c2176_r0 : Index := 2176#32
  ![v769_r0.toNat, 2176]
def k0_off37 (k0_t2 : Fin k0_t2_loop.trips) : Fin 2 → Nat :=
  let c0_i32_73_r0 : BitVec 32 := 0#32
  let c1_i32_75_r0 : BitVec 32 := 1#32
  let arg17_r0 : BitVec 32 := Scf.iv c0_i32_73_r0 c1_i32_75_r0 k0_t2
  let c32_i32_r0 : BitVec 32 := 32#32
  let v547_r0 : BitVec 32 := Scalar.muli arg17_r0 c32_i32_r0
  let v548_r0 : BitVec 32 := v547_r0
  let v781_r0 : Index := Scalar.indexCast v548_r0
  let c2304_r0 : Index := 2304#32
  ![v781_r0.toNat, 2304]
def k0_off38 (k0_t2 : Fin k0_t2_loop.trips) : Fin 2 → Nat :=
  let c0_i32_73_r0 : BitVec 32 := 0#32
  let c1_i32_75_r0 : BitVec 32 := 1#32
  let arg17_r0 : BitVec 32 := Scf.iv c0_i32_73_r0 c1_i32_75_r0 k0_t2
  let c32_i32_r0 : BitVec 32 := 32#32
  let v547_r0 : BitVec 32 := Scalar.muli arg17_r0 c32_i32_r0
  let v548_r0 : BitVec 32 := v547_r0
  let v793_r0 : Index := Scalar.indexCast v548_r0
  let c2432_r0 : Index := 2432#32
  ![v793_r0.toNat, 2432]
def k0_off39 (k0_t2 : Fin k0_t2_loop.trips) : Fin 2 → Nat :=
  let c0_i32_73_r0 : BitVec 32 := 0#32
  let c1_i32_75_r0 : BitVec 32 := 1#32
  let arg17_r0 : BitVec 32 := Scf.iv c0_i32_73_r0 c1_i32_75_r0 k0_t2
  let c32_i32_r0 : BitVec 32 := 32#32
  let v547_r0 : BitVec 32 := Scalar.muli arg17_r0 c32_i32_r0
  let v548_r0 : BitVec 32 := v547_r0
  let v805_r0 : Index := Scalar.indexCast v548_r0
  let c2560_r0 : Index := 2560#32
  ![v805_r0.toNat, 2560]
def k0_off40 (k0_t2 : Fin k0_t2_loop.trips) : Fin 2 → Nat :=
  let c0_i32_73_r0 : BitVec 32 := 0#32
  let c1_i32_75_r0 : BitVec 32 := 1#32
  let arg17_r0 : BitVec 32 := Scf.iv c0_i32_73_r0 c1_i32_75_r0 k0_t2
  let c32_i32_r0 : BitVec 32 := 32#32
  let v547_r0 : BitVec 32 := Scalar.muli arg17_r0 c32_i32_r0
  let v548_r0 : BitVec 32 := v547_r0
  let v817_r0 : Index := Scalar.indexCast v548_r0
  let c2688_r0 : Index := 2688#32
  ![v817_r0.toNat, 2688]
def k0_off41 (k0_t2 : Fin k0_t2_loop.trips) : Fin 2 → Nat :=
  let c0_i32_73_r0 : BitVec 32 := 0#32
  let c1_i32_75_r0 : BitVec 32 := 1#32
  let arg17_r0 : BitVec 32 := Scf.iv c0_i32_73_r0 c1_i32_75_r0 k0_t2
  let c32_i32_r0 : BitVec 32 := 32#32
  let v547_r0 : BitVec 32 := Scalar.muli arg17_r0 c32_i32_r0
  let v548_r0 : BitVec 32 := v547_r0
  let v829_r0 : Index := Scalar.indexCast v548_r0
  let c2816_r0 : Index := 2816#32
  ![v829_r0.toNat, 2816]
def k0_off42 (k0_t2 : Fin k0_t2_loop.trips) : Fin 2 → Nat :=
  let c0_i32_73_r0 : BitVec 32 := 0#32
  let c1_i32_75_r0 : BitVec 32 := 1#32
  let arg17_r0 : BitVec 32 := Scf.iv c0_i32_73_r0 c1_i32_75_r0 k0_t2
  let c32_i32_r0 : BitVec 32 := 32#32
  let v547_r0 : BitVec 32 := Scalar.muli arg17_r0 c32_i32_r0
  let v548_r0 : BitVec 32 := v547_r0
  let v841_r0 : Index := Scalar.indexCast v548_r0
  let c2944_r0 : Index := 2944#32
  ![v841_r0.toNat, 2944]
def k0_off43 (k0_t2 : Fin k0_t2_loop.trips) : Fin 2 → Nat :=
  let c0_i32_73_r0 : BitVec 32 := 0#32
  let c1_i32_75_r0 : BitVec 32 := 1#32
  let arg17_r0 : BitVec 32 := Scf.iv c0_i32_73_r0 c1_i32_75_r0 k0_t2
  let c32_i32_r0 : BitVec 32 := 32#32
  let v547_r0 : BitVec 32 := Scalar.muli arg17_r0 c32_i32_r0
  let v548_r0 : BitVec 32 := v547_r0
  let v853_r0 : Index := Scalar.indexCast v548_r0
  let c3072_r0 : Index := 3072#32
  ![v853_r0.toNat, 3072]
def k0_off44 (k0_t2 : Fin k0_t2_loop.trips) : Fin 2 → Nat :=
  let c0_i32_73_r0 : BitVec 32 := 0#32
  let c1_i32_75_r0 : BitVec 32 := 1#32
  let arg17_r0 : BitVec 32 := Scf.iv c0_i32_73_r0 c1_i32_75_r0 k0_t2
  let c32_i32_r0 : BitVec 32 := 32#32
  let v547_r0 : BitVec 32 := Scalar.muli arg17_r0 c32_i32_r0
  let v548_r0 : BitVec 32 := v547_r0
  let v865_r0 : Index := Scalar.indexCast v548_r0
  let c3200_r0 : Index := 3200#32
  ![v865_r0.toNat, 3200]
def k0_off45 (k0_t2 : Fin k0_t2_loop.trips) : Fin 2 → Nat :=
  let c0_i32_73_r0 : BitVec 32 := 0#32
  let c1_i32_75_r0 : BitVec 32 := 1#32
  let arg17_r0 : BitVec 32 := Scf.iv c0_i32_73_r0 c1_i32_75_r0 k0_t2
  let c32_i32_r0 : BitVec 32 := 32#32
  let v547_r0 : BitVec 32 := Scalar.muli arg17_r0 c32_i32_r0
  let v548_r0 : BitVec 32 := v547_r0
  let v877_r0 : Index := Scalar.indexCast v548_r0
  let c3328_r0 : Index := 3328#32
  ![v877_r0.toNat, 3328]
def k0_off46 (k0_t2 : Fin k0_t2_loop.trips) : Fin 2 → Nat :=
  let c0_i32_73_r0 : BitVec 32 := 0#32
  let c1_i32_75_r0 : BitVec 32 := 1#32
  let arg17_r0 : BitVec 32 := Scf.iv c0_i32_73_r0 c1_i32_75_r0 k0_t2
  let c32_i32_r0 : BitVec 32 := 32#32
  let v547_r0 : BitVec 32 := Scalar.muli arg17_r0 c32_i32_r0
  let v548_r0 : BitVec 32 := v547_r0
  let v889_r0 : Index := Scalar.indexCast v548_r0
  let c3456_r0 : Index := 3456#32
  ![v889_r0.toNat, 3456]
def k0_off47 (k0_t2 : Fin k0_t2_loop.trips) : Fin 2 → Nat :=
  let c0_i32_73_r0 : BitVec 32 := 0#32
  let c1_i32_75_r0 : BitVec 32 := 1#32
  let arg17_r0 : BitVec 32 := Scf.iv c0_i32_73_r0 c1_i32_75_r0 k0_t2
  let c32_i32_r0 : BitVec 32 := 32#32
  let v547_r0 : BitVec 32 := Scalar.muli arg17_r0 c32_i32_r0
  let v548_r0 : BitVec 32 := v547_r0
  let v901_r0 : Index := Scalar.indexCast v548_r0
  let c3584_r0 : Index := 3584#32
  ![v901_r0.toNat, 3584]
def k0_off48 (k0_t2 : Fin k0_t2_loop.trips) : Fin 2 → Nat :=
  let c0_i32_73_r0 : BitVec 32 := 0#32
  let c1_i32_75_r0 : BitVec 32 := 1#32
  let arg17_r0 : BitVec 32 := Scf.iv c0_i32_73_r0 c1_i32_75_r0 k0_t2
  let c32_i32_r0 : BitVec 32 := 32#32
  let v547_r0 : BitVec 32 := Scalar.muli arg17_r0 c32_i32_r0
  let v548_r0 : BitVec 32 := v547_r0
  let v913_r0 : Index := Scalar.indexCast v548_r0
  let c3712_r0 : Index := 3712#32
  ![v913_r0.toNat, 3712]
def k0_off49 (k0_t2 : Fin k0_t2_loop.trips) : Fin 2 → Nat :=
  let c0_i32_73_r0 : BitVec 32 := 0#32
  let c1_i32_75_r0 : BitVec 32 := 1#32
  let arg17_r0 : BitVec 32 := Scf.iv c0_i32_73_r0 c1_i32_75_r0 k0_t2
  let c32_i32_r0 : BitVec 32 := 32#32
  let v547_r0 : BitVec 32 := Scalar.muli arg17_r0 c32_i32_r0
  let v548_r0 : BitVec 32 := v547_r0
  let v925_r0 : Index := Scalar.indexCast v548_r0
  let c3840_r0 : Index := 3840#32
  ![v925_r0.toNat, 3840]
def k0_off50 (k0_t2 : Fin k0_t2_loop.trips) : Fin 2 → Nat :=
  let c0_i32_73_r0 : BitVec 32 := 0#32
  let c1_i32_75_r0 : BitVec 32 := 1#32
  let arg17_r0 : BitVec 32 := Scf.iv c0_i32_73_r0 c1_i32_75_r0 k0_t2
  let c32_i32_r0 : BitVec 32 := 32#32
  let v547_r0 : BitVec 32 := Scalar.muli arg17_r0 c32_i32_r0
  let v548_r0 : BitVec 32 := v547_r0
  let v937_r0 : Index := Scalar.indexCast v548_r0
  let c3968_r0 : Index := 3968#32
  ![v937_r0.toNat, 3968]
def k0_off51 (k0_t2 : Fin k0_t2_loop.trips) : Fin 2 → Nat :=
  let c0_i32_73_r0 : BitVec 32 := 0#32
  let c1_i32_75_r0 : BitVec 32 := 1#32
  let arg17_r0 : BitVec 32 := Scf.iv c0_i32_73_r0 c1_i32_75_r0 k0_t2
  let c32_i32_r0 : BitVec 32 := 32#32
  let v547_r0 : BitVec 32 := Scalar.muli arg17_r0 c32_i32_r0
  let v548_r0 : BitVec 32 := v547_r0
  let v949_r0 : Index := Scalar.indexCast v548_r0
  let c4096_r0 : Index := 4096#32
  ![v949_r0.toNat, 4096]
def k0_off52 (k0_t2 : Fin k0_t2_loop.trips) : Fin 2 → Nat :=
  let c0_i32_73_r0 : BitVec 32 := 0#32
  let c1_i32_75_r0 : BitVec 32 := 1#32
  let arg17_r0 : BitVec 32 := Scf.iv c0_i32_73_r0 c1_i32_75_r0 k0_t2
  let c32_i32_r0 : BitVec 32 := 32#32
  let v547_r0 : BitVec 32 := Scalar.muli arg17_r0 c32_i32_r0
  let v548_r0 : BitVec 32 := v547_r0
  let v961_r0 : Index := Scalar.indexCast v548_r0
  let c4224_r0 : Index := 4224#32
  ![v961_r0.toNat, 4224]
def k0_off53 (k0_t2 : Fin k0_t2_loop.trips) : Fin 2 → Nat :=
  let c0_i32_73_r0 : BitVec 32 := 0#32
  let c1_i32_75_r0 : BitVec 32 := 1#32
  let arg17_r0 : BitVec 32 := Scf.iv c0_i32_73_r0 c1_i32_75_r0 k0_t2
  let c32_i32_r0 : BitVec 32 := 32#32
  let v547_r0 : BitVec 32 := Scalar.muli arg17_r0 c32_i32_r0
  let v548_r0 : BitVec 32 := v547_r0
  let v973_r0 : Index := Scalar.indexCast v548_r0
  let c4352_r0 : Index := 4352#32
  ![v973_r0.toNat, 4352]
def k0_off54 (k0_t2 : Fin k0_t2_loop.trips) : Fin 2 → Nat :=
  let c0_i32_73_r0 : BitVec 32 := 0#32
  let c1_i32_75_r0 : BitVec 32 := 1#32
  let arg17_r0 : BitVec 32 := Scf.iv c0_i32_73_r0 c1_i32_75_r0 k0_t2
  let c32_i32_r0 : BitVec 32 := 32#32
  let v547_r0 : BitVec 32 := Scalar.muli arg17_r0 c32_i32_r0
  let v548_r0 : BitVec 32 := v547_r0
  let v985_r0 : Index := Scalar.indexCast v548_r0
  let c4480_r0 : Index := 4480#32
  ![v985_r0.toNat, 4480]
def k0_off55 (k0_t2 : Fin k0_t2_loop.trips) : Fin 2 → Nat :=
  let c0_i32_73_r0 : BitVec 32 := 0#32
  let c1_i32_75_r0 : BitVec 32 := 1#32
  let arg17_r0 : BitVec 32 := Scf.iv c0_i32_73_r0 c1_i32_75_r0 k0_t2
  let c32_i32_r0 : BitVec 32 := 32#32
  let v547_r0 : BitVec 32 := Scalar.muli arg17_r0 c32_i32_r0
  let v548_r0 : BitVec 32 := v547_r0
  let v997_r0 : Index := Scalar.indexCast v548_r0
  let c4608_r0 : Index := 4608#32
  ![v997_r0.toNat, 4608]
def k0_off56 (k0_t2 : Fin k0_t2_loop.trips) : Fin 2 → Nat :=
  let c0_i32_73_r0 : BitVec 32 := 0#32
  let c1_i32_75_r0 : BitVec 32 := 1#32
  let arg17_r0 : BitVec 32 := Scf.iv c0_i32_73_r0 c1_i32_75_r0 k0_t2
  let c32_i32_r0 : BitVec 32 := 32#32
  let v547_r0 : BitVec 32 := Scalar.muli arg17_r0 c32_i32_r0
  let v548_r0 : BitVec 32 := v547_r0
  let v1009_r0 : Index := Scalar.indexCast v548_r0
  let c4736_r0 : Index := 4736#32
  ![v1009_r0.toNat, 4736]
def k0_off57 (k0_t2 : Fin k0_t2_loop.trips) : Fin 2 → Nat :=
  let c0_i32_73_r0 : BitVec 32 := 0#32
  let c1_i32_75_r0 : BitVec 32 := 1#32
  let arg17_r0 : BitVec 32 := Scf.iv c0_i32_73_r0 c1_i32_75_r0 k0_t2
  let c32_i32_r0 : BitVec 32 := 32#32
  let v547_r0 : BitVec 32 := Scalar.muli arg17_r0 c32_i32_r0
  let v548_r0 : BitVec 32 := v547_r0
  let v1021_r0 : Index := Scalar.indexCast v548_r0
  let c4864_r0 : Index := 4864#32
  ![v1021_r0.toNat, 4864]
def k0_off58 (k0_t2 : Fin k0_t2_loop.trips) : Fin 2 → Nat :=
  let c0_i32_73_r0 : BitVec 32 := 0#32
  let c1_i32_75_r0 : BitVec 32 := 1#32
  let arg17_r0 : BitVec 32 := Scf.iv c0_i32_73_r0 c1_i32_75_r0 k0_t2
  let c32_i32_r0 : BitVec 32 := 32#32
  let v547_r0 : BitVec 32 := Scalar.muli arg17_r0 c32_i32_r0
  let v548_r0 : BitVec 32 := v547_r0
  let v1033_r0 : Index := Scalar.indexCast v548_r0
  let c4992_r0 : Index := 4992#32
  ![v1033_r0.toNat, 4992]
def k0_off59 (k0_t2 : Fin k0_t2_loop.trips) : Fin 2 → Nat :=
  let c0_i32_73_r0 : BitVec 32 := 0#32
  let c1_i32_75_r0 : BitVec 32 := 1#32
  let arg17_r0 : BitVec 32 := Scf.iv c0_i32_73_r0 c1_i32_75_r0 k0_t2
  let c32_i32_r0 : BitVec 32 := 32#32
  let v547_r0 : BitVec 32 := Scalar.muli arg17_r0 c32_i32_r0
  let v548_r0 : BitVec 32 := v547_r0
  let v1045_r0 : Index := Scalar.indexCast v548_r0
  let c5120_r0 : Index := 5120#32
  ![v1045_r0.toNat, 5120]
def k0_off60 (k0_t2 : Fin k0_t2_loop.trips) : Fin 2 → Nat :=
  let c0_i32_73_r0 : BitVec 32 := 0#32
  let c1_i32_75_r0 : BitVec 32 := 1#32
  let arg17_r0 : BitVec 32 := Scf.iv c0_i32_73_r0 c1_i32_75_r0 k0_t2
  let c32_i32_r0 : BitVec 32 := 32#32
  let v547_r0 : BitVec 32 := Scalar.muli arg17_r0 c32_i32_r0
  let v548_r0 : BitVec 32 := v547_r0
  let v1057_r0 : Index := Scalar.indexCast v548_r0
  let c5248_r0 : Index := 5248#32
  ![v1057_r0.toNat, 5248]
def k0_off61 (k0_t2 : Fin k0_t2_loop.trips) : Fin 2 → Nat :=
  let c0_i32_73_r0 : BitVec 32 := 0#32
  let c1_i32_75_r0 : BitVec 32 := 1#32
  let arg17_r0 : BitVec 32 := Scf.iv c0_i32_73_r0 c1_i32_75_r0 k0_t2
  let c32_i32_r0 : BitVec 32 := 32#32
  let v547_r0 : BitVec 32 := Scalar.muli arg17_r0 c32_i32_r0
  let v548_r0 : BitVec 32 := v547_r0
  let v1069_r0 : Index := Scalar.indexCast v548_r0
  let c5376_r0 : Index := 5376#32
  ![v1069_r0.toNat, 5376]
def k0_off62 (k0_t2 : Fin k0_t2_loop.trips) : Fin 2 → Nat :=
  let c0_i32_73_r0 : BitVec 32 := 0#32
  let c1_i32_75_r0 : BitVec 32 := 1#32
  let arg17_r0 : BitVec 32 := Scf.iv c0_i32_73_r0 c1_i32_75_r0 k0_t2
  let c32_i32_r0 : BitVec 32 := 32#32
  let v547_r0 : BitVec 32 := Scalar.muli arg17_r0 c32_i32_r0
  let v548_r0 : BitVec 32 := v547_r0
  let v1081_r0 : Index := Scalar.indexCast v548_r0
  let c5504_r0 : Index := 5504#32
  ![v1081_r0.toNat, 5504]
def k0_off63 (k0_t2 : Fin k0_t2_loop.trips) : Fin 2 → Nat :=
  let c0_i32_73_r0 : BitVec 32 := 0#32
  let c1_i32_75_r0 : BitVec 32 := 1#32
  let arg17_r0 : BitVec 32 := Scf.iv c0_i32_73_r0 c1_i32_75_r0 k0_t2
  let c32_i32_r0 : BitVec 32 := 32#32
  let v547_r0 : BitVec 32 := Scalar.muli arg17_r0 c32_i32_r0
  let v548_r0 : BitVec 32 := v547_r0
  let v1093_r0 : Index := Scalar.indexCast v548_r0
  let c5632_r0 : Index := 5632#32
  ![v1093_r0.toNat, 5632]
def k0_off64 (k0_t2 : Fin k0_t2_loop.trips) : Fin 2 → Nat :=
  let c0_i32_73_r0 : BitVec 32 := 0#32
  let c1_i32_75_r0 : BitVec 32 := 1#32
  let arg17_r0 : BitVec 32 := Scf.iv c0_i32_73_r0 c1_i32_75_r0 k0_t2
  let c32_i32_r0 : BitVec 32 := 32#32
  let v547_r0 : BitVec 32 := Scalar.muli arg17_r0 c32_i32_r0
  let v548_r0 : BitVec 32 := v547_r0
  let v1105_r0 : Index := Scalar.indexCast v548_r0
  let c5760_r0 : Index := 5760#32
  ![v1105_r0.toNat, 5760]
def k0_off65 (k0_t2 : Fin k0_t2_loop.trips) : Fin 2 → Nat :=
  let c0_i32_73_r0 : BitVec 32 := 0#32
  let c1_i32_75_r0 : BitVec 32 := 1#32
  let arg17_r0 : BitVec 32 := Scf.iv c0_i32_73_r0 c1_i32_75_r0 k0_t2
  let c32_i32_r0 : BitVec 32 := 32#32
  let v547_r0 : BitVec 32 := Scalar.muli arg17_r0 c32_i32_r0
  let v548_r0 : BitVec 32 := v547_r0
  let v1117_r0 : Index := Scalar.indexCast v548_r0
  let c5888_r0 : Index := 5888#32
  ![v1117_r0.toNat, 5888]
def k0_off66 (k0_t2 : Fin k0_t2_loop.trips) : Fin 2 → Nat :=
  let c0_i32_73_r0 : BitVec 32 := 0#32
  let c1_i32_75_r0 : BitVec 32 := 1#32
  let arg17_r0 : BitVec 32 := Scf.iv c0_i32_73_r0 c1_i32_75_r0 k0_t2
  let c32_i32_r0 : BitVec 32 := 32#32
  let v547_r0 : BitVec 32 := Scalar.muli arg17_r0 c32_i32_r0
  let v548_r0 : BitVec 32 := v547_r0
  let v1129_r0 : Index := Scalar.indexCast v548_r0
  let c6016_r0 : Index := 6016#32
  ![v1129_r0.toNat, 6016]
abbrev stage0_0 : Fin 1 → Memref sig .tc .vmem S288x2304 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S288x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S288x2304 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S2x2304 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1x12288 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1x2304 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S2x144 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
-- ==== ReferenceIdeal.lean ====
abbrev S2x144x2304 : Shape := ⟨3, ![2, 144, 2304]⟩
abbrev S2x144 : Shape := ⟨2, ![2, 144]⟩
abbrev S2x2304 : Shape := ⟨2, ![2, 2304]⟩
abbrev S2304x12288 : Shape := ⟨2, ![2304, 12288]⟩
abbrev S12288 : Shape := ⟨1, ![12288]⟩
abbrev S6144x2304 : Shape := ⟨2, ![6144, 2304]⟩
abbrev S2304 : Shape := ⟨1, ![2304]⟩
abbrev S1x12288 : Shape := ⟨2, ![1, 12288]⟩
abbrev S1x2304 : Shape := ⟨2, ![1, 2304]⟩
abbrev S2x144x6144 : Shape := ⟨3, ![2, 144, 6144]⟩
abbrev S1x144x2304 : Shape := ⟨3, ![1, 144, 2304]⟩
abbrev S144x2304 : Shape := ⟨2, ![144, 2304]⟩
abbrev S144x12288 : Shape := ⟨2, ![144, 12288]⟩
abbrev S1x144 : Shape := ⟨2, ![1, 144]⟩
abbrev S144 : Shape := ⟨1, ![144]⟩
abbrev S144x1 : Shape := ⟨2, ![144, 1]⟩
abbrev S144x6144 : Shape := ⟨2, ![144, 6144]⟩
abbrev S1x144x6144 : Shape := ⟨3, ![1, 144, 6144]⟩

abbrev nBuf : Space → Nat
  | .hbm => 13
  | .vmem => 11
  | .smem => 0
  | _ => 0

abbrev bufTy : (tb : Table) → Fin (tcTables nBuf tb) → BufTy
  | .hbm, ⟨0, _⟩ => ⟨S2x144x2304, .fp8e4m3⟩
  | .hbm, ⟨1, _⟩ => ⟨S2x144, .f32⟩
  | .hbm, ⟨2, _⟩ => ⟨S2x144x2304, .f32⟩
  | .hbm, ⟨3, _⟩ => ⟨S2x2304, .f32⟩
  | .hbm, ⟨4, _⟩ => ⟨S2304x12288, .fp8e4m3⟩
  | .hbm, ⟨5, _⟩ => ⟨S12288, .f32⟩
  | .hbm, ⟨6, _⟩ => ⟨S6144x2304, .fp8e4m3⟩
  | .hbm, ⟨7, _⟩ => ⟨S2304, .f32⟩
  | .hbm, ⟨8, _⟩ => ⟨S1x12288, .f32⟩
  | .hbm, ⟨9, _⟩ => ⟨S1x2304, .f32⟩
  | .hbm, ⟨10, _⟩ => ⟨S2x144x2304, .bf16⟩
  | .hbm, ⟨11, _⟩ => ⟨S2x144x6144, .fp8e4m3⟩
  | .hbm, ⟨12, _⟩ => ⟨S2x144, .f32⟩
  | .local _ .vmem, ⟨0, _⟩ => ⟨S2x144x2304, .fp8e4m3⟩
  | .local _ .vmem, ⟨1, _⟩ => ⟨S2x144, .f32⟩
  | .local _ .vmem, ⟨2, _⟩ => ⟨S2x144x2304, .f32⟩
  | .local _ .vmem, ⟨3, _⟩ => ⟨S2x2304, .f32⟩
  | .local _ .vmem, ⟨4, _⟩ => ⟨S2304x12288, .fp8e4m3⟩
  | .local _ .vmem, ⟨5, _⟩ => ⟨S1x12288, .f32⟩
  | .local _ .vmem, ⟨6, _⟩ => ⟨S6144x2304, .fp8e4m3⟩
  | .local _ .vmem, ⟨7, _⟩ => ⟨S1x2304, .f32⟩
  | .local _ .vmem, ⟨8, _⟩ => ⟨S2x144x2304, .bf16⟩
  | .local _ .vmem, ⟨9, _⟩ => ⟨S2x144x6144, .fp8e4m3⟩
  | .local _ .vmem, ⟨10, _⟩ => ⟨S2x144, .f32⟩
  | _, _ => ⟨S2x144x2304, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2_0 : Ref sig .tc := ⟨.hbm, 10, rfl⟩
abbrev main_v2_1 : Ref sig .tc := ⟨.hbm, 11, rfl⟩
abbrev main_v2_2 : Ref sig .tc := ⟨.hbm, 12, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10

abbrev nD : Nat := 1
abbrev τ : Topo := Topo.v7x

variable {F : FTy → Type} [FloatOps F]

abbrev grid0 : Pipeline.Grid := .none

abbrev stage0_0 : Fin 1 → Memref sig .tc .vmem S2x144x2304 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S2x144 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2x144x2304 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S2x2304 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S2304x12288 .fp8e4m3 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1x12288 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S6144x2304 .fp8e4m3 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S1x2304 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S2x144x2304 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S2x144x6144 .fp8e4m3 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S2x144 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
-- ==== Proof.Kernel.Kit.lean ====
module

public import proofs.«01_k».proof.Proof.Gen.Kernel.Launch
public import proofs.«01_k».proof.Proof.Gen.Kernel.Skeleton
public import proofs.«01_k».proof.Proof.Gen.Kernel.Points
public import Idealize.ShloMosaic.Lib.Pipeline.FrameValue
public import Idealize.ShloMosaic.Lib.Pipeline.FrameBody
public import Idealize.ShloMosaic.Lib.Ring
public import Idealize.ShloMosaic.Lib.Tactic
public import Idealize.ShloMosaic.Lib.WordCmp

@[expose] public section

set_option maxRecDepth 16384

noncomputable section

namespace Cert.Kernel.Dma

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)
/-! ## @main up to the region -/

/-- Core `c`'s TensorCore buffers when the region is entered: after the host operations `hostOps0` (Launch.lean). -/
abbrev V (c : Dev nD) (b : Ref sig .tc) : Buf (Elt F) ((c : Thread nD τ).loc b) := StableHlo.after hostOps0 (fun b => m (c, b)) b

theorem hostOps0_fresh : (hostOps0 : List (HloOp τ sig (Elt F))).Forall fun op => op.fresh = ∅ := by
  simp only [List.Forall]; repeat' constructor

set_option maxHeartbeats 800000 in
/-- @main up to the region, at the certificate's variants `𝒱₀`: the host operations then the region
    (`Pipeline.hmain_prefix`: `StableHlo.wp_seq` over the unscoped buffers, off `main_chain`). -/
theorem hmain (𝒱₀ : Variants) : Pipeline.HMain (Ix := Unit) (Name := ℕ) (U := Pipeline.UD sig nD τ) (Lvl := ℕ) cfgs 0 defs₀ 𝒱₀ m (main (F := F)) (V m) :=
  Pipeline.hmain_prefix cfgs 0 defs₀ 𝒱₀ m main hostOps0 hostOps0_sub hostOps0_fresh main_chain

/-- No host operation before the region writes `main_arg0`: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
/-- No host operation before the region writes `main_arg1`: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
/-- No host operation before the region writes `main_arg2`: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
/-- No host operation before the region writes `main_arg3`: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
/-- No host operation before the region writes `main_arg4`: the region finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
/-- No host operation before the region writes `main_arg5`: the region finds it as launched. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
/-- No host operation before the region writes `main_arg6`: the region finds it as launched. -/
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
/-- No host operation before the region writes `main_arg7`: the region finds it as launched. -/
theorem V_main_arg7 (c : Dev nD) : V m c main_arg7 = m ((c : Thread nD τ).loc main_arg7) :=
  StableHlo.after_of_forall_not_mem (b := Proc.devRef .tc main_arg7) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))

/-! ## The windows' blocks -/

/-- Window `w`'s block at point `t`, read off its array as the region finds it (`V`). -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_0_of {c : Dev nD} (dat : Dat τ (Elt F) Unit ℕ (Pipeline.UD sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_1_of {c : Dev nD} (dat : Dat τ (Elt F) Unit ℕ (Pipeline.UD sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_2_of {c : Dev nD} (dat : Dat τ (Elt F) Unit ℕ (Pipeline.UD sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_3_of {c : Dev nD} (dat : Dat τ (Elt F) Unit ℕ (Pipeline.UD sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input window 4's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_4_of {c : Dev nD} (dat : Dat τ (Elt F) Unit ℕ (Pipeline.UD sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
/-- Input window 5's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_5_of {c : Dev nD} (dat : Dat τ (Elt F) Unit ℕ (Pipeline.UD sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)

/-- The operands left in HBM the body WRITES by its own transfers, as references (results accumulated in place; the
    run's post says nothing of them: Lib/Pipeline/Frame.lean `FramePostR`). -/
def R0 : Finset (Ref sig .tc) := {main_v31_0, main_v31_1}

/-! ## The frame claim's post from the frame run's -/

/-- THE FRAME from a frame run: for any proof data whose arrays are the region-entry contents (`hA`), a run to
    Lib/Pipeline/Frame.lean's `FramePostR` read at the argument arrays — a staged input by the library's
    `Dat.arrAt_in`, an array no window stages (none is in `R0`) by the post's second clause, each then by `V_…` — is the frame
    claim's post (`Cert.frame_Kernel`, Defs.lean, at any `F`). -/
theorem frame_of (dats : (p : Fin 1) → (c : Dev nD) → Dat τ (Elt F) Unit ℕ (Pipeline.UD sig nD τ) ℕ (cfgs p) c)
    (hA : ∀ c w, (dats 0 c).A w = V m c (Pipeline.arrRef spec0 w))
    (h : θ_run defs (onTc (τ := τ) (main (F := F))) (s₀ m ρ) (Pipeline.FramePostR cfgs dats 0 R0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun _ h c => ⟨((h c).2 main_arg0 (Finset.mem_sdiff.mpr ⟨Pipeline.mem_restRefs_of main_arg0 (by decide) (by decide), by decide⟩)).trans (V_main_arg0 m c),
      ((h c).2 main_arg1 (Finset.mem_sdiff.mpr ⟨Pipeline.mem_restRefs_of main_arg1 (by decide) (by decide), by decide⟩)).trans (V_main_arg1 m c),
      ((h c).2 main_arg2 (Finset.mem_sdiff.mpr ⟨Pipeline.mem_restRefs_of main_arg2 (by decide) (by decide), by decide⟩)).trans (V_main_arg2 m c),
      ((h c).1 3).trans (((dats 0 c).arrAt_in 3 rfl _).trans ((hA c 3).trans (V_main_arg3 m c))),
      ((h c).2 main_arg4 (Finset.mem_sdiff.mpr ⟨Pipeline.mem_restRefs_of main_arg4 (by decide) (by decide), by decide⟩)).trans (V_main_arg4 m c),
      ((h c).2 main_arg5 (Finset.mem_sdiff.mpr ⟨Pipeline.mem_restRefs_of main_arg5 (by decide) (by decide), by decide⟩)).trans (V_main_arg5 m c),
      ((h c).2 main_arg6 (Finset.mem_sdiff.mpr ⟨Pipeline.mem_restRefs_of main_arg6 (by decide) (by decide), by decide⟩)).trans (V_main_arg6 m c),
      ((h c).2 main_arg7 (Finset.mem_sdiff.mpr ⟨Pipeline.mem_restRefs_of main_arg7 (by decide) (by decide), by decide⟩)).trans (V_main_arg7 m c)⟩) h

/-! ## The kernel body on any staging memrefs: a subtype the run finds -/

/-- One staging buffer of output window 6, through which its contents are stated (`View.read_writes_of_cover`: the
    choice does not matter). -/
abbrev VO0_6 : View sig .tc .vmem S2x144 .f32 := (Memref.whole cc0_stg6_0 : Memref sig .tc .vmem S2x144 .f32).view
/-- Each window's current staging memref at point `t`, spelled as the pipeline passes it (`bodyAt0`), and its wholeness. -/
abbrev ms0_0 (t : Fin cfg0.N) : Memref sig .tc .vmem S288x2304 .fp8e4m3 := win0_0.stage (cfg0.slots t 0)
abbrev hs0_0 (t : Fin cfg0.N) : (ms0_0 t).IsWhole := hstage0_0 0
abbrev ms0_1 (t : Fin cfg0.N) : Memref sig .tc .vmem S288x128 .f32 := win0_1.stage (cfg0.slots t 1)
abbrev hs0_1 (t : Fin cfg0.N) : (ms0_1 t).IsWhole := hstage0_1 0
abbrev ms0_2 (t : Fin cfg0.N) : Memref sig .tc .vmem S288x2304 .f32 := win0_2.stage (cfg0.slots t 2)
abbrev hs0_2 (t : Fin cfg0.N) : (ms0_2 t).IsWhole := hstage0_2 0
abbrev ms0_3 (t : Fin cfg0.N) : Memref sig .tc .vmem S2x2304 .f32 := win0_3.stage (cfg0.slots t 3)
abbrev hs0_3 (t : Fin cfg0.N) : (ms0_3 t).IsWhole := hstage0_3 0
abbrev ms0_4 (t : Fin cfg0.N) : Memref sig .tc .vmem S1x12288 .f32 := win0_4.stage (cfg0.slots t 4)
abbrev hs0_4 (t : Fin cfg0.N) : (ms0_4 t).IsWhole := hstage0_4 0
abbrev ms0_5 (t : Fin cfg0.N) : Memref sig .tc .vmem S1x2304 .f32 := win0_5.stage (cfg0.slots t 5)
abbrev hs0_5 (t : Fin cfg0.N) : (ms0_5 t).IsWhole := hstage0_5 0
abbrev ms0_6 (t : Fin cfg0.N) : Memref sig .tc .vmem S2x144 .f32 := win0_6.stage (cfg0.slots t 6)
abbrev hs0_6 (t : Fin cfg0.N) : (ms0_6 t).IsWhole := hstage0_6 0
/-- The scratch operands: whole scoped buffers of the kernel's own, passed beside the windows. -/
abbrev scM0_0 : Memref sig .tc .vmem S10x2304x768 .fp8e4m3 := Memref.whole cc0_scratch0
abbrev scM0_1 : Memref sig .tc .vmem S3x6144x768 .fp8e4m3 := Memref.whole cc0_scratch1
abbrev scM0_2 : Memref sig .tc .vmem S288x128 .f32 := Memref.whole cc0_scratch2
abbrev scM0_3 : Memref sig .tc .vmem S288x6144 .f32 := Memref.whole cc0_scoped0
abbrev scM0_4 : Memref sig .tc .vmem S288x6144 .fp8e4m3 := Memref.whole cc0_scoped1
abbrev scM0_5 : Memref sig .tc .vmem S288x128 .f32 := Memref.whole cc0_scoped2
abbrev scM0_6 : Memref sig .tc .vmem S288x2304 .bf16 := Memref.whole cc0_scoped3
/-- The operands left in HBM that the body copies into scratch itself, whole. -/
abbrev hbM0_0 : Memref sig .tc .hbm S2304x12288 .fp8e4m3 := Memref.whole main_arg4
abbrev hbM0_1 : Memref sig .tc .hbm S6144x2304 .fp8e4m3 := Memref.whole main_arg6
abbrev hbM0_2 : Memref sig .tc .hbm S2x144x2304 .bf16 := Memref.whole main_v31_0
abbrev hbM0_3 : Memref sig .tc .hbm S2x144x6144 .fp8e4m3 := Memref.whole main_v31_1
/-- Memref `M`'s buffer on core `c`: its contents type, and it held whole at `f` — behind this abbreviation, so that the
    run's rewriting of the goal leaves `Memref.view` intact (the form the executor reads a held buffer in). -/
abbrev HbBuf0 (c : Dev nD) {sp : Space} {S : Shape} {e : EltTy} (M : Memref sig .tc sp S e) : Type := Buf (Elt F) (M.view.loc (c : Thread nD τ))
abbrev hbPt0 (c : Dev nD) {sp : Space} {S : Shape} {e : EltTy} (M : Memref sig .tc sp S e) (f : HbBuf0 (F := F) c M) : sProp 𝕄 :=
  M.view.loc (c : Thread nD τ) ↦{fullShare} f

/-- The body's own DMA semaphores, cell by cell (their numbers in the pool): the kernel's own semaphores for the launch
    (`Pipeline.OwnSemFacts`: none is a window's). -/
abbrev osem0 : Fin 21 → SemLoc sig := fun j => (![SemLoc.dma 7, SemLoc.dma 8, SemLoc.dma 9, SemLoc.dma 10, SemLoc.dma 11, SemLoc.dma 12, SemLoc.dma 13, SemLoc.dma 14, SemLoc.dma 15, SemLoc.dma 16, SemLoc.dma 17, SemLoc.dma 18, SemLoc.dma 19, SemLoc.dma 20, SemLoc.dma 21, SemLoc.dma 22, SemLoc.dma 23, SemLoc.dma 24, SemLoc.dma 25, SemLoc.dma 26, SemLoc.dma 27] : Fin 21 → SemLoc sig) j
theorem ownSemFacts0 : Pipeline.OwnSemFacts spec0 osem0 := by decide
/-- The cells at zero, listed. -/
theorem ownSems00_eq (c : Dev nD) :
    (Pipeline.ownSems0 (Ix := Unit) (Name := ℕ) (U := Pipeline.UD sig nD τ) (Lvl := ℕ) (Val := Elt F) (τ := τ) osem0 c : sProp 𝕄)
      = iprop(semVal ((c : Thread nD τ), SemLoc.dma 7) 0 ∗ semVal ((c : Thread nD τ), SemLoc.dma 8) 0 ∗ semVal ((c : Thread nD τ), SemLoc.dma 9) 0 ∗ semVal ((c : Thread nD τ), SemLoc.dma 10) 0 ∗ semVal ((c : Thread nD τ), SemLoc.dma 11) 0 ∗ semVal ((c : Thread nD τ), SemLoc.dma 12) 0 ∗ semVal ((c : Thread nD τ), SemLoc.dma 13) 0 ∗ semVal ((c : Thread nD τ), SemLoc.dma 14) 0 ∗ semVal ((c : Thread nD τ), SemLoc.dma 15) 0 ∗ semVal ((c : Thread nD τ), SemLoc.dma 16) 0 ∗ semVal ((c : Thread nD τ), SemLoc.dma 17) 0 ∗ semVal ((c : Thread nD τ), SemLoc.dma 18) 0 ∗ semVal ((c : Thread nD τ), SemLoc.dma 19) 0 ∗ semVal ((c : Thread nD τ), SemLoc.dma 20) 0 ∗ semVal ((c : Thread nD τ), SemLoc.dma 21) 0 ∗ semVal ((c : Thread nD τ), SemLoc.dma 22) 0 ∗ semVal ((c : Thread nD τ), SemLoc.dma 23) 0 ∗ semVal ((c : Thread nD τ), SemLoc.dma 24) 0 ∗ semVal ((c : Thread nD τ), SemLoc.dma 25) 0 ∗ semVal ((c : Thread nD τ), SemLoc.dma 26) 0 ∗ semVal ((c : Thread nD τ), SemLoc.dma 27) 0) := by
  rw [Pipeline.ownSems0_eq_of_list c osem0 [0, 1, 2, 3, 4, 5, 6, 7, 8, 9, 10, 11, 12, 13, 14, 15, 16, 17, 18, 19, 20] (by decide) (by decide)]; rfl
/-- The HBM operands the body copies from and leaves unchanged, as references: unscoped, no window's array (`Pipeline.restRefs`). -/
def H0 : Finset (Ref sig .tc) := {main_arg4, main_arg6}
theorem H0_sub : H0 ⊆ Pipeline.restRefs sig spec0 := by decide
/-- The ones it writes (`R0`, stated with the kit) are unscoped, no window's array, and none of `H0`. -/
theorem R0_sub : R0 ⊆ Pipeline.restRefs sig spec0 \ H0 := by decide
/-- The read operands' points-tos at the launch contents, listed. -/
theorem hbmPts0_eq (c : Dev nD) :
    (bigSep H0 (fun b => ((c : Thread nD τ).loc b) ↦{fullShare} V m c b) : sProp 𝕄) = iprop(hbPt0 c hbM0_0 (V m c main_arg4) ∗ hbPt0 c hbM0_1 (V m c main_arg6)) := by
  rw [BI.bigSep_eq_bigSepL_of_eq [main_arg4, main_arg6] (by decide) (by decide)]; rfl
/-- The written operands' points-tos at some contents each (`Pipeline.owned`), listed. -/
theorem ownedPts0_eq (c : Dev nD) :
    (Pipeline.owned R0 c : sProp 𝕄) = iprop((∃ f, hbPt0 c hbM0_2 f) ∗ (∃ f, hbPt0 c hbM0_3 f)) := by
  unfold Pipeline.owned; rw [BI.bigSep_eq_bigSepL_of_eq [main_v31_0, main_v31_1] (by decide) (by decide)]; rfl

/-- The invariant of a body with transfers of its own that write some HBM operands, `Pipeline.ΦDR`, conjunct by conjunct:
    the scratch operands owned at some contents, the generator register at some state, the own cells at zero, the HBM
    operands read at their launch contents, the HBM operands written at some contents — what the body obligation hands
    the run and takes back. -/
theorem PhiDR0_eq (c : Dev nD) :
    (Pipeline.ΦDR osem0 spec0 H0 R0 (V m) c : sProp 𝕄)
      = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d) ∗ (∃ d, owns (c : Thread nD τ) scM0_4 fullShare d) ∗ (∃ d, owns (c : Thread nD τ) scM0_5 fullShare d) ∗ (∃ d, owns (c : Thread nD τ) scM0_6 fullShare d)) ∗ (∃ r, prngReg c r) ∗ iprop(semVal ((c : Thread nD τ), SemLoc.dma 7) 0 ∗ semVal ((c : Thread nD τ), SemLoc.dma 8) 0 ∗ semVal ((c : Thread nD τ), SemLoc.dma 9) 0 ∗ semVal ((c : Thread nD τ), SemLoc.dma 10) 0 ∗ semVal ((c : Thread nD τ), SemLoc.dma 11) 0 ∗ semVal ((c : Thread nD τ), SemLoc.dma 12) 0 ∗ semVal ((c : Thread nD τ), SemLoc.dma 13) 0 ∗ semVal ((c : Thread nD τ), SemLoc.dma 14) 0 ∗ semVal ((c : Thread nD τ), SemLoc.dma 15) 0 ∗ semVal ((c : Thread nD τ), SemLoc.dma 16) 0 ∗ semVal ((c : Thread nD τ), SemLoc.dma 17) 0 ∗ semVal ((c : Thread nD τ), SemLoc.dma 18) 0 ∗ semVal ((c : Thread nD τ), SemLoc.dma 19) 0 ∗ semVal ((c : Thread nD τ), SemLoc.dma 20) 0 ∗ semVal ((c : Thread nD τ), SemLoc.dma 21) 0 ∗ semVal ((c : Thread nD τ), SemLoc.dma 22) 0 ∗ semVal ((c : Thread nD τ), SemLoc.dma 23) 0 ∗ semVal ((c : Thread nD τ), SemLoc.dma 24) 0 ∗ semVal ((c : Thread nD τ), SemLoc.dma 25) 0 ∗ semVal ((c : Thread nD τ), SemLoc.dma 26) 0 ∗ semVal ((c : Thread nD τ), SemLoc.dma 27) 0) ∗ iprop(hbPt0 c hbM0_0 (V m c main_arg4) ∗ hbPt0 c hbM0_1 (V m c main_arg6)) ∗ iprop((∃ f, hbPt0 c hbM0_2 f) ∗ (∃ f, hbPt0 c hbM0_3 f))) := by
  rw [Pipeline.ΦDR_eq, scopedRest0_eq, ownSems00_eq, hbmPts0_eq, ownedPts0_eq]; simp only [scM0_0, scM0_1, scM0_2, scM0_3, scM0_4, scM0_5, scM0_6, owns_whole]; try rfl

end Cert.Kernel.Dma

end
-- ==== Proof.Kernel.Trip.lean ====
module

public import proofs.«01_k».proof.Proof.Kernel.Kit
public import proofs.«01_k».proof.Proof.Gen.Kernel.Loops

@[expose] public section

set_option maxRecDepth 16384

noncomputable section

namespace Cert.Kernel.Dma

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)
/-- One trip of the loop that makes the codes: the pieces it stores into the scales and into the codes, and its triple. -/
@[irreducible] def trip (𝒱 : Variants) (c : Dev nD) (bd : Option 𝒱.V) (arg0 : Memref sig .tc .vmem S288x2304 .fp8e4m3) (harg0 : arg0.IsWhole) (arg1 : Memref sig .tc .vmem S288x128 .f32) (harg1 : arg1.IsWhole) (arg2 : Memref sig .tc .vmem S288x2304 .f32) (harg2 : arg2.IsWhole) (arg3 : Memref sig .tc .vmem S2x2304 .f32) (harg3 : arg3.IsWhole) (arg4 : Memref sig .tc .hbm S2304x12288 .fp8e4m3) (harg4 : arg4.IsWhole) (arg5 : Memref sig .tc .vmem S1x12288 .f32) (harg5 : arg5.IsWhole) (arg6 : Memref sig .tc .hbm S6144x2304 .fp8e4m3) (harg6 : arg6.IsWhole) (arg7 : Memref sig .tc .vmem S1x2304 .f32) (harg7 : arg7.IsWhole) (arg8 : Memref sig .tc .hbm S2x144x2304 .bf16) (harg8 : arg8.IsWhole) (arg9 : Memref sig .tc .hbm S2x144x6144 .fp8e4m3) (harg9 : arg9.IsWhole) (arg10 : Memref sig .tc .vmem S2x144 .f32) (harg10 : arg10.IsWhole) (arg11 : Memref sig .tc .vmem S10x2304x768 .fp8e4m3) (harg11 : arg11.IsWhole) (arg12 : Memref sig .tc .vmem S3x6144x768 .fp8e4m3) (harg12 : arg12.IsWhole) (arg13 : Memref sig .tc .vmem S288x128 .f32) (harg13 : arg13.IsWhole) (arg14 : DmaSems sig S10) (arg15 : DmaSems sig S3) (arg16 : DmaSems sig S8) (alloca_r0 : Memref sig .tc .vmem S288x6144 .f32) (halloca_r0 : alloca_r0.IsWhole) (alloca_62_r0 : Memref sig .tc .vmem S288x6144 .fp8e4m3) (halloca_62_r0 : alloca_62_r0.IsWhole) (alloca_63_r0 : Memref sig .tc .vmem S288x128 .f32) (halloca_63_r0 : alloca_63_r0.IsWhole) (alloca_64_r0 : Memref sig .tc .vmem S288x2304 .bf16) (halloca_64_r0 : alloca_64_r0.IsWhole) (X : BufTy.Contents (Elt F) alloca_r0.view.ty) (Y : BufTy.Contents (Elt F) alloca_63_r0.view.ty) (k : Fin k0_t2_loop.trips) :
    Σ' (LS : List (View.Piece (Elt F) S288x128 .f32)), { LC : List (View.Piece (Elt F) S288x6144 .fp8e4m3) // ∀ (E : Set ℕ) (acc : BitVec 32) (f : BufTy.Contents (Elt F) arg13.view.ty) (g : BufTy.Contents (Elt F) alloca_62_r0.view.ty),
      iprop((alloca_r0.view.loc (c : Thread nD τ) ↦[alloca_r0.view.set]{fullShare} X) ∗ (alloca_63_r0.view.loc (c : Thread nD τ) ↦[alloca_63_r0.view.set]{fullShare} Y) ∗ (arg13.view.loc (c : Thread nD τ) ↦[arg13.view.set]{fullShare} f) ∗ (alloca_62_r0.view.loc (c : Thread nD τ) ↦[alloca_62_r0.view.set]{fullShare} g))
      ⊢ wp (M := 𝕄) frame (wpE (defs₀ (F := F)) 𝒱 (c : Thread nD τ) bd) E (k0_t2_body (F := F) arg0 harg0 arg1 harg1 arg2 harg2 arg3 harg3 arg4 harg4 arg5 harg5 arg6 harg6 arg7 harg7 arg8 harg8 arg9 harg9 arg10 harg10 arg11 harg11 arg12 harg12 arg13 harg13 arg14 arg15 arg16 alloca_r0 halloca_r0 alloca_62_r0 halloca_62_r0 alloca_63_r0 halloca_63_r0 alloca_64_r0 halloca_64_r0 k acc)
          (fun _ => iprop((alloca_r0.view.loc (c : Thread nD τ) ↦[alloca_r0.view.set]{fullShare} X) ∗ (alloca_63_r0.view.loc (c : Thread nD τ) ↦[alloca_63_r0.view.set]{fullShare} Y) ∗ (arg13.view.loc (c : Thread nD τ) ↦[arg13.view.set]{fullShare} (arg13.view.writes (Elt F) f LS)) ∗ (alloca_62_r0.view.loc (c : Thread nD τ) ↦[alloca_62_r0.view.set]{fullShare} (alloca_62_r0.view.writes (Elt F) g LC)))) } := by
  have hk : k.val < 9 := Nat.lt_of_lt_of_le k.isLt k0_t2_abs.2.1
  refine ⟨?_, ?_, fun E acc f g => ?run⟩
  case run =>
    unfold k0_t2_body
    iintro ⟨HX, HY, HS, HC⟩
    sl_exec
    sl_step
    sl_close

/-- A buffer after the first `k` trips, each storing its pieces. -/
def stored {s : Shape} {e : EltTy} (M : Memref sig .tc .vmem s e) (f : BufTy.Contents (Elt F) M.view.ty) (L : Fin k0_t2_loop.trips → List (View.Piece (Elt F) s e)) : ℕ → BufTy.Contents (Elt F) M.view.ty
  | 0 => f
  | k + 1 => if h : k < k0_t2_loop.trips then M.view.writes (Elt F) (stored M f L k) (L ⟨k, h⟩) else stored M f L k

theorem stored_succ {s : Shape} {e : EltTy} (M : Memref sig .tc .vmem s e) (f : BufTy.Contents (Elt F) M.view.ty) (L : Fin k0_t2_loop.trips → List (View.Piece (Elt F) s e)) (k : Fin k0_t2_loop.trips) :
    stored M f L (k.val + 1) = M.view.writes (Elt F) (stored M f L k.val) (L k) := by
  rw [stored, dif_pos k.isLt]

/-- The pieces a trip stores into the scales. -/
def scalePieces (𝒱 : Variants) (c : Dev nD) (bd : Option 𝒱.V) (arg0 : Memref sig .tc .vmem S288x2304 .fp8e4m3) (harg0 : arg0.IsWhole) (arg1 : Memref sig .tc .vmem S288x128 .f32) (harg1 : arg1.IsWhole) (arg2 : Memref sig .tc .vmem S288x2304 .f32) (harg2 : arg2.IsWhole) (arg3 : Memref sig .tc .vmem S2x2304 .f32) (harg3 : arg3.IsWhole) (arg4 : Memref sig .tc .hbm S2304x12288 .fp8e4m3) (harg4 : arg4.IsWhole) (arg5 : Memref sig .tc .vmem S1x12288 .f32) (harg5 : arg5.IsWhole) (arg6 : Memref sig .tc .hbm S6144x2304 .fp8e4m3) (harg6 : arg6.IsWhole) (arg7 : Memref sig .tc .vmem S1x2304 .f32) (harg7 : arg7.IsWhole) (arg8 : Memref sig .tc .hbm S2x144x2304 .bf16) (harg8 : arg8.IsWhole) (arg9 : Memref sig .tc .hbm S2x144x6144 .fp8e4m3) (harg9 : arg9.IsWhole) (arg10 : Memref sig .tc .vmem S2x144 .f32) (harg10 : arg10.IsWhole) (arg11 : Memref sig .tc .vmem S10x2304x768 .fp8e4m3) (harg11 : arg11.IsWhole) (arg12 : Memref sig .tc .vmem S3x6144x768 .fp8e4m3) (harg12 : arg12.IsWhole) (arg13 : Memref sig .tc .vmem S288x128 .f32) (harg13 : arg13.IsWhole) (arg14 : DmaSems sig S10) (arg15 : DmaSems sig S3) (arg16 : DmaSems sig S8) (alloca_r0 : Memref sig .tc .vmem S288x6144 .f32) (halloca_r0 : alloca_r0.IsWhole) (alloca_62_r0 : Memref sig .tc .vmem S288x6144 .fp8e4m3) (halloca_62_r0 : alloca_62_r0.IsWhole) (alloca_63_r0 : Memref sig .tc .vmem S288x128 .f32) (halloca_63_r0 : alloca_63_r0.IsWhole) (alloca_64_r0 : Memref sig .tc .vmem S288x2304 .bf16) (halloca_64_r0 : alloca_64_r0.IsWhole) (X : BufTy.Contents (Elt F) alloca_r0.view.ty) (Y : BufTy.Contents (Elt F) alloca_63_r0.view.ty) (k : Fin k0_t2_loop.trips) : List (View.Piece (Elt F) S288x128 .f32) := (trip 𝒱 c bd arg0 harg0 arg1 harg1 arg2 harg2 arg3 harg3 arg4 harg4 arg5 harg5 arg6 harg6 arg7 harg7 arg8 harg8 arg9 harg9 arg10 harg10 arg11 harg11 arg12 harg12 arg13 harg13 arg14 arg15 arg16 alloca_r0 halloca_r0 alloca_62_r0 halloca_62_r0 alloca_63_r0 halloca_63_r0 alloca_64_r0 halloca_64_r0 X Y k).1

/-- The pieces a trip stores into the codes. -/
def codePieces (𝒱 : Variants) (c : Dev nD) (bd : Option 𝒱.V) (arg0 : Memref sig .tc .vmem S288x2304 .fp8e4m3) (harg0 : arg0.IsWhole) (arg1 : Memref sig .tc .vmem S288x128 .f32) (harg1 : arg1.IsWhole) (arg2 : Memref sig .tc .vmem S288x2304 .f32) (harg2 : arg2.IsWhole) (arg3 : Memref sig .tc .vmem S2x2304 .f32) (harg3 : arg3.IsWhole) (arg4 : Memref sig .tc .hbm S2304x12288 .fp8e4m3) (harg4 : arg4.IsWhole) (arg5 : Memref sig .tc .vmem S1x12288 .f32) (harg5 : arg5.IsWhole) (arg6 : Memref sig .tc .hbm S6144x2304 .fp8e4m3) (harg6 : arg6.IsWhole) (arg7 : Memref sig .tc .vmem S1x2304 .f32) (harg7 : arg7.IsWhole) (arg8 : Memref sig .tc .hbm S2x144x2304 .bf16) (harg8 : arg8.IsWhole) (arg9 : Memref sig .tc .hbm S2x144x6144 .fp8e4m3) (harg9 : arg9.IsWhole) (arg10 : Memref sig .tc .vmem S2x144 .f32) (harg10 : arg10.IsWhole) (arg11 : Memref sig .tc .vmem S10x2304x768 .fp8e4m3) (harg11 : arg11.IsWhole) (arg12 : Memref sig .tc .vmem S3x6144x768 .fp8e4m3) (harg12 : arg12.IsWhole) (arg13 : Memref sig .tc .vmem S288x128 .f32) (harg13 : arg13.IsWhole) (arg14 : DmaSems sig S10) (arg15 : DmaSems sig S3) (arg16 : DmaSems sig S8) (alloca_r0 : Memref sig .tc .vmem S288x6144 .f32) (halloca_r0 : alloca_r0.IsWhole) (alloca_62_r0 : Memref sig .tc .vmem S288x6144 .fp8e4m3) (halloca_62_r0 : alloca_62_r0.IsWhole) (alloca_63_r0 : Memref sig .tc .vmem S288x128 .f32) (halloca_63_r0 : alloca_63_r0.IsWhole) (alloca_64_r0 : Memref sig .tc .vmem S288x2304 .bf16) (halloca_64_r0 : alloca_64_r0.IsWhole) (X : BufTy.Contents (Elt F) alloca_r0.view.ty) (Y : BufTy.Contents (Elt F) alloca_63_r0.view.ty) (k : Fin k0_t2_loop.trips) : List (View.Piece (Elt F) S288x6144 .fp8e4m3) := (trip 𝒱 c bd arg0 harg0 arg1 harg1 arg2 harg2 arg3 harg3 arg4 harg4 arg5 harg5 arg6 harg6 arg7 harg7 arg8 harg8 arg9 harg9 arg10 harg10 arg11 harg11 arg12 harg12 arg13 harg13 arg14 arg15 arg16 alloca_r0 halloca_r0 alloca_62_r0 halloca_62_r0 alloca_63_r0 halloca_63_r0 alloca_64_r0 halloca_64_r0 X Y k).2.1

/-- The loop that makes the codes: before trip `k` the scales and the codes hold what the earlier trips stored. -/
@[sl_loop, reducible] def loopInv_k0_t2 (𝒱 : Variants) (c : Dev nD) (bd : Option 𝒱.V) (E : Set ℕ) (arg0 : Memref sig .tc .vmem S288x2304 .fp8e4m3) (harg0 : arg0.IsWhole) (arg1 : Memref sig .tc .vmem S288x128 .f32) (harg1 : arg1.IsWhole) (arg2 : Memref sig .tc .vmem S288x2304 .f32) (harg2 : arg2.IsWhole) (arg3 : Memref sig .tc .vmem S2x2304 .f32) (harg3 : arg3.IsWhole) (arg4 : Memref sig .tc .hbm S2304x12288 .fp8e4m3) (harg4 : arg4.IsWhole) (arg5 : Memref sig .tc .vmem S1x12288 .f32) (harg5 : arg5.IsWhole) (arg6 : Memref sig .tc .hbm S6144x2304 .fp8e4m3) (harg6 : arg6.IsWhole) (arg7 : Memref sig .tc .vmem S1x2304 .f32) (harg7 : arg7.IsWhole) (arg8 : Memref sig .tc .hbm S2x144x2304 .bf16) (harg8 : arg8.IsWhole) (arg9 : Memref sig .tc .hbm S2x144x6144 .fp8e4m3) (harg9 : arg9.IsWhole) (arg10 : Memref sig .tc .vmem S2x144 .f32) (harg10 : arg10.IsWhole) (arg11 : Memref sig .tc .vmem S10x2304x768 .fp8e4m3) (harg11 : arg11.IsWhole) (arg12 : Memref sig .tc .vmem S3x6144x768 .fp8e4m3) (harg12 : arg12.IsWhole) (arg13 : Memref sig .tc .vmem S288x128 .f32) (harg13 : arg13.IsWhole) (arg14 : DmaSems sig S10) (arg15 : DmaSems sig S3) (arg16 : DmaSems sig S8) (alloca_r0 : Memref sig .tc .vmem S288x6144 .f32) (halloca_r0 : alloca_r0.IsWhole) (alloca_62_r0 : Memref sig .tc .vmem S288x6144 .fp8e4m3) (halloca_62_r0 : alloca_62_r0.IsWhole) (alloca_63_r0 : Memref sig .tc .vmem S288x128 .f32) (halloca_63_r0 : alloca_63_r0.IsWhole) (alloca_64_r0 : Memref sig .tc .vmem S288x2304 .bf16) (halloca_64_r0 : alloca_64_r0.IsWhole) (X : BufTy.Contents (Elt F) alloca_r0.view.ty) (Y : BufTy.Contents (Elt F) alloca_63_r0.view.ty) (f0 : BufTy.Contents (Elt F) arg13.view.ty) (g0 : BufTy.Contents (Elt F) alloca_62_r0.view.ty) (init : BitVec 32) :
    LoopInvTy_k0_t2 (F := F) Unit ℕ (Pipeline.UD sig nD τ) ℕ 𝒱 c bd E arg0 harg0 arg1 harg1 arg2 harg2 arg3 harg3 arg4 harg4 arg5 harg5 arg6 harg6 arg7 harg7 arg8 harg8 arg9 harg9 arg10 harg10 arg11 harg11 arg12 harg12 arg13 harg13 arg14 arg15 arg16 alloca_r0 halloca_r0 alloca_62_r0 halloca_62_r0 alloca_63_r0 halloca_63_r0 alloca_64_r0 halloca_64_r0 init where
  inv k _ := iprop((alloca_r0.view.loc (c : Thread nD τ) ↦[alloca_r0.view.set]{fullShare} X) ∗ (alloca_63_r0.view.loc (c : Thread nD τ) ↦[alloca_63_r0.view.set]{fullShare} Y)
    ∗ (∃ f, (arg13.view.loc (c : Thread nD τ) ↦[arg13.view.set]{fullShare} f) ∗ ⌜f = stored arg13 f0 (scalePieces 𝒱 c bd arg0 harg0 arg1 harg1 arg2 harg2 arg3 harg3 arg4 harg4 arg5 harg5 arg6 harg6 arg7 harg7 arg8 harg8 arg9 harg9 arg10 harg10 arg11 harg11 arg12 harg12 arg13 harg13 arg14 arg15 arg16 alloca_r0 halloca_r0 alloca_62_r0 halloca_62_r0 alloca_63_r0 halloca_63_r0 alloca_64_r0 halloca_64_r0 X Y) k⌝)
    ∗ (∃ g, (alloca_62_r0.view.loc (c : Thread nD τ) ↦[alloca_62_r0.view.set]{fullShare} g) ∗ ⌜g = stored alloca_62_r0 g0 (codePieces 𝒱 c bd arg0 harg0 arg1 harg1 arg2 harg2 arg3 harg3 arg4 harg4 arg5 harg5 arg6 harg6 arg7 harg7 arg8 harg8 arg9 harg9 arg10 harg10 arg11 harg11 arg12 harg12 arg13 harg13 arg14 arg15 arg16 alloca_r0 halloca_r0 alloca_62_r0 halloca_62_r0 alloca_63_r0 halloca_63_r0 alloca_64_r0 halloca_64_r0 X Y) k⌝))
  step k acc := by
    iintro ⟨HX, HY, ⟨%f, HS, %hf⟩, ⟨%g, HC, %hg⟩⟩
    subst hf; subst hg
    iapply (wp_wand_r Idealize.ShloMosaic.frame (wpE (defs₀ (F := F)) 𝒱 (c : Thread nD τ) bd) E)
    isplitl [HX HY HS HC]
    · iapply (trip (F := F) 𝒱 c bd arg0 harg0 arg1 harg1 arg2 harg2 arg3 harg3 arg4 harg4 arg5 harg5 arg6 harg6 arg7 harg7 arg8 harg8 arg9 harg9 arg10 harg10 arg11 harg11 arg12 harg12 arg13 harg13 arg14 arg15 arg16 alloca_r0 halloca_r0 alloca_62_r0 halloca_62_r0 alloca_63_r0 halloca_63_r0 alloca_64_r0 halloca_64_r0 X Y k).2.2 E acc _ _
      isplitl [HX]; · iexact HX
      isplitl [HY]; · iexact HY
      isplitl [HS]; · iexact HS
      iexact HC
    iintro %_ ⟨HX, HY, HS, HC⟩
    isplitl [HX]; · iexact HX
    isplitl [HY]; · iexact HY
    isplitl [HS]
    · iexists _; isplitl [HS]; · iexact HS
      ipureintro; exact (stored_succ arg13 f0 _ k).symm
    iexists _; isplitl [HC]; · iexact HC
    ipureintro; exact (stored_succ alloca_62_r0 g0 _ k).symm

end Cert.Kernel.Dma

end
-- ==== Proof.Kernel.Run.lean ====
module

public import proofs.«01_k».proof.Proof.Kernel.Trip

@[expose] public section

set_option maxRecDepth 16384

noncomputable section

namespace Cert.Kernel.Dma

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)
-- (the run's proof term is large: checking it walks past the default budget)
set_option maxHeartbeats 4000000 in set_option sl_exec.dmaWindow true in set_option sl_exec.dmaWindowSet true in set_option sl_exec.unrollTrips 8 in set_option sl_exec.lendShare "HS4" in set_option sl_exec.rejoinHeartbeats 400000 in
/-- The body's triple: on whole staging memrefs, the inputs' at their contents, the body runs to the continuation
    holding the inputs' as they were, the scratch and the results at some contents. -/
theorem kernelRun0_A (c : Dev nD) (arg0 : Memref sig .tc .vmem S288x2304 .fp8e4m3) (harg0 : arg0.IsWhole) (arg1 : Memref sig .tc .vmem S288x128 .f32) (harg1 : arg1.IsWhole) (arg2 : Memref sig .tc .vmem S288x2304 .f32) (harg2 : arg2.IsWhole) (arg3 : Memref sig .tc .vmem S2x2304 .f32) (harg3 : arg3.IsWhole) (arg5 : Memref sig .tc .vmem S1x12288 .f32) (harg5 : arg5.IsWhole) (arg7 : Memref sig .tc .vmem S1x2304 .f32) (harg7 : arg7.IsWhole) (arg10 : Memref sig .tc .vmem S2x144 .f32) (harg10 : arg10.IsWhole) (arg11 : Memref sig .tc .vmem S10x2304x768 .fp8e4m3) (harg11 : arg11.IsWhole) (arg12 : Memref sig .tc .vmem S3x6144x768 .fp8e4m3) (harg12 : arg12.IsWhole) (arg13 : Memref sig .tc .vmem S288x128 .f32) (harg13 : arg13.IsWhole) (alloca_r0 : Memref sig .tc .vmem S288x6144 .f32) (halloca_r0 : alloca_r0.IsWhole) (alloca_62_r0 : Memref sig .tc .vmem S288x6144 .fp8e4m3) (halloca_62_r0 : alloca_62_r0.IsWhole) (alloca_63_r0 : Memref sig .tc .vmem S288x128 .f32) (halloca_63_r0 : alloca_63_r0.IsWhole) (alloca_64_r0 : Memref sig .tc .vmem S288x2304 .bf16) (halloca_64_r0 : alloca_64_r0.IsWhole)
    (x0 : Vec F S288x2304 .fp8e4m3) (x1 : Vec F S288x128 .f32) (x2 : Vec F S288x2304 .f32) (x3 : Vec F S2x2304 .f32) (x4 : Vec F S1x12288 .f32) (x5 : Vec F S1x2304 .f32) (fh0 : HbBuf0 (F := F) c hbM0_0) (fh1 : HbBuf0 (F := F) c hbM0_1) :
      ∀ (W : Waits sig Unit) (K : PUnit → sProp 𝕄),
        iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg5 fullShare x4 ∗ owns (c : Thread nD τ) arg7 fullShare x5 ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) alloca_r0 fullShare d) ∗ (∃ d, owns (c : Thread nD τ) alloca_62_r0 fullShare d) ∗ (∃ d, owns (c : Thread nD τ) alloca_63_r0 fullShare d) ∗ (∃ d, owns (c : Thread nD τ) alloca_64_r0 fullShare d) ∗ semVal ((c : Thread nD τ), SemLoc.dma 7) 0 ∗ semVal ((c : Thread nD τ), SemLoc.dma 8) 0 ∗ semVal ((c : Thread nD τ), SemLoc.dma 9) 0 ∗ semVal ((c : Thread nD τ), SemLoc.dma 10) 0 ∗ semVal ((c : Thread nD τ), SemLoc.dma 11) 0 ∗ semVal ((c : Thread nD τ), SemLoc.dma 12) 0 ∗ semVal ((c : Thread nD τ), SemLoc.dma 13) 0 ∗ semVal ((c : Thread nD τ), SemLoc.dma 14) 0 ∗ semVal ((c : Thread nD τ), SemLoc.dma 15) 0 ∗ semVal ((c : Thread nD τ), SemLoc.dma 16) 0 ∗ semVal ((c : Thread nD τ), SemLoc.dma 17) 0 ∗ semVal ((c : Thread nD τ), SemLoc.dma 18) 0 ∗ semVal ((c : Thread nD τ), SemLoc.dma 19) 0 ∗ semVal ((c : Thread nD τ), SemLoc.dma 20) 0 ∗ semVal ((c : Thread nD τ), SemLoc.dma 21) 0 ∗ semVal ((c : Thread nD τ), SemLoc.dma 22) 0 ∗ semVal ((c : Thread nD τ), SemLoc.dma 23) 0 ∗ semVal ((c : Thread nD τ), SemLoc.dma 24) 0 ∗ semVal ((c : Thread nD τ), SemLoc.dma 25) 0 ∗ semVal ((c : Thread nD τ), SemLoc.dma 26) 0 ∗ semVal ((c : Thread nD τ), SemLoc.dma 27) 0 ∗ hbPt0 c hbM0_0 fh0 ∗ hbPt0 c hbM0_1 fh1 ∗ (∃ f, hbPt0 c hbM0_2 f) ∗ (∃ f, hbPt0 c hbM0_3 f) ∗ owes (c : Thread nD τ) 0 W
            ∗ (iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg5 fullShare x4 ∗ owns (c : Thread nD τ) arg7 fullShare x5 ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) alloca_r0 fullShare d) ∗ (∃ d, owns (c : Thread nD τ) alloca_62_r0 fullShare d) ∗ (∃ d, owns (c : Thread nD τ) alloca_63_r0 fullShare d) ∗ (∃ d, owns (c : Thread nD τ) alloca_64_r0 fullShare d) ∗ semVal ((c : Thread nD τ), SemLoc.dma 7) 0 ∗ semVal ((c : Thread nD τ), SemLoc.dma 8) 0 ∗ semVal ((c : Thread nD τ), SemLoc.dma 9) 0 ∗ semVal ((c : Thread nD τ), SemLoc.dma 10) 0 ∗ semVal ((c : Thread nD τ), SemLoc.dma 11) 0 ∗ semVal ((c : Thread nD τ), SemLoc.dma 12) 0 ∗ semVal ((c : Thread nD τ), SemLoc.dma 13) 0 ∗ semVal ((c : Thread nD τ), SemLoc.dma 14) 0 ∗ semVal ((c : Thread nD τ), SemLoc.dma 15) 0 ∗ semVal ((c : Thread nD τ), SemLoc.dma 16) 0 ∗ semVal ((c : Thread nD τ), SemLoc.dma 17) 0 ∗ semVal ((c : Thread nD τ), SemLoc.dma 18) 0 ∗ semVal ((c : Thread nD τ), SemLoc.dma 19) 0 ∗ semVal ((c : Thread nD τ), SemLoc.dma 20) 0 ∗ semVal ((c : Thread nD τ), SemLoc.dma 21) 0 ∗ semVal ((c : Thread nD τ), SemLoc.dma 22) 0 ∗ semVal ((c : Thread nD τ), SemLoc.dma 23) 0 ∗ semVal ((c : Thread nD τ), SemLoc.dma 24) 0 ∗ semVal ((c : Thread nD τ), SemLoc.dma 25) 0 ∗ semVal ((c : Thread nD τ), SemLoc.dma 26) 0 ∗ semVal ((c : Thread nD τ), SemLoc.dma 27) 0 ∗ hbPt0 c hbM0_0 fh0 ∗ hbPt0 c hbM0_1 fh1 ∗ (∃ f, hbPt0 c hbM0_2 f) ∗ (∃ f, hbPt0 c hbM0_3 f) ∗ (∃ W', owes (c : Thread nD τ) 0 W')) -∗ K ⟨⟩))
          ⊢ wp frame (wpE (defs₀ (F := F)) Variants.none c none) Set.univ (cc0_ras_step arg0 harg0 arg1 harg1 arg2 harg2 arg3 harg3 (Memref.whole main_arg4) (Memref.isWhole_whole _) arg5 harg5 (Memref.whole main_arg6) (Memref.isWhole_whole _) arg7 harg7 (Memref.whole main_v31_0) (Memref.isWhole_whole _) (Memref.whole main_v31_1) (Memref.isWhole_whole _) arg10 harg10 arg11 harg11 arg12 harg12 arg13 harg13 cc0_scratch3 cc0_scratch4 cc0_scratch5 alloca_r0 halloca_r0 alloca_62_r0 halloca_62_r0 alloca_63_r0 halloca_63_r0 alloca_64_r0 halloca_64_r0) K := by
    intro W K
    simp only [cc0_ras_step_eq_skeleton]; unfold cc0_ras_step_skel
    simp only [k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%ds0, %fs0, -, HS0⟩, ⟨%ds1, %fs1, -, HS1⟩, ⟨%ds2, %fs2, -, HS2⟩, ⟨%ds3, %fs3, -, HS3⟩, ⟨%ds4, %fs4, -, HS4⟩, ⟨%ds5, %fs5, -, HS5⟩, ⟨%ds6, %fs6, -, HS6⟩, Hq0, Hq1, Hq2, Hq3, Hq4, Hq5, Hq6, Hq7, Hq8, Hq9, Hq10, Hq11, Hq12, Hq13, Hq14, Hq15, Hq16, Hq17, Hq18, Hq19, Hq20, Hh0, Hh1, ⟨%fw2, Hh2⟩, ⟨%fw3, Hh3⟩, HW, Hk⟩
    obtain rfl := harg0.eq_unread hf0; obtain rfl := harg1.eq_unread hf1; obtain rfl := harg2.eq_unread hf2; obtain rfl := harg3.eq_unread hf3; obtain rfl := harg5.eq_unread hf4; obtain rfl := harg7.eq_unread hf5
    sl_exec
    sl_step
    iapply Hk
    isplitl [H0]
    · iexists _; isplitr; · ipureintro; exact harg0.read_unread _
      iexact H0
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg5.read_unread _
      iexact H4
    isplitl [H5]
    · iexists _; isplitr; · ipureintro; exact harg7.read_unread _
      iexact H5
    isplitl [H6]
    · iexists _, _; isplitr; swap; · iexact H6
      ipureintro; rfl
    isplitl [HS0]
    · iexists _, _; isplitr; swap; · iexact HS0
      ipureintro; rfl
    isplitl [HS1]
    · iexists _, _; isplitr; swap; · iexact HS1
      ipureintro; rfl
    isplitl [HS2]
    · iexists _, _; isplitr; swap; · iexact HS2
      ipureintro; rfl
    isplitl [HS3]
    · iexists _, _; isplitr; swap; · iexact HS3
      ipureintro; rfl
    isplitl [HS4]
    · iexists _, _; isplitr; swap; · iexact HS4
      ipureintro; rfl
    isplitl [HS5]
    · iexists _, _; isplitr; swap; · iexact HS5
      ipureintro; rfl
    isplitl [HS6]
    · iexists _, _; isplitr; swap; · iexact HS6
      ipureintro; rfl
    isplitl [Hq0]; · iexact Hq0
    isplitl [Hq1]; · iexact Hq1
    isplitl [Hq2]; · iexact Hq2
    isplitl [Hq3]; · iexact Hq3
    isplitl [Hq4]; · iexact Hq4
    isplitl [Hq5]; · iexact Hq5
    isplitl [Hq6]; · iexact Hq6
    isplitl [Hq7]; · iexact Hq7
    isplitl [Hq8]; · iexact Hq8
    isplitl [Hq9]; · iexact Hq9
    isplitl [Hq10]; · iexact Hq10
    isplitl [Hq11]; · iexact Hq11
    isplitl [Hq12]; · iexact Hq12
    isplitl [Hq13]; · iexact Hq13
    isplitl [Hq14]; · iexact Hq14
    isplitl [Hq15]; · iexact Hq15
    isplitl [Hq16]; · iexact Hq16
    isplitl [Hq17]; · iexact Hq17
    isplitl [Hq18]; · iexact Hq18
    isplitl [Hq19]; · iexact Hq19
    isplitl [Hq20]; · iexact Hq20
    isplitl [Hh0]; · iexact Hh0
    isplitl [Hh1]; · iexact Hh1
    isplitl [Hh2]; · iexists _; iexact Hh2
    isplitl [Hh3]; · iexists _; iexact Hh3
    iexists _; iexact HW

end Cert.Kernel.Dma

end
-- ==== Proof.Kernel.Frame.lean ====
module

public import proofs.«01_k».proof.Proof.Kernel.Run
public import Idealize.ShloMosaic.Lib.Claim
public import Idealize.ShloMosaic.Lib.Pipeline.FrameValue

@[expose] public section

set_option maxRecDepth 16384

noncomputable section

namespace Cert.Kernel.Dma

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)
/-! ## The pipeline's proof data -/

/-- The windows whose contents the frame does not name: the output. -/
def fgt0 : Fin cfg0.W → Bool
  | ⟨6, _⟩ => true
  | _ => false

/-- The proof data of the one pipeline on core `c`: the arrays as the region finds them (`V`); after the body at
    point `t` each input's buffer at its block, the output's not named; the invariant of a body with transfers of its own; nothing owed; full shares. -/
def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => Dat.unnamed _ t
  Φ _ := Pipeline.ΦDR osem0 spec0 H0 R0 (V m) c
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ X, owns (c : Thread nD τ) (ms0_6 t) fullShare X))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ (∃ X, owns (c : Thread nD τ) (ms0_6 t) fullShare X))

set_option maxHeartbeats 1200000 in
/-- The body at any point: the inputs' memrefs hold their blocks (`before0_W`); so the
    run applies; the invariant (`PhiDR0_eq`) hands the body its scratch, the register, its DMA cells at zero, the HBM operands it reads and those it writes, and takes them back — the written ones at whatever the point left, the rest as they were; the core's `owes` goes in at whatever the points before recorded and comes back with this point's waits, within the next point's bound (everything). -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5]
  rw [show (dats m 0 c).Φ t.succ = (dats m 0 c).Φ t.castSucc from rfl,
    after0_0, after0_1, after0_2, after0_3, after0_4, after0_5]
  rw [show (dats m 0 c).Φ t.castSucc = Pipeline.ΦDR osem0 spec0 H0 R0 (V m) c from rfl, PhiDR0_eq]
  unfold Dat.owesAt Pipeline.owesWithin
  rw [show (dats m 0 c).owed t.castSucc = 0 from rfl, show (dats m 0 c).owed t.succ = 0 from rfl]
  iintro ⟨⟨⟨HS0, HS1, HS2, HS3, HS4, HS5, HS6⟩, Hg, ⟨Hq0, Hq1, Hq2, Hq3, Hq4, Hq5, Hq6, Hq7, Hq8, Hq9, Hq10, Hq11, Hq12, Hq13, Hq14, Hq15, Hq16, Hq17, Hq18, Hq19, Hq20⟩, ⟨Hh0, Hh1⟩, ⟨Hh2, Hh3⟩⟩, ⟨%W, -, HW⟩, ⟨%d0, H0⟩, ⟨%d1, H1⟩, ⟨%d2, H2⟩, ⟨%d3, H3⟩, ⟨%d4, H4⟩, ⟨%d5, H5⟩, ⟨%d6, H6⟩⟩
  iapply ((kernelRun0_A c (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) (iblk m c 0 t) (iblk m c 1 t) (iblk m c 2 t) (iblk m c 3 t) (iblk m c 4 t) (iblk m c 5 t) (V m c main_arg4) (V m c main_arg6)) W _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [HS0]; · iexact HS0
  isplitl [HS1]; · iexact HS1
  isplitl [HS2]; · iexact HS2
  isplitl [HS3]; · iexact HS3
  isplitl [HS4]; · iexact HS4
  isplitl [HS5]; · iexact HS5
  isplitl [HS6]; · iexact HS6
  isplitl [Hq0]; · iexact Hq0
  isplitl [Hq1]; · iexact Hq1
  isplitl [Hq2]; · iexact Hq2
  isplitl [Hq3]; · iexact Hq3
  isplitl [Hq4]; · iexact Hq4
  isplitl [Hq5]; · iexact Hq5
  isplitl [Hq6]; · iexact Hq6
  isplitl [Hq7]; · iexact Hq7
  isplitl [Hq8]; · iexact Hq8
  isplitl [Hq9]; · iexact Hq9
  isplitl [Hq10]; · iexact Hq10
  isplitl [Hq11]; · iexact Hq11
  isplitl [Hq12]; · iexact Hq12
  isplitl [Hq13]; · iexact Hq13
  isplitl [Hq14]; · iexact Hq14
  isplitl [Hq15]; · iexact Hq15
  isplitl [Hq16]; · iexact Hq16
  isplitl [Hq17]; · iexact Hq17
  isplitl [Hq18]; · iexact Hq18
  isplitl [Hq19]; · iexact Hq19
  isplitl [Hq20]; · iexact Hq20
  isplitl [Hh0]; · iexact Hh0
  isplitl [Hh1]; · iexact Hh1
  isplitl [Hh2]; · iexact Hh2
  isplitl [Hh3]; · iexact Hh3
  isplitl [HW]; · iexact HW
  iintro ⟨H0, H1, H2, H3, H4, H5, H6, HS0, HS1, HS2, HS3, HS4, HS5, HS6, Hq0, Hq1, Hq2, Hq3, Hq4, Hq5, Hq6, Hq7, Hq8, Hq9, Hq10, Hq11, Hq12, Hq13, Hq14, Hq15, Hq16, Hq17, Hq18, Hq19, Hq20, Hh0, Hh1, Hh2, Hh3, ⟨%W', HW'⟩⟩
  isplitl [HS0 HS1 HS2 HS3 HS4 HS5 HS6 Hg Hq0 Hq1 Hq2 Hq3 Hq4 Hq5 Hq6 Hq7 Hq8 Hq9 Hq10 Hq11 Hq12 Hq13 Hq14 Hq15 Hq16 Hq17 Hq18 Hq19 Hq20 Hh0 Hh1 Hh2 Hh3]
  · isplitl [HS0 HS1 HS2 HS3 HS4 HS5 HS6]
    · isplitl [HS0]; · iexact HS0
      isplitl [HS1]; · iexact HS1
      isplitl [HS2]; · iexact HS2
      isplitl [HS3]; · iexact HS3
      isplitl [HS4]; · iexact HS4
      isplitl [HS5]; · iexact HS5
      iexact HS6
    isplitl [Hg]
    · iexact Hg
    isplitl [Hq0 Hq1 Hq2 Hq3 Hq4 Hq5 Hq6 Hq7 Hq8 Hq9 Hq10 Hq11 Hq12 Hq13 Hq14 Hq15 Hq16 Hq17 Hq18 Hq19 Hq20]
    · isplitl [Hq0]; · iexact Hq0
      isplitl [Hq1]; · iexact Hq1
      isplitl [Hq2]; · iexact Hq2
      isplitl [Hq3]; · iexact Hq3
      isplitl [Hq4]; · iexact Hq4
      isplitl [Hq5]; · iexact Hq5
      isplitl [Hq6]; · iexact Hq6
      isplitl [Hq7]; · iexact Hq7
      isplitl [Hq8]; · iexact Hq8
      isplitl [Hq9]; · iexact Hq9
      isplitl [Hq10]; · iexact Hq10
      isplitl [Hq11]; · iexact Hq11
      isplitl [Hq12]; · iexact Hq12
      isplitl [Hq13]; · iexact Hq13
      isplitl [Hq14]; · iexact Hq14
      isplitl [Hq15]; · iexact Hq15
      isplitl [Hq16]; · iexact Hq16
      isplitl [Hq17]; · iexact Hq17
      isplitl [Hq18]; · iexact Hq18
      isplitl [Hq19]; · iexact Hq19
      iexact Hq20
    isplitl [Hh0 Hh1]
    · isplitl [Hh0]; · iexact Hh0
      iexact Hh1
    isplitl [Hh2]; · iexact Hh2
    iexact Hh3
  isplitl [HW']
  · iexists W'; isplitr; · ipureintro; exact fun _ _ => Or.inl trivial
    iexact HW'
  isplitl [H0]; · iexact H0
  isplitl [H1]; · iexact H1
  isplitl [H2]; · iexact H2
  isplitl [H3]; · iexact H3
  isplitl [H4]; · iexact H4
  isplitl [H5]; · iexact H5
  iexact H6

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ fgt0 := fun t => by
  rw [bigSep_W0, bigSep_W0, defs₀_row]
  exact triple_restated (sound_body m c t) rfl .rfl fun _ => .rfl

/-! ## The run and the frame -/

-- `θ_run_frame_dmaR`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent : θ_run defs (onTc (τ := τ) (main (F := F))) (s₀ m ρ) (fun r => (Pipeline.RDat.FramePostR cfg0 (fun c => (dats m 0 c).toRForget fgt0) R0 (V m)) r ∧ r.2.sem = fun _ => 0) :=
  Pipeline.θ_run_frame_dmaR_forget (Q' := _) cfgs (dats m) (0 : Fin 1) launch0 osem0 defs₀ Variants.none fgt0 ownSemFacts0 H0 R0 H0_sub R0_sub m ρ main
    (hbody := fun c => (body_obligation m c).loose) (hshare := fun c => (dats m 0 c).share_full fun _ => rfl)
    (howed := fun _ _ => rfl) (V := V m) (hmain := hmain m Variants.none) (hA := A_eq m)
    (hin := fun _ => .rfl) (hout := fun _ => .rfl)

/-- At the compiled mesh, for any values, from any memory with zero counters: every weakly fair execution of @main on the
    TensorCores terminates, and every final state has every array of the pipeline at what the library computes from the
    proof data and every other unscoped buffer but those the body writes by its own transfers (`R0`)
    at its region-entry contents (Lib/Pipeline/Frame.lean `FramePostR`: nothing is said of those). -/
theorem run_main : θ_run defs (onTc (τ := τ) (main (F := F))) (s₀ m ρ) (Pipeline.RDat.FramePostR cfg0 (fun c => (dats m 0 c).toRForget fgt0) R0 (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun _ h c => ⟨((h c).2 main_arg0 (Finset.mem_sdiff.mpr ⟨Pipeline.mem_restRefs_of main_arg0 (by decide) (by decide), by decide⟩)).trans (V_main_arg0 m c),
      ((h c).2 main_arg1 (Finset.mem_sdiff.mpr ⟨Pipeline.mem_restRefs_of main_arg1 (by decide) (by decide), by decide⟩)).trans (V_main_arg1 m c),
      ((h c).2 main_arg2 (Finset.mem_sdiff.mpr ⟨Pipeline.mem_restRefs_of main_arg2 (by decide) (by decide), by decide⟩)).trans (V_main_arg2 m c),
      (Pipeline.RDat.FramePostR.arr_in h c 3 rfl).trans ((A_eq m c 3).trans (V_main_arg3 m c)),
      ((h c).2 main_arg4 (Finset.mem_sdiff.mpr ⟨Pipeline.mem_restRefs_of main_arg4 (by decide) (by decide), by decide⟩)).trans (V_main_arg4 m c),
      ((h c).2 main_arg5 (Finset.mem_sdiff.mpr ⟨Pipeline.mem_restRefs_of main_arg5 (by decide) (by decide), by decide⟩)).trans (V_main_arg5 m c),
      ((h c).2 main_arg6 (Finset.mem_sdiff.mpr ⟨Pipeline.mem_restRefs_of main_arg6 (by decide) (by decide), by decide⟩)).trans (V_main_arg6 m c),
      ((h c).2 main_arg7 (Finset.mem_sdiff.mpr ⟨Pipeline.mem_restRefs_of main_arg7 (by decide) (by decide), by decide⟩)).trans (V_main_arg7 m c)⟩) (run_main m ρ)

/-- THE FRAME: every weakly fair execution ends with the argument arrays unchanged and every semaphore at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7))
      ∧ r.2.sem = fun _ => 0) :=
  θ_run_and (unchanged m ρ) ((θ_run defs _ _).mono (fun _ h => h.2) (run_main_quiescent m ρ))

end Cert.Kernel.Dma

end
-- ==== Proof.KernelIdeal.Kit.lean ====
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameValue
public import Idealize.ShloMosaic.Lib.Pipeline.FrameBody
public import Idealize.ShloMosaic.Lib.Ring
public import Idealize.ShloMosaic.Lib.Tactic
public import Idealize.ShloMosaic.Lib.WordCmp

@[expose] public section

set_option maxRecDepth 16384

noncomputable section

namespace Cert.KernelIdeal.Dma

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)
/-! ## @main up to the region -/

/-- Core `c`'s TensorCore buffers when the region is entered: after the host operations `hostOps0` (Launch.lean). -/
abbrev V (c : Dev nD) (b : Ref sig .tc) : Buf (Elt F) ((c : Thread nD τ).loc b) := StableHlo.after hostOps0 (fun b => m (c, b)) b

theorem hostOps0_fresh : (hostOps0 : List (HloOp τ sig (Elt F))).Forall fun op => op.fresh = ∅ := by
  simp only [List.Forall]; repeat' constructor

set_option maxHeartbeats 800000 in
/-- @main up to the region, at the certificate's variants `𝒱₀`: the host operations then the region
    (`Pipeline.hmain_prefix`: `StableHlo.wp_seq` over the unscoped buffers, off `main_chain`). -/
theorem hmain (𝒱₀ : Variants) : Pipeline.HMain (Ix := Unit) (Name := ℕ) (U := Pipeline.UD sig nD τ) (Lvl := ℕ) cfgs 0 defs₀ 𝒱₀ m (main (F := F)) (V m) :=
  Pipeline.hmain_prefix cfgs 0 defs₀ 𝒱₀ m main hostOps0 hostOps0_sub hostOps0_fresh main_chain

/-- No host operation before the region writes `main_arg0`: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
/-- No host operation before the region writes `main_arg1`: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
/-- No host operation before the region writes `main_arg2`: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
/-- No host operation before the region writes `main_arg3`: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
/-- No host operation before the region writes `main_arg4`: the region finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
/-- No host operation before the region writes `main_arg5`: the region finds it as launched. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
/-- No host operation before the region writes `main_arg6`: the region finds it as launched. -/
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
/-- No host operation before the region writes `main_arg7`: the region finds it as launched. -/
theorem V_main_arg7 (c : Dev nD) : V m c main_arg7 = m ((c : Thread nD τ).loc main_arg7) :=
  StableHlo.after_of_forall_not_mem (b := Proc.devRef .tc main_arg7) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))

/-! ## The windows' blocks -/

/-- Window `w`'s block at point `t`, read off its array as the region finds it (`V`). -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_0_of {c : Dev nD} (dat : Dat τ (Elt F) Unit ℕ (Pipeline.UD sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_1_of {c : Dev nD} (dat : Dat τ (Elt F) Unit ℕ (Pipeline.UD sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_2_of {c : Dev nD} (dat : Dat τ (Elt F) Unit ℕ (Pipeline.UD sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_3_of {c : Dev nD} (dat : Dat τ (Elt F) Unit ℕ (Pipeline.UD sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input window 4's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_4_of {c : Dev nD} (dat : Dat τ (Elt F) Unit ℕ (Pipeline.UD sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
/-- Input window 5's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_5_of {c : Dev nD} (dat : Dat τ (Elt F) Unit ℕ (Pipeline.UD sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)

/-- The operands left in HBM the body WRITES by its own transfers, as references (results accumulated in place; the
    run's post says nothing of them: Lib/Pipeline/Frame.lean `FramePostR`). -/
def R0 : Finset (Ref sig .tc) := {main_v31_0, main_v31_1}

/-! ## The frame claim's post from the frame run's -/

/-- THE FRAME from a frame run: for any proof data whose arrays are the region-entry contents (`hA`), a run to
    Lib/Pipeline/Frame.lean's `FramePostR` read at the argument arrays — a staged input by the library's
    `Dat.arrAt_in`, an array no window stages (none is in `R0`) by the post's second clause, each then by `V_…` — is the frame
    claim's post (`Cert.frame_KernelIdeal`, Defs.lean, at any `F`). -/
theorem frame_of (dats : (p : Fin 1) → (c : Dev nD) → Dat τ (Elt F) Unit ℕ (Pipeline.UD sig nD τ) ℕ (cfgs p) c)
    (hA : ∀ c w, (dats 0 c).A w = V m c (Pipeline.arrRef spec0 w))
    (h : θ_run defs (onTc (τ := τ) (main (F := F))) (s₀ m ρ) (Pipeline.FramePostR cfgs dats 0 R0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun _ h c => ⟨((h c).2 main_arg0 (Finset.mem_sdiff.mpr ⟨Pipeline.mem_restRefs_of main_arg0 (by decide) (by decide), by decide⟩)).trans (V_main_arg0 m c),
      ((h c).2 main_arg1 (Finset.mem_sdiff.mpr ⟨Pipeline.mem_restRefs_of main_arg1 (by decide) (by decide), by decide⟩)).trans (V_main_arg1 m c),
      ((h c).2 main_arg2 (Finset.mem_sdiff.mpr ⟨Pipeline.mem_restRefs_of main_arg2 (by decide) (by decide), by decide⟩)).trans (V_main_arg2 m c),
      ((h c).1 3).trans (((dats 0 c).arrAt_in 3 rfl _).trans ((hA c 3).trans (V_main_arg3 m c))),
      ((h c).2 main_arg4 (Finset.mem_sdiff.mpr ⟨Pipeline.mem_restRefs_of main_arg4 (by decide) (by decide), by decide⟩)).trans (V_main_arg4 m c),
      ((h c).2 main_arg5 (Finset.mem_sdiff.mpr ⟨Pipeline.mem_restRefs_of main_arg5 (by decide) (by decide), by decide⟩)).trans (V_main_arg5 m c),
      ((h c).2 main_arg6 (Finset.mem_sdiff.mpr ⟨Pipeline.mem_restRefs_of main_arg6 (by decide) (by decide), by decide⟩)).trans (V_main_arg6 m c),
      ((h c).2 main_arg7 (Finset.mem_sdiff.mpr ⟨Pipeline.mem_restRefs_of main_arg7 (by decide) (by decide), by decide⟩)).trans (V_main_arg7 m c)⟩) h

/-! ## The kernel body on any staging memrefs: a subtype the run finds -/

/-- One staging buffer of output window 6, through which its contents are stated (`View.read_writes_of_cover`: the
    choice does not matter). -/
abbrev VO0_6 : View sig .tc .vmem S2x144 .f32 := (Memref.whole cc0_stg6_0 : Memref sig .tc .vmem S2x144 .f32).view
/-- Each window's current staging memref at point `t`, spelled as the pipeline passes it (`bodyAt0`), and its wholeness. -/
abbrev ms0_0 (t : Fin cfg0.N) : Memref sig .tc .vmem S288x2304 .fp8e4m3 := win0_0.stage (cfg0.slots t 0)
abbrev hs0_0 (t : Fin cfg0.N) : (ms0_0 t).IsWhole := hstage0_0 0
abbrev ms0_1 (t : Fin cfg0.N) : Memref sig .tc .vmem S288x128 .f32 := win0_1.stage (cfg0.slots t 1)
abbrev hs0_1 (t : Fin cfg0.N) : (ms0_1 t).IsWhole := hstage0_1 0
abbrev ms0_2 (t : Fin cfg0.N) : Memref sig .tc .vmem S288x2304 .f32 := win0_2.stage (cfg0.slots t 2)
abbrev hs0_2 (t : Fin cfg0.N) : (ms0_2 t).IsWhole := hstage0_2 0
abbrev ms0_3 (t : Fin cfg0.N) : Memref sig .tc .vmem S2x2304 .f32 := win0_3.stage (cfg0.slots t 3)
abbrev hs0_3 (t : Fin cfg0.N) : (ms0_3 t).IsWhole := hstage0_3 0
abbrev ms0_4 (t : Fin cfg0.N) : Memref sig .tc .vmem S1x12288 .f32 := win0_4.stage (cfg0.slots t 4)
abbrev hs0_4 (t : Fin cfg0.N) : (ms0_4 t).IsWhole := hstage0_4 0
abbrev ms0_5 (t : Fin cfg0.N) : Memref sig .tc .vmem S1x2304 .f32 := win0_5.stage (cfg0.slots t 5)
abbrev hs0_5 (t : Fin cfg0.N) : (ms0_5 t).IsWhole := hstage0_5 0
abbrev ms0_6 (t : Fin cfg0.N) : Memref sig .tc .vmem S2x144 .f32 := win0_6.stage (cfg0.slots t 6)
abbrev hs0_6 (t : Fin cfg0.N) : (ms0_6 t).IsWhole := hstage0_6 0
/-- The scratch operands: whole scoped buffers of the kernel's own, passed beside the windows. -/
abbrev scM0_0 : Memref sig .tc .vmem S10x2304x768 .fp8e4m3 := Memref.whole cc0_scratch0
abbrev scM0_1 : Memref sig .tc .vmem S3x6144x768 .fp8e4m3 := Memref.whole cc0_scratch1
abbrev scM0_2 : Memref sig .tc .vmem S288x128 .f32 := Memref.whole cc0_scratch2
abbrev scM0_3 : Memref sig .tc .vmem S288x6144 .f32 := Memref.whole cc0_scoped0
abbrev scM0_4 : Memref sig .tc .vmem S288x6144 .fp8e4m3 := Memref.whole cc0_scoped1
abbrev scM0_5 : Memref sig .tc .vmem S288x128 .f32 := Memref.whole cc0_scoped2
abbrev scM0_6 : Memref sig .tc .vmem S288x2304 .bf16 := Memref.whole cc0_scoped3
/-- The operands left in HBM that the body copies into scratch itself, whole. -/
abbrev hbM0_0 : Memref sig .tc .hbm S2304x12288 .fp8e4m3 := Memref.whole main_arg4
abbrev hbM0_1 : Memref sig .tc .hbm S6144x2304 .fp8e4m3 := Memref.whole main_arg6
abbrev hbM0_2 : Memref sig .tc .hbm S2x144x2304 .bf16 := Memref.whole main_v31_0
abbrev hbM0_3 : Memref sig .tc .hbm S2x144x6144 .fp8e4m3 := Memref.whole main_v31_1
/-- Memref `M`'s buffer on core `c`: its contents type, and it held whole at `f` — behind this abbreviation, so that the
    run's rewriting of the goal leaves `Memref.view` intact (the form the executor reads a held buffer in). -/
abbrev HbBuf0 (c : Dev nD) {sp : Space} {S : Shape} {e : EltTy} (M : Memref sig .tc sp S e) : Type := Buf (Elt F) (M.view.loc (c : Thread nD τ))
abbrev hbPt0 (c : Dev nD) {sp : Space} {S : Shape} {e : EltTy} (M : Memref sig .tc sp S e) (f : HbBuf0 (F := F) c M) : sProp 𝕄 :=
  M.view.loc (c : Thread nD τ) ↦{fullShare} f

/-- The body's own DMA semaphores, cell by cell (their numbers in the pool): the kernel's own semaphores for the launch
    (`Pipeline.OwnSemFacts`: none is a window's). -/
abbrev osem0 : Fin 21 → SemLoc sig := fun j => (![SemLoc.dma 7, SemLoc.dma 8, SemLoc.dma 9, SemLoc.dma 10, SemLoc.dma 11, SemLoc.dma 12, SemLoc.dma 13, SemLoc.dma 14, SemLoc.dma 15, SemLoc.dma 16, SemLoc.dma 17, SemLoc.dma 18, SemLoc.dma 19, SemLoc.dma 20, SemLoc.dma 21, SemLoc.dma 22, SemLoc.dma 23, SemLoc.dma 24, SemLoc.dma 25, SemLoc.dma 26, SemLoc.dma 27] : Fin 21 → SemLoc sig) j
theorem ownSemFacts0 : Pipeline.OwnSemFacts spec0 osem0 := by decide
/-- The cells at zero, listed. -/
theorem ownSems00_eq (c : Dev nD) :
    (Pipeline.ownSems0 (Ix := Unit) (Name := ℕ) (U := Pipeline.UD sig nD τ) (Lvl := ℕ) (Val := Elt F) (τ := τ) osem0 c : sProp 𝕄)
      = iprop(semVal ((c : Thread nD τ), SemLoc.dma 7) 0 ∗ semVal ((c : Thread nD τ), SemLoc.dma 8) 0 ∗ semVal ((c : Thread nD τ), SemLoc.dma 9) 0 ∗ semVal ((c : Thread nD τ), SemLoc.dma 10) 0 ∗ semVal ((c : Thread nD τ), SemLoc.dma 11) 0 ∗ semVal ((c : Thread nD τ), SemLoc.dma 12) 0 ∗ semVal ((c : Thread nD τ), SemLoc.dma 13) 0 ∗ semVal ((c : Thread nD τ), SemLoc.dma 14) 0 ∗ semVal ((c : Thread nD τ), SemLoc.dma 15) 0 ∗ semVal ((c : Thread nD τ), SemLoc.dma 16) 0 ∗ semVal ((c : Thread nD τ), SemLoc.dma 17) 0 ∗ semVal ((c : Thread nD τ), SemLoc.dma 18) 0 ∗ semVal ((c : Thread nD τ), SemLoc.dma 19) 0 ∗ semVal ((c : Thread nD τ), SemLoc.dma 20) 0 ∗ semVal ((c : Thread nD τ), SemLoc.dma 21) 0 ∗ semVal ((c : Thread nD τ), SemLoc.dma 22) 0 ∗ semVal ((c : Thread nD τ), SemLoc.dma 23) 0 ∗ semVal ((c : Thread nD τ), SemLoc.dma 24) 0 ∗ semVal ((c : Thread nD τ), SemLoc.dma 25) 0 ∗ semVal ((c : Thread nD τ), SemLoc.dma 26) 0 ∗ semVal ((c : Thread nD τ), SemLoc.dma 27) 0) := by
  rw [Pipeline.ownSems0_eq_of_list c osem0 [0, 1, 2, 3, 4, 5, 6, 7, 8, 9, 10, 11, 12, 13, 14, 15, 16, 17, 18, 19, 20] (by decide) (by decide)]; rfl
/-- The HBM operands the body copies from and leaves unchanged, as references: unscoped, no window's array (`Pipeline.restRefs`). -/
def H0 : Finset (Ref sig .tc) := {main_arg4, main_arg6}
theorem H0_sub : H0 ⊆ Pipeline.restRefs sig spec0 := by decide
/-- The ones it writes (`R0`, stated with the kit) are unscoped, no window's array, and none of `H0`. -/
theorem R0_sub : R0 ⊆ Pipeline.restRefs sig spec0 \ H0 := by decide
/-- The read operands' points-tos at the launch contents, listed. -/
theorem hbmPts0_eq (c : Dev nD) :
    (bigSep H0 (fun b => ((c : Thread nD τ).loc b) ↦{fullShare} V m c b) : sProp 𝕄) = iprop(hbPt0 c hbM0_0 (V m c main_arg4) ∗ hbPt0 c hbM0_1 (V m c main_arg6)) := by
  rw [BI.bigSep_eq_bigSepL_of_eq [main_arg4, main_arg6] (by decide) (by decide)]; rfl
/-- The written operands' points-tos at some contents each (`Pipeline.owned`), listed. -/
theorem ownedPts0_eq (c : Dev nD) :
    (Pipeline.owned R0 c : sProp 𝕄) = iprop((∃ f, hbPt0 c hbM0_2 f) ∗ (∃ f, hbPt0 c hbM0_3 f)) := by
  unfold Pipeline.owned; rw [BI.bigSep_eq_bigSepL_of_eq [main_v31_0, main_v31_1] (by decide) (by decide)]; rfl

/-- The invariant of a body with transfers of its own that write some HBM operands, `Pipeline.ΦDR`, conjunct by conjunct:
    the scratch operands owned at some contents, the generator register at some state, the own cells at zero, the HBM
    operands read at their launch contents, the HBM operands written at some contents — what the body obligation hands
    the run and takes back. -/
theorem PhiDR0_eq (c : Dev nD) :
    (Pipeline.ΦDR osem0 spec0 H0 R0 (V m) c : sProp 𝕄)
      = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d) ∗ (∃ d, owns (c : Thread nD τ) scM0_4 fullShare d) ∗ (∃ d, owns (c : Thread nD τ) scM0_5 fullShare d) ∗ (∃ d, owns (c : Thread nD τ) scM0_6 fullShare d)) ∗ (∃ r, prngReg c r) ∗ iprop(semVal ((c : Thread nD τ), SemLoc.dma 7) 0 ∗ semVal ((c : Thread nD τ), SemLoc.dma 8) 0 ∗ semVal ((c : Thread nD τ), SemLoc.dma 9) 0 ∗ semVal ((c : Thread nD τ), SemLoc.dma 10) 0 ∗ semVal ((c : Thread nD τ), SemLoc.dma 11) 0 ∗ semVal ((c : Thread nD τ), SemLoc.dma 12) 0 ∗ semVal ((c : Thread nD τ), SemLoc.dma 13) 0 ∗ semVal ((c : Thread nD τ), SemLoc.dma 14) 0 ∗ semVal ((c : Thread nD τ), SemLoc.dma 15) 0 ∗ semVal ((c : Thread nD τ), SemLoc.dma 16) 0 ∗ semVal ((c : Thread nD τ), SemLoc.dma 17) 0 ∗ semVal ((c : Thread nD τ), SemLoc.dma 18) 0 ∗ semVal ((c : Thread nD τ), SemLoc.dma 19) 0 ∗ semVal ((c : Thread nD τ), SemLoc.dma 20) 0 ∗ semVal ((c : Thread nD τ), SemLoc.dma 21) 0 ∗ semVal ((c : Thread nD τ), SemLoc.dma 22) 0 ∗ semVal ((c : Thread nD τ), SemLoc.dma 23) 0 ∗ semVal ((c : Thread nD τ), SemLoc.dma 24) 0 ∗ semVal ((c : Thread nD τ), SemLoc.dma 25) 0 ∗ semVal ((c : Thread nD τ), SemLoc.dma 26) 0 ∗ semVal ((c : Thread nD τ), SemLoc.dma 27) 0) ∗ iprop(hbPt0 c hbM0_0 (V m c main_arg4) ∗ hbPt0 c hbM0_1 (V m c main_arg6)) ∗ iprop((∃ f, hbPt0 c hbM0_2 f) ∗ (∃ f, hbPt0 c hbM0_3 f))) := by
  rw [Pipeline.ΦDR_eq, scopedRest0_eq, ownSems00_eq, hbmPts0_eq, ownedPts0_eq]; simp only [scM0_0, scM0_1, scM0_2, scM0_3, scM0_4, scM0_5, scM0_6, owns_whole]; try rfl

end Cert.KernelIdeal.Dma

end
-- ==== Proof.KernelIdeal.Trip.lean ====
module

public import proofs.«01_k».proof.Proof.KernelIdeal.Kit
public import proofs.«01_k».proof.Proof.Gen.KernelIdeal.Loops

@[expose] public section

set_option maxRecDepth 16384

noncomputable section

namespace Cert.KernelIdeal.Dma

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)
/-- One trip of the loop that makes the codes: the pieces it stores into the scales and into the codes, and its triple. -/
@[irreducible] def trip (𝒱 : Variants) (c : Dev nD) (bd : Option 𝒱.V) (arg0 : Memref sig .tc .vmem S288x2304 .fp8e4m3) (harg0 : arg0.IsWhole) (arg1 : Memref sig .tc .vmem S288x128 .f32) (harg1 : arg1.IsWhole) (arg2 : Memref sig .tc .vmem S288x2304 .f32) (harg2 : arg2.IsWhole) (arg3 : Memref sig .tc .vmem S2x2304 .f32) (harg3 : arg3.IsWhole) (arg4 : Memref sig .tc .hbm S2304x12288 .fp8e4m3) (harg4 : arg4.IsWhole) (arg5 : Memref sig .tc .vmem S1x12288 .f32) (harg5 : arg5.IsWhole) (arg6 : Memref sig .tc .hbm S6144x2304 .fp8e4m3) (harg6 : arg6.IsWhole) (arg7 : Memref sig .tc .vmem S1x2304 .f32) (harg7 : arg7.IsWhole) (arg8 : Memref sig .tc .hbm S2x144x2304 .bf16) (harg8 : arg8.IsWhole) (arg9 : Memref sig .tc .hbm S2x144x6144 .fp8e4m3) (harg9 : arg9.IsWhole) (arg10 : Memref sig .tc .vmem S2x144 .f32) (harg10 : arg10.IsWhole) (arg11 : Memref sig .tc .vmem S10x2304x768 .fp8e4m3) (harg11 : arg11.IsWhole) (arg12 : Memref sig .tc .vmem S3x6144x768 .fp8e4m3) (harg12 : arg12.IsWhole) (arg13 : Memref sig .tc .vmem S288x128 .f32) (harg13 : arg13.IsWhole) (arg14 : DmaSems sig S10) (arg15 : DmaSems sig S3) (arg16 : DmaSems sig S8) (alloca_r0 : Memref sig .tc .vmem S288x6144 .f32) (halloca_r0 : alloca_r0.IsWhole) (alloca_62_r0 : Memref sig .tc .vmem S288x6144 .fp8e4m3) (halloca_62_r0 : alloca_62_r0.IsWhole) (alloca_63_r0 : Memref sig .tc .vmem S288x128 .f32) (halloca_63_r0 : alloca_63_r0.IsWhole) (alloca_64_r0 : Memref sig .tc .vmem S288x2304 .bf16) (halloca_64_r0 : alloca_64_r0.IsWhole) (X : BufTy.Contents (Elt F) alloca_r0.view.ty) (Y : BufTy.Contents (Elt F) alloca_63_r0.view.ty) (k : Fin k0_t2_loop.trips) :
    Σ' (LS : List (View.Piece (Elt F) S288x128 .f32)), { LC : List (View.Piece (Elt F) S288x6144 .fp8e4m3) // ∀ (E : Set ℕ) (acc : BitVec 32) (f : BufTy.Contents (Elt F) arg13.view.ty) (g : BufTy.Contents (Elt F) alloca_62_r0.view.ty),
      iprop((alloca_r0.view.loc (c : Thread nD τ) ↦[alloca_r0.view.set]{fullShare} X) ∗ (alloca_63_r0.view.loc (c : Thread nD τ) ↦[alloca_63_r0.view.set]{fullShare} Y) ∗ (arg13.view.loc (c : Thread nD τ) ↦[arg13.view.set]{fullShare} f) ∗ (alloca_62_r0.view.loc (c : Thread nD τ) ↦[alloca_62_r0.view.set]{fullShare} g))
      ⊢ wp (M := 𝕄) frame (wpE (defs₀ (F := F)) 𝒱 (c : Thread nD τ) bd) E (k0_t2_body (F := F) arg0 harg0 arg1 harg1 arg2 harg2 arg3 harg3 arg4 harg4 arg5 harg5 arg6 harg6 arg7 harg7 arg8 harg8 arg9 harg9 arg10 harg10 arg11 harg11 arg12 harg12 arg13 harg13 arg14 arg15 arg16 alloca_r0 halloca_r0 alloca_62_r0 halloca_62_r0 alloca_63_r0 halloca_63_r0 alloca_64_r0 halloca_64_r0 k acc)
          (fun _ => iprop((alloca_r0.view.loc (c : Thread nD τ) ↦[alloca_r0.view.set]{fullShare} X) ∗ (alloca_63_r0.view.loc (c : Thread nD τ) ↦[alloca_63_r0.view.set]{fullShare} Y) ∗ (arg13.view.loc (c : Thread nD τ) ↦[arg13.view.set]{fullShare} (arg13.view.writes (Elt F) f LS)) ∗ (alloca_62_r0.view.loc (c : Thread nD τ) ↦[alloca_62_r0.view.set]{fullShare} (alloca_62_r0.view.writes (Elt F) g LC)))) } := by
  have hk : k.val < 9 := Nat.lt_of_lt_of_le k.isLt k0_t2_abs.2.1
  refine ⟨?_, ?_, fun E acc f g => ?run⟩
  case run =>
    unfold k0_t2_body
    iintro ⟨HX, HY, HS, HC⟩
    sl_exec
    sl_step
    sl_close

/-- A buffer after the first `k` trips, each storing its pieces. -/
def stored {s : Shape} {e : EltTy} (M : Memref sig .tc .vmem s e) (f : BufTy.Contents (Elt F) M.view.ty) (L : Fin k0_t2_loop.trips → List (View.Piece (Elt F) s e)) : ℕ → BufTy.Contents (Elt F) M.view.ty
  | 0 => f
  | k + 1 => if h : k < k0_t2_loop.trips then M.view.writes (Elt F) (stored M f L k) (L ⟨k, h⟩) else stored M f L k

theorem stored_succ {s : Shape} {e : EltTy} (M : Memref sig .tc .vmem s e) (f : BufTy.Contents (Elt F) M.view.ty) (L : Fin k0_t2_loop.trips → List (View.Piece (Elt F) s e)) (k : Fin k0_t2_loop.trips) :
    stored M f L (k.val + 1) = M.view.writes (Elt F) (stored M f L k.val) (L k) := by
  rw [stored, dif_pos k.isLt]

/-- The pieces a trip stores into the scales. -/
def scalePieces (𝒱 : Variants) (c : Dev nD) (bd : Option 𝒱.V) (arg0 : Memref sig .tc .vmem S288x2304 .fp8e4m3) (harg0 : arg0.IsWhole) (arg1 : Memref sig .tc .vmem S288x128 .f32) (harg1 : arg1.IsWhole) (arg2 : Memref sig .tc .vmem S288x2304 .f32) (harg2 : arg2.IsWhole) (arg3 : Memref sig .tc .vmem S2x2304 .f32) (harg3 : arg3.IsWhole) (arg4 : Memref sig .tc .hbm S2304x12288 .fp8e4m3) (harg4 : arg4.IsWhole) (arg5 : Memref sig .tc .vmem S1x12288 .f32) (harg5 : arg5.IsWhole) (arg6 : Memref sig .tc .hbm S6144x2304 .fp8e4m3) (harg6 : arg6.IsWhole) (arg7 : Memref sig .tc .vmem S1x2304 .f32) (harg7 : arg7.IsWhole) (arg8 : Memref sig .tc .hbm S2x144x2304 .bf16) (harg8 : arg8.IsWhole) (arg9 : Memref sig .tc .hbm S2x144x6144 .fp8e4m3) (harg9 : arg9.IsWhole) (arg10 : Memref sig .tc .vmem S2x144 .f32) (harg10 : arg10.IsWhole) (arg11 : Memref sig .tc .vmem S10x2304x768 .fp8e4m3) (harg11 : arg11.IsWhole) (arg12 : Memref sig .tc .vmem S3x6144x768 .fp8e4m3) (harg12 : arg12.IsWhole) (arg13 : Memref sig .tc .vmem S288x128 .f32) (harg13 : arg13.IsWhole) (arg14 : DmaSems sig S10) (arg15 : DmaSems sig S3) (arg16 : DmaSems sig S8) (alloca_r0 : Memref sig .tc .vmem S288x6144 .f32) (halloca_r0 : alloca_r0.IsWhole) (alloca_62_r0 : Memref sig .tc .vmem S288x6144 .fp8e4m3) (halloca_62_r0 : alloca_62_r0.IsWhole) (alloca_63_r0 : Memref sig .tc .vmem S288x128 .f32) (halloca_63_r0 : alloca_63_r0.IsWhole) (alloca_64_r0 : Memref sig .tc .vmem S288x2304 .bf16) (halloca_64_r0 : alloca_64_r0.IsWhole) (X : BufTy.Contents (Elt F) alloca_r0.view.ty) (Y : BufTy.Contents (Elt F) alloca_63_r0.view.ty) (k : Fin k0_t2_loop.trips) : List (View.Piece (Elt F) S288x128 .f32) := (trip 𝒱 c bd arg0 harg0 arg1 harg1 arg2 harg2 arg3 harg3 arg4 harg4 arg5 harg5 arg6 harg6 arg7 harg7 arg8 harg8 arg9 harg9 arg10 harg10 arg11 harg11 arg12 harg12 arg13 harg13 arg14 arg15 arg16 alloca_r0 halloca_r0 alloca_62_r0 halloca_62_r0 alloca_63_r0 halloca_63_r0 alloca_64_r0 halloca_64_r0 X Y k).1

/-- The pieces a trip stores into the codes. -/
def codePieces (𝒱 : Variants) (c : Dev nD) (bd : Option 𝒱.V) (arg0 : Memref sig .tc .vmem S288x2304 .fp8e4m3) (harg0 : arg0.IsWhole) (arg1 : Memref sig .tc .vmem S288x128 .f32) (harg1 : arg1.IsWhole) (arg2 : Memref sig .tc .vmem S288x2304 .f32) (harg2 : arg2.IsWhole) (arg3 : Memref sig .tc .vmem S2x2304 .f32) (harg3 : arg3.IsWhole) (arg4 : Memref sig .tc .hbm S2304x12288 .fp8e4m3) (harg4 : arg4.IsWhole) (arg5 : Memref sig .tc .vmem S1x12288 .f32) (harg5 : arg5.IsWhole) (arg6 : Memref sig .tc .hbm S6144x2304 .fp8e4m3) (harg6 : arg6.IsWhole) (arg7 : Memref sig .tc .vmem S1x2304 .f32) (harg7 : arg7.IsWhole) (arg8 : Memref sig .tc .hbm S2x144x2304 .bf16) (harg8 : arg8.IsWhole) (arg9 : Memref sig .tc .hbm S2x144x6144 .fp8e4m3) (harg9 : arg9.IsWhole) (arg10 : Memref sig .tc .vmem S2x144 .f32) (harg10 : arg10.IsWhole) (arg11 : Memref sig .tc .vmem S10x2304x768 .fp8e4m3) (harg11 : arg11.IsWhole) (arg12 : Memref sig .tc .vmem S3x6144x768 .fp8e4m3) (harg12 : arg12.IsWhole) (arg13 : Memref sig .tc .vmem S288x128 .f32) (harg13 : arg13.IsWhole) (arg14 : DmaSems sig S10) (arg15 : DmaSems sig S3) (arg16 : DmaSems sig S8) (alloca_r0 : Memref sig .tc .vmem S288x6144 .f32) (halloca_r0 : alloca_r0.IsWhole) (alloca_62_r0 : Memref sig .tc .vmem S288x6144 .fp8e4m3) (halloca_62_r0 : alloca_62_r0.IsWhole) (alloca_63_r0 : Memref sig .tc .vmem S288x128 .f32) (halloca_63_r0 : alloca_63_r0.IsWhole) (alloca_64_r0 : Memref sig .tc .vmem S288x2304 .bf16) (halloca_64_r0 : alloca_64_r0.IsWhole) (X : BufTy.Contents (Elt F) alloca_r0.view.ty) (Y : BufTy.Contents (Elt F) alloca_63_r0.view.ty) (k : Fin k0_t2_loop.trips) : List (View.Piece (Elt F) S288x6144 .fp8e4m3) := (trip 𝒱 c bd arg0 harg0 arg1 harg1 arg2 harg2 arg3 harg3 arg4 harg4 arg5 harg5 arg6 harg6 arg7 harg7 arg8 harg8 arg9 harg9 arg10 harg10 arg11 harg11 arg12 harg12 arg13 harg13 arg14 arg15 arg16 alloca_r0 halloca_r0 alloca_62_r0 halloca_62_r0 alloca_63_r0 halloca_63_r0 alloca_64_r0 halloca_64_r0 X Y k).2.1

/-- The loop that makes the codes: before trip `k` the scales and the codes hold what the earlier trips stored. -/
@[sl_loop, reducible] def loopInv_k0_t2 (𝒱 : Variants) (c : Dev nD) (bd : Option 𝒱.V) (E : Set ℕ) (arg0 : Memref sig .tc .vmem S288x2304 .fp8e4m3) (harg0 : arg0.IsWhole) (arg1 : Memref sig .tc .vmem S288x128 .f32) (harg1 : arg1.IsWhole) (arg2 : Memref sig .tc .vmem S288x2304 .f32) (harg2 : arg2.IsWhole) (arg3 : Memref sig .tc .vmem S2x2304 .f32) (harg3 : arg3.IsWhole) (arg4 : Memref sig .tc .hbm S2304x12288 .fp8e4m3) (harg4 : arg4.IsWhole) (arg5 : Memref sig .tc .vmem S1x12288 .f32) (harg5 : arg5.IsWhole) (arg6 : Memref sig .tc .hbm S6144x2304 .fp8e4m3) (harg6 : arg6.IsWhole) (arg7 : Memref sig .tc .vmem S1x2304 .f32) (harg7 : arg7.IsWhole) (arg8 : Memref sig .tc .hbm S2x144x2304 .bf16) (harg8 : arg8.IsWhole) (arg9 : Memref sig .tc .hbm S2x144x6144 .fp8e4m3) (harg9 : arg9.IsWhole) (arg10 : Memref sig .tc .vmem S2x144 .f32) (harg10 : arg10.IsWhole) (arg11 : Memref sig .tc .vmem S10x2304x768 .fp8e4m3) (harg11 : arg11.IsWhole) (arg12 : Memref sig .tc .vmem S3x6144x768 .fp8e4m3) (harg12 : arg12.IsWhole) (arg13 : Memref sig .tc .vmem S288x128 .f32) (harg13 : arg13.IsWhole) (arg14 : DmaSems sig S10) (arg15 : DmaSems sig S3) (arg16 : DmaSems sig S8) (alloca_r0 : Memref sig .tc .vmem S288x6144 .f32) (halloca_r0 : alloca_r0.IsWhole) (alloca_62_r0 : Memref sig .tc .vmem S288x6144 .fp8e4m3) (halloca_62_r0 : alloca_62_r0.IsWhole) (alloca_63_r0 : Memref sig .tc .vmem S288x128 .f32) (halloca_63_r0 : alloca_63_r0.IsWhole) (alloca_64_r0 : Memref sig .tc .vmem S288x2304 .bf16) (halloca_64_r0 : alloca_64_r0.IsWhole) (X : BufTy.Contents (Elt F) alloca_r0.view.ty) (Y : BufTy.Contents (Elt F) alloca_63_r0.view.ty) (f0 : BufTy.Contents (Elt F) arg13.view.ty) (g0 : BufTy.Contents (Elt F) alloca_62_r0.view.ty) (init : BitVec 32) :
    LoopInvTy_k0_t2 (F := F) Unit ℕ (Pipeline.UD sig nD τ) ℕ 𝒱 c bd E arg0 harg0 arg1 harg1 arg2 harg2 arg3 harg3 arg4 harg4 arg5 harg5 arg6 harg6 arg7 harg7 arg8 harg8 arg9 harg9 arg10 harg10 arg11 harg11 arg12 harg12 arg13 harg13 arg14 arg15 arg16 alloca_r0 halloca_r0 alloca_62_r0 halloca_62_r0 alloca_63_r0 halloca_63_r0 alloca_64_r0 halloca_64_r0 init where
  inv k _ := iprop((alloca_r0.view.loc (c : Thread nD τ) ↦[alloca_r0.view.set]{fullShare} X) ∗ (alloca_63_r0.view.loc (c : Thread nD τ) ↦[alloca_63_r0.view.set]{fullShare} Y)
    ∗ (∃ f, (arg13.view.loc (c : Thread nD τ) ↦[arg13.view.set]{fullShare} f) ∗ ⌜f = stored arg13 f0 (scalePieces 𝒱 c bd arg0 harg0 arg1 harg1 arg2 harg2 arg3 harg3 arg4 harg4 arg5 harg5 arg6 harg6 arg7 harg7 arg8 harg8 arg9 harg9 arg10 harg10 arg11 harg11 arg12 harg12 arg13 harg13 arg14 arg15 arg16 alloca_r0 halloca_r0 alloca_62_r0 halloca_62_r0 alloca_63_r0 halloca_63_r0 alloca_64_r0 halloca_64_r0 X Y) k⌝)
    ∗ (∃ g, (alloca_62_r0.view.loc (c : Thread nD τ) ↦[alloca_62_r0.view.set]{fullShare} g) ∗ ⌜g = stored alloca_62_r0 g0 (codePieces 𝒱 c bd arg0 harg0 arg1 harg1 arg2 harg2 arg3 harg3 arg4 harg4 arg5 harg5 arg6 harg6 arg7 harg7 arg8 harg8 arg9 harg9 arg10 harg10 arg11 harg11 arg12 harg12 arg13 harg13 arg14 arg15 arg16 alloca_r0 halloca_r0 alloca_62_r0 halloca_62_r0 alloca_63_r0 halloca_63_r0 alloca_64_r0 halloca_64_r0 X Y) k⌝))
  step k acc := by
    iintro ⟨HX, HY, ⟨%f, HS, %hf⟩, ⟨%g, HC, %hg⟩⟩
    subst hf; subst hg
    iapply (wp_wand_r Idealize.ShloMosaic.frame (wpE (defs₀ (F := F)) 𝒱 (c : Thread nD τ) bd) E)
    isplitl [HX HY HS HC]
    · iapply (trip (F := F) 𝒱 c bd arg0 harg0 arg1 harg1 arg2 harg2 arg3 harg3 arg4 harg4 arg5 harg5 arg6 harg6 arg7 harg7 arg8 harg8 arg9 harg9 arg10 harg10 arg11 harg11 arg12 harg12 arg13 harg13 arg14 arg15 arg16 alloca_r0 halloca_r0 alloca_62_r0 halloca_62_r0 alloca_63_r0 halloca_63_r0 alloca_64_r0 halloca_64_r0 X Y k).2.2 E acc _ _
      isplitl [HX]; · iexact HX
      isplitl [HY]; · iexact HY
      isplitl [HS]; · iexact HS
      iexact HC
    iintro %_ ⟨HX, HY, HS, HC⟩
    isplitl [HX]; · iexact HX
    isplitl [HY]; · iexact HY
    isplitl [HS]
    · iexists _; isplitl [HS]; · iexact HS
      ipureintro; exact (stored_succ arg13 f0 _ k).symm
    iexists _; isplitl [HC]; · iexact HC
    ipureintro; exact (stored_succ alloca_62_r0 g0 _ k).symm

end Cert.KernelIdeal.Dma

end
-- ==== Proof.KernelIdeal.Run.lean ====
module

public import proofs.«01_k».proof.Proof.KernelIdeal.Trip

@[expose] public section

set_option maxRecDepth 16384

noncomputable section

namespace Cert.KernelIdeal.Dma

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)
-- (the run's proof term is large: checking it walks past the default budget)
set_option maxHeartbeats 4000000 in set_option sl_exec.dmaWindow true in set_option sl_exec.dmaWindowSet true in set_option sl_exec.unrollTrips 8 in set_option sl_exec.lendShare "HS4" in set_option sl_exec.rejoinHeartbeats 400000 in
/-- The body's triple: on whole staging memrefs, the inputs' at their contents, the body runs to the continuation
    holding the inputs' as they were, the scratch and the results at some contents. -/
theorem kernelRun0_A (c : Dev nD) (arg0 : Memref sig .tc .vmem S288x2304 .fp8e4m3) (harg0 : arg0.IsWhole) (arg1 : Memref sig .tc .vmem S288x128 .f32) (harg1 : arg1.IsWhole) (arg2 : Memref sig .tc .vmem S288x2304 .f32) (harg2 : arg2.IsWhole) (arg3 : Memref sig .tc .vmem S2x2304 .f32) (harg3 : arg3.IsWhole) (arg5 : Memref sig .tc .vmem S1x12288 .f32) (harg5 : arg5.IsWhole) (arg7 : Memref sig .tc .vmem S1x2304 .f32) (harg7 : arg7.IsWhole) (arg10 : Memref sig .tc .vmem S2x144 .f32) (harg10 : arg10.IsWhole) (arg11 : Memref sig .tc .vmem S10x2304x768 .fp8e4m3) (harg11 : arg11.IsWhole) (arg12 : Memref sig .tc .vmem S3x6144x768 .fp8e4m3) (harg12 : arg12.IsWhole) (arg13 : Memref sig .tc .vmem S288x128 .f32) (harg13 : arg13.IsWhole) (alloca_r0 : Memref sig .tc .vmem S288x6144 .f32) (halloca_r0 : alloca_r0.IsWhole) (alloca_62_r0 : Memref sig .tc .vmem S288x6144 .fp8e4m3) (halloca_62_r0 : alloca_62_r0.IsWhole) (alloca_63_r0 : Memref sig .tc .vmem S288x128 .f32) (halloca_63_r0 : alloca_63_r0.IsWhole) (alloca_64_r0 : Memref sig .tc .vmem S288x2304 .bf16) (halloca_64_r0 : alloca_64_r0.IsWhole)
    (x0 : Vec F S288x2304 .fp8e4m3) (x1 : Vec F S288x128 .f32) (x2 : Vec F S288x2304 .f32) (x3 : Vec F S2x2304 .f32) (x4 : Vec F S1x12288 .f32) (x5 : Vec F S1x2304 .f32) (fh0 : HbBuf0 (F := F) c hbM0_0) (fh1 : HbBuf0 (F := F) c hbM0_1) :
      ∀ (W : Waits sig Unit) (K : PUnit → sProp 𝕄),
        iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg5 fullShare x4 ∗ owns (c : Thread nD τ) arg7 fullShare x5 ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) alloca_r0 fullShare d) ∗ (∃ d, owns (c : Thread nD τ) alloca_62_r0 fullShare d) ∗ (∃ d, owns (c : Thread nD τ) alloca_63_r0 fullShare d) ∗ (∃ d, owns (c : Thread nD τ) alloca_64_r0 fullShare d) ∗ semVal ((c : Thread nD τ), SemLoc.dma 7) 0 ∗ semVal ((c : Thread nD τ), SemLoc.dma 8) 0 ∗ semVal ((c : Thread nD τ), SemLoc.dma 9) 0 ∗ semVal ((c : Thread nD τ), SemLoc.dma 10) 0 ∗ semVal ((c : Thread nD τ), SemLoc.dma 11) 0 ∗ semVal ((c : Thread nD τ), SemLoc.dma 12) 0 ∗ semVal ((c : Thread nD τ), SemLoc.dma 13) 0 ∗ semVal ((c : Thread nD τ), SemLoc.dma 14) 0 ∗ semVal ((c : Thread nD τ), SemLoc.dma 15) 0 ∗ semVal ((c : Thread nD τ), SemLoc.dma 16) 0 ∗ semVal ((c : Thread nD τ), SemLoc.dma 17) 0 ∗ semVal ((c : Thread nD τ), SemLoc.dma 18) 0 ∗ semVal ((c : Thread nD τ), SemLoc.dma 19) 0 ∗ semVal ((c : Thread nD τ), SemLoc.dma 20) 0 ∗ semVal ((c : Thread nD τ), SemLoc.dma 21) 0 ∗ semVal ((c : Thread nD τ), SemLoc.dma 22) 0 ∗ semVal ((c : Thread nD τ), SemLoc.dma 23) 0 ∗ semVal ((c : Thread nD τ), SemLoc.dma 24) 0 ∗ semVal ((c : Thread nD τ), SemLoc.dma 25) 0 ∗ semVal ((c : Thread nD τ), SemLoc.dma 26) 0 ∗ semVal ((c : Thread nD τ), SemLoc.dma 27) 0 ∗ hbPt0 c hbM0_0 fh0 ∗ hbPt0 c hbM0_1 fh1 ∗ (∃ f, hbPt0 c hbM0_2 f) ∗ (∃ f, hbPt0 c hbM0_3 f) ∗ owes (c : Thread nD τ) 0 W
            ∗ (iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg5 fullShare x4 ∗ owns (c : Thread nD τ) arg7 fullShare x5 ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) alloca_r0 fullShare d) ∗ (∃ d, owns (c : Thread nD τ) alloca_62_r0 fullShare d) ∗ (∃ d, owns (c : Thread nD τ) alloca_63_r0 fullShare d) ∗ (∃ d, owns (c : Thread nD τ) alloca_64_r0 fullShare d) ∗ semVal ((c : Thread nD τ), SemLoc.dma 7) 0 ∗ semVal ((c : Thread nD τ), SemLoc.dma 8) 0 ∗ semVal ((c : Thread nD τ), SemLoc.dma 9) 0 ∗ semVal ((c : Thread nD τ), SemLoc.dma 10) 0 ∗ semVal ((c : Thread nD τ), SemLoc.dma 11) 0 ∗ semVal ((c : Thread nD τ), SemLoc.dma 12) 0 ∗ semVal ((c : Thread nD τ), SemLoc.dma 13) 0 ∗ semVal ((c : Thread nD τ), SemLoc.dma 14) 0 ∗ semVal ((c : Thread nD τ), SemLoc.dma 15) 0 ∗ semVal ((c : Thread nD τ), SemLoc.dma 16) 0 ∗ semVal ((c : Thread nD τ), SemLoc.dma 17) 0 ∗ semVal ((c : Thread nD τ), SemLoc.dma 18) 0 ∗ semVal ((c : Thread nD τ), SemLoc.dma 19) 0 ∗ semVal ((c : Thread nD τ), SemLoc.dma 20) 0 ∗ semVal ((c : Thread nD τ), SemLoc.dma 21) 0 ∗ semVal ((c : Thread nD τ), SemLoc.dma 22) 0 ∗ semVal ((c : Thread nD τ), SemLoc.dma 23) 0 ∗ semVal ((c : Thread nD τ), SemLoc.dma 24) 0 ∗ semVal ((c : Thread nD τ), SemLoc.dma 25) 0 ∗ semVal ((c : Thread nD τ), SemLoc.dma 26) 0 ∗ semVal ((c : Thread nD τ), SemLoc.dma 27) 0 ∗ hbPt0 c hbM0_0 fh0 ∗ hbPt0 c hbM0_1 fh1 ∗ (∃ f, hbPt0 c hbM0_2 f) ∗ (∃ f, hbPt0 c hbM0_3 f) ∗ (∃ W', owes (c : Thread nD τ) 0 W')) -∗ K ⟨⟩))
          ⊢ wp frame (wpE (defs₀ (F := F)) Variants.none c none) Set.univ (cc0_ras_step arg0 harg0 arg1 harg1 arg2 harg2 arg3 harg3 (Memref.whole main_arg4) (Memref.isWhole_whole _) arg5 harg5 (Memref.whole main_arg6) (Memref.isWhole_whole _) arg7 harg7 (Memref.whole main_v31_0) (Memref.isWhole_whole _) (Memref.whole main_v31_1) (Memref.isWhole_whole _) arg10 harg10 arg11 harg11 arg12 harg12 arg13 harg13 cc0_scratch3 cc0_scratch4 cc0_scratch5 alloca_r0 halloca_r0 alloca_62_r0 halloca_62_r0 alloca_63_r0 halloca_63_r0 alloca_64_r0 halloca_64_r0) K := by
    intro W K
    simp only [cc0_ras_step_eq_skeleton]; unfold cc0_ras_step_skel
    simp only [k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%ds0, %fs0, -, HS0⟩, ⟨%ds1, %fs1, -, HS1⟩, ⟨%ds2, %fs2, -, HS2⟩, ⟨%ds3, %fs3, -, HS3⟩, ⟨%ds4, %fs4, -, HS4⟩, ⟨%ds5, %fs5, -, HS5⟩, ⟨%ds6, %fs6, -, HS6⟩, Hq0, Hq1, Hq2, Hq3, Hq4, Hq5, Hq6, Hq7, Hq8, Hq9, Hq10, Hq11, Hq12, Hq13, Hq14, Hq15, Hq16, Hq17, Hq18, Hq19, Hq20, Hh0, Hh1, ⟨%fw2, Hh2⟩, ⟨%fw3, Hh3⟩, HW, Hk⟩
    obtain rfl := harg0.eq_unread hf0; obtain rfl := harg1.eq_unread hf1; obtain rfl := harg2.eq_unread hf2; obtain rfl := harg3.eq_unread hf3; obtain rfl := harg5.eq_unread hf4; obtain rfl := harg7.eq_unread hf5
    sl_exec
    sl_step
    iapply Hk
    isplitl [H0]
    · iexists _; isplitr; · ipureintro; exact harg0.read_unread _
      iexact H0
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg5.read_unread _
      iexact H4
    isplitl [H5]
    · iexists _; isplitr; · ipureintro; exact harg7.read_unread _
      iexact H5
    isplitl [H6]
    · iexists _, _; isplitr; swap; · iexact H6
      ipureintro; rfl
    isplitl [HS0]
    · iexists _, _; isplitr; swap; · iexact HS0
      ipureintro; rfl
    isplitl [HS1]
    · iexists _, _; isplitr; swap; · iexact HS1
      ipureintro; rfl
    isplitl [HS2]
    · iexists _, _; isplitr; swap; · iexact HS2
      ipureintro; rfl
    isplitl [HS3]
    · iexists _, _; isplitr; swap; · iexact HS3
      ipureintro; rfl
    isplitl [HS4]
    · iexists _, _; isplitr; swap; · iexact HS4
      ipureintro; rfl
    isplitl [HS5]
    · iexists _, _; isplitr; swap; · iexact HS5
      ipureintro; rfl
    isplitl [HS6]
    · iexists _, _; isplitr; swap; · iexact HS6
      ipureintro; rfl
    isplitl [Hq0]; · iexact Hq0
    isplitl [Hq1]; · iexact Hq1
    isplitl [Hq2]; · iexact Hq2
    isplitl [Hq3]; · iexact Hq3
    isplitl [Hq4]; · iexact Hq4
    isplitl [Hq5]; · iexact Hq5
    isplitl [Hq6]; · iexact Hq6
    isplitl [Hq7]; · iexact Hq7
    isplitl [Hq8]; · iexact Hq8
    isplitl [Hq9]; · iexact Hq9
    isplitl [Hq10]; · iexact Hq10
    isplitl [Hq11]; · iexact Hq11
    isplitl [Hq12]; · iexact Hq12
    isplitl [Hq13]; · iexact Hq13
    isplitl [Hq14]; · iexact Hq14
    isplitl [Hq15]; · iexact Hq15
    isplitl [Hq16]; · iexact Hq16
    isplitl [Hq17]; · iexact Hq17
    isplitl [Hq18]; · iexact Hq18
    isplitl [Hq19]; · iexact Hq19
    isplitl [Hq20]; · iexact Hq20
    isplitl [Hh0]; · iexact Hh0
    isplitl [Hh1]; · iexact Hh1
    isplitl [Hh2]; · iexists _; iexact Hh2
    isplitl [Hh3]; · iexists _; iexact Hh3
    iexists _; iexact HW

end Cert.KernelIdeal.Dma

end
-- ==== Proof.KernelIdeal.TripVal.lean ====
module

public import proofs.«01_k».proof.Proof.KernelIdeal.Trip
public import Idealize.ShloMosaic.Lib.Pointwise
public import Idealize.ShloMosaic.Lib.WholeRead
public import Idealize.ShloMosaic.Lib.Ring
public import Idealize.ShloMosaic.Lib.Writes

@[expose] public section

set_option maxRecDepth 16384

noncomputable section

namespace Cert.KernelIdeal.Dma

open Cert.KernelIdeal Cert.KernelIdeal.Gen
open Idealize.ShloMosaic Idealize.ShloMosaic.TcCoe
open Idealize.SL.Sem

/-- A rectangle's placement of an index, axis by axis. -/
theorem emb_norm {s : Shape} (r : Rect s) (x : r.shape.Idx) :
    r.emb x = Shape.Idx.norm fun a => ⟨r.off a + r.stride a * (x a).val, r.coord_lt a (x a).isLt⟩ := rfl

/-- A rectangle of a buffer, read at an index. -/
theorem readAt_apply {sig : RefSig} {κ : Kind} {sp : Space} {Val : EltTy → Type} {s : Shape} {e : EltTy} (v : View sig κ sp s e) (r : LoadRect s) (f : v.ty.Contents Val) (x : r.shape.Idx) :
    v.readAt Val r f x = v.read Val f (r.idx x) := rfl

/-- A row's scale from its largest magnitude. -/
def scaleOf (a : EReal) : EReal := if a = 0 then 1 else Ideal.div a (Ideal.ofBits FTy.f32 1138753536#32)

/-- The largest of a row's 128 lanes. -/
def laneMax (M : S288x128.Idx → EReal) (r : Fin 288) : EReal :=
  Finset.fold max (Ideal.ofBits FTy.f32 4286578688#32) (fun l : Fin 128 => M (ix2 r l)) Finset.univ

/-- The scales, one per row, on every lane. -/
def scales (M : S288x128.Idx → EReal) (i : S288x128.Idx) : EReal := scaleOf (laneMax M (i 0))

/-- The codes: each entry over its row's scale, clipped. -/
def codes (A : S288x6144.Idx → EReal) (M : S288x128.Idx → EReal) (i : S288x6144.Idx) : EReal :=
  min (Ideal.ofBits FTy.f32 1138753536#32) (max (Ideal.ofBits FTy.f32 3286237184#32) (Ideal.div (A i) (scaleOf (laneMax M (i 0)))))

/-- A row range of the lane maxima, read at a row. -/
theorem lanes_read {κ : Kind} {sp : Space} {s : Shape} (v : View sig κ sp S288x128 .f32) (f : v.ty.Contents (Elt Ideal)) (o : Fin 2 → ℕ) (inb : ∀ a, o a + S32x128.size a ≤ S288x128.size a)
    (h : o 1 = 0) (y0 : Fin 32) (r : Fin 288) (hr : r.val = o 0 + y0.val) (l : Fin 128) :
    v.readAt (Elt Ideal) (Rect.unit (s := S288x128) o S32x128.size inb).toLoadRect f (ix2 y0 l) = v.read (Elt Ideal) f (ix2 r l) := by
  refine congrArg (v.read (Elt Ideal) f) (funext fun a => Fin.ext ?_)
  match a with
  | ⟨0, _⟩ => show o 0 + 1 * y0.val = r.val; omega
  | ⟨1, _⟩ => show o 1 + 1 * l.val = l.val; omega

/-- The scale of a row of a row range. -/
theorem scale_entry {κ : Kind} {sp : Space} (v : View sig κ sp S288x128 .f32) (f : v.ty.Contents (Elt Ideal)) (k : Fin k0_t2_loop.trips) (y0 : Fin 32) (y1 : Fin 128)
    (r : Fin 288) (hr : r.val = k0_off18 k 0 + y0.val) :
    k0_pay4 (F := Ideal) (v.readAt (Elt Ideal) (Rect.unit (s := S288x128) (k0_off18 k) S32x128.size (k0_off18_inb k)).toLoadRect f) (ix2 y0 y1) = scaleOf (laneMax (v.read (Elt Ideal) f) r) := by
  have e : (fun x : Fin 128 => v.readAt (Elt Ideal) (Rect.unit (s := S288x128) (k0_off18 k) S32x128.size (k0_off18_inb k)).toLoadRect f (ix2 y0 x)) = fun x => v.read (Elt Ideal) f (ix2 r x) :=
    funext fun x => lanes_read (s := S288x128) v f _ _ rfl y0 r hr x
  unfold_payloads
  pointwise []
  exact congrArg (fun z : Fin 128 → EReal => scaleOf (Finset.fold max (Ideal.ofBits FTy.f32 4286578688#32) z Finset.univ)) e

/-- The code of an entry of a tile. -/
theorem code_entry {κ : Kind} {sp sp' : Space} (u : View sig κ sp S288x6144 .f32) (g : u.ty.Contents (Elt Ideal)) (v : View sig κ sp' S288x128 .f32) (f : v.ty.Contents (Elt Ideal)) (k : Fin k0_t2_loop.trips)
    (o : Fin 2 → ℕ) (inb : ∀ a, o a + S32x128.size a ≤ S288x6144.size a) (h : o 0 = k0_off18 k 0) (y : S32x128.Idx) :
    k0_pay8 (F := Ideal) (k0_pay4 (F := Ideal) (v.readAt (Elt Ideal) (Rect.unit (s := S288x128) (k0_off18 k) S32x128.size (k0_off18_inb k)).toLoadRect f))
      (u.readAt (Elt Ideal) (Rect.unit (s := S288x6144) o S32x128.size inb).toLoadRect g) y
      = codes (u.read (Elt Ideal) g) (v.read (Elt Ideal) f) ((Rect.unit (s := S288x6144) o S32x128.size inb).emb y) := by
  idx_vars y
  have e := scale_entry v f k y0 y1 (((Rect.unit (s := S288x6144) o S32x128.size inb).emb (ix2 y0 y1)) 0) (by show o 0 + 1 * y0.val = _; omega)
  unfold k0_pay8
  pointwise []
  exact congrArg (fun z : EReal => min (Ideal.ofBits FTy.f32 1138753536#32) (max (Ideal.ofBits FTy.f32 3286237184#32) (Ideal.div (u.read (Elt Ideal) g ((Rect.unit (s := S288x6144) o S32x128.size inb).emb (ix2 y0 y1))) z))) e

theorem scalePieces_eq (𝒱 : Variants) (c : Dev nD) (bd : Option 𝒱.V) (arg0 : Memref sig .tc .vmem S288x2304 .fp8e4m3) (harg0 : arg0.IsWhole) (arg1 : Memref sig .tc .vmem S288x128 .f32) (harg1 : arg1.IsWhole) (arg2 : Memref sig .tc .vmem S288x2304 .f32) (harg2 : arg2.IsWhole) (arg3 : Memref sig .tc .vmem S2x2304 .f32) (harg3 : arg3.IsWhole) (arg4 : Memref sig .tc .hbm S2304x12288 .fp8e4m3) (harg4 : arg4.IsWhole) (arg5 : Memref sig .tc .vmem S1x12288 .f32) (harg5 : arg5.IsWhole) (arg6 : Memref sig .tc .hbm S6144x2304 .fp8e4m3) (harg6 : arg6.IsWhole) (arg7 : Memref sig .tc .vmem S1x2304 .f32) (harg7 : arg7.IsWhole) (arg8 : Memref sig .tc .hbm S2x144x2304 .bf16) (harg8 : arg8.IsWhole) (arg9 : Memref sig .tc .hbm S2x144x6144 .fp8e4m3) (harg9 : arg9.IsWhole) (arg10 : Memref sig .tc .vmem S2x144 .f32) (harg10 : arg10.IsWhole) (arg11 : Memref sig .tc .vmem S10x2304x768 .fp8e4m3) (harg11 : arg11.IsWhole) (arg12 : Memref sig .tc .vmem S3x6144x768 .fp8e4m3) (harg12 : arg12.IsWhole) (arg13 : Memref sig .tc .vmem S288x128 .f32) (harg13 : arg13.IsWhole) (arg14 : DmaSems sig S10) (arg15 : DmaSems sig S3) (arg16 : DmaSems sig S8) (alloca_r0 : Memref sig .tc .vmem S288x6144 .f32) (halloca_r0 : alloca_r0.IsWhole) (alloca_62_r0 : Memref sig .tc .vmem S288x6144 .fp8e4m3) (halloca_62_r0 : alloca_62_r0.IsWhole) (alloca_63_r0 : Memref sig .tc .vmem S288x128 .f32) (halloca_63_r0 : alloca_63_r0.IsWhole) (alloca_64_r0 : Memref sig .tc .vmem S288x2304 .bf16) (halloca_64_r0 : alloca_64_r0.IsWhole) (X : BufTy.Contents (Elt Ideal) alloca_r0.view.ty) (Y : BufTy.Contents (Elt Ideal) alloca_63_r0.view.ty) (k : Fin k0_t2_loop.trips) :
    ∀ p ∈ scalePieces (F := Ideal) 𝒱 c bd arg0 harg0 arg1 harg1 arg2 harg2 arg3 harg3 arg4 harg4 arg5 harg5 arg6 harg6 arg7 harg7 arg8 harg8 arg9 harg9 arg10 harg10 arg11 harg11 arg12 harg12 arg13 harg13 arg14 arg15 arg16 alloca_r0 halloca_r0 alloca_62_r0 halloca_62_r0 alloca_63_r0 halloca_63_r0 alloca_64_r0 halloca_64_r0 X Y k, ∀ x : p.1.shape.Idx, p.2 x = scales (View.read (Elt Ideal) alloca_63_r0.view Y) (p.1.emb x) := by
  intro p hp
  unfold scalePieces trip at hp
  simp only [List.mem_cons, List.not_mem_nil, or_false] at hp
  rcases hp with rfl
  dsimp only
  intro (y : S32x128.Idx)
  idx_vars y
  refine Eq.trans (b := k0_pay4 (F := Ideal) _ (ix2 y0 y1)) ?_ (scale_entry alloca_63_r0.view Y k y0 y1 _ ?_)
  · exact congrFun (shapeCast_id (k0_pay4 (F := Ideal) _) shapeCasts_S32x128_S32x128) _
  · show k0_off18 k 0 + 1 * y0.val = _; omega

set_option maxHeartbeats 4000000 in
theorem codePieces_eq (𝒱 : Variants) (c : Dev nD) (bd : Option 𝒱.V) (arg0 : Memref sig .tc .vmem S288x2304 .fp8e4m3) (harg0 : arg0.IsWhole) (arg1 : Memref sig .tc .vmem S288x128 .f32) (harg1 : arg1.IsWhole) (arg2 : Memref sig .tc .vmem S288x2304 .f32) (harg2 : arg2.IsWhole) (arg3 : Memref sig .tc .vmem S2x2304 .f32) (harg3 : arg3.IsWhole) (arg4 : Memref sig .tc .hbm S2304x12288 .fp8e4m3) (harg4 : arg4.IsWhole) (arg5 : Memref sig .tc .vmem S1x12288 .f32) (harg5 : arg5.IsWhole) (arg6 : Memref sig .tc .hbm S6144x2304 .fp8e4m3) (harg6 : arg6.IsWhole) (arg7 : Memref sig .tc .vmem S1x2304 .f32) (harg7 : arg7.IsWhole) (arg8 : Memref sig .tc .hbm S2x144x2304 .bf16) (harg8 : arg8.IsWhole) (arg9 : Memref sig .tc .hbm S2x144x6144 .fp8e4m3) (harg9 : arg9.IsWhole) (arg10 : Memref sig .tc .vmem S2x144 .f32) (harg10 : arg10.IsWhole) (arg11 : Memref sig .tc .vmem S10x2304x768 .fp8e4m3) (harg11 : arg11.IsWhole) (arg12 : Memref sig .tc .vmem S3x6144x768 .fp8e4m3) (harg12 : arg12.IsWhole) (arg13 : Memref sig .tc .vmem S288x128 .f32) (harg13 : arg13.IsWhole) (arg14 : DmaSems sig S10) (arg15 : DmaSems sig S3) (arg16 : DmaSems sig S8) (alloca_r0 : Memref sig .tc .vmem S288x6144 .f32) (halloca_r0 : alloca_r0.IsWhole) (alloca_62_r0 : Memref sig .tc .vmem S288x6144 .fp8e4m3) (halloca_62_r0 : alloca_62_r0.IsWhole) (alloca_63_r0 : Memref sig .tc .vmem S288x128 .f32) (halloca_63_r0 : alloca_63_r0.IsWhole) (alloca_64_r0 : Memref sig .tc .vmem S288x2304 .bf16) (halloca_64_r0 : alloca_64_r0.IsWhole) (X : BufTy.Contents (Elt Ideal) alloca_r0.view.ty) (Y : BufTy.Contents (Elt Ideal) alloca_63_r0.view.ty) (k : Fin k0_t2_loop.trips) :
    ∀ p ∈ codePieces (F := Ideal) 𝒱 c bd arg0 harg0 arg1 harg1 arg2 harg2 arg3 harg3 arg4 harg4 arg5 harg5 arg6 harg6 arg7 harg7 arg8 harg8 arg9 harg9 arg10 harg10 arg11 harg11 arg12 harg12 arg13 harg13 arg14 arg15 arg16 alloca_r0 halloca_r0 alloca_62_r0 halloca_62_r0 alloca_63_r0 halloca_63_r0 alloca_64_r0 halloca_64_r0 X Y k, ∀ x : p.1.shape.Idx, p.2 x = codes (View.read (Elt Ideal) alloca_r0.view X) (View.read (Elt Ideal) alloca_63_r0.view Y) (p.1.emb x) := by
  intro p hp
  unfold codePieces trip at hp
  simp only [List.mem_cons, List.not_mem_nil, or_false] at hp
  rcases hp with rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl
  all_goals
    intro (y : S32x128.Idx)
    refine Eq.trans ?_ (code_entry alloca_r0.view X alloca_63_r0.view Y k _ ?_ ?_ y)
    rotate_left
    · with_reducible first | exact k0_off19_inb k | exact k0_off20_inb k | exact k0_off21_inb k | exact k0_off22_inb k | exact k0_off23_inb k | exact k0_off24_inb k | exact k0_off25_inb k | exact k0_off26_inb k | exact k0_off27_inb k | exact k0_off28_inb k | exact k0_off29_inb k | exact k0_off30_inb k | exact k0_off31_inb k | exact k0_off32_inb k | exact k0_off33_inb k | exact k0_off34_inb k | exact k0_off35_inb k | exact k0_off36_inb k | exact k0_off37_inb k | exact k0_off38_inb k | exact k0_off39_inb k | exact k0_off40_inb k | exact k0_off41_inb k | exact k0_off42_inb k | exact k0_off43_inb k | exact k0_off44_inb k | exact k0_off45_inb k | exact k0_off46_inb k | exact k0_off47_inb k | exact k0_off48_inb k | exact k0_off49_inb k | exact k0_off50_inb k | exact k0_off51_inb k | exact k0_off52_inb k | exact k0_off53_inb k | exact k0_off54_inb k | exact k0_off55_inb k | exact k0_off56_inb k | exact k0_off57_inb k | exact k0_off58_inb k | exact k0_off59_inb k | exact k0_off60_inb k | exact k0_off61_inb k | exact k0_off62_inb k | exact k0_off63_inb k | exact k0_off64_inb k | exact k0_off65_inb k | exact k0_off66_inb k
    · simp only [k0_off18, k0_off19, k0_off20, k0_off21, k0_off22, k0_off23, k0_off24, k0_off25, k0_off26, k0_off27, k0_off28, k0_off29, k0_off30, k0_off31, k0_off32, k0_off33, k0_off34, k0_off35, k0_off36, k0_off37, k0_off38, k0_off39, k0_off40, k0_off41, k0_off42, k0_off43, k0_off44, k0_off45, k0_off46, k0_off47, k0_off48, k0_off49, k0_off50, k0_off51, k0_off52, k0_off53, k0_off54, k0_off55, k0_off56, k0_off57, k0_off58, k0_off59, k0_off60, k0_off61, k0_off62, k0_off63, k0_off64, k0_off65, k0_off66, Matrix.cons_val_zero]
    simp only [trip.sl.r, trip.sl.r_1, trip.sl.r_2, trip.sl.r_3, trip.sl.r_4, trip.sl.r_5, trip.sl.r_6, trip.sl.r_7, trip.sl.r_8, trip.sl.r_9, trip.sl.r_10, trip.sl.r_11, trip.sl.cst_422_r0, trip.sl.cst_540_r0, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay66, k0_pay70, k0_pay71, k0_pay72, shapeCast_id]

theorem scalePieces_cover (𝒱 : Variants) (c : Dev nD) (bd : Option 𝒱.V) (arg0 : Memref sig .tc .vmem S288x2304 .fp8e4m3) (harg0 : arg0.IsWhole) (arg1 : Memref sig .tc .vmem S288x128 .f32) (harg1 : arg1.IsWhole) (arg2 : Memref sig .tc .vmem S288x2304 .f32) (harg2 : arg2.IsWhole) (arg3 : Memref sig .tc .vmem S2x2304 .f32) (harg3 : arg3.IsWhole) (arg4 : Memref sig .tc .hbm S2304x12288 .fp8e4m3) (harg4 : arg4.IsWhole) (arg5 : Memref sig .tc .vmem S1x12288 .f32) (harg5 : arg5.IsWhole) (arg6 : Memref sig .tc .hbm S6144x2304 .fp8e4m3) (harg6 : arg6.IsWhole) (arg7 : Memref sig .tc .vmem S1x2304 .f32) (harg7 : arg7.IsWhole) (arg8 : Memref sig .tc .hbm S2x144x2304 .bf16) (harg8 : arg8.IsWhole) (arg9 : Memref sig .tc .hbm S2x144x6144 .fp8e4m3) (harg9 : arg9.IsWhole) (arg10 : Memref sig .tc .vmem S2x144 .f32) (harg10 : arg10.IsWhole) (arg11 : Memref sig .tc .vmem S10x2304x768 .fp8e4m3) (harg11 : arg11.IsWhole) (arg12 : Memref sig .tc .vmem S3x6144x768 .fp8e4m3) (harg12 : arg12.IsWhole) (arg13 : Memref sig .tc .vmem S288x128 .f32) (harg13 : arg13.IsWhole) (arg14 : DmaSems sig S10) (arg15 : DmaSems sig S3) (arg16 : DmaSems sig S8) (alloca_r0 : Memref sig .tc .vmem S288x6144 .f32) (halloca_r0 : alloca_r0.IsWhole) (alloca_62_r0 : Memref sig .tc .vmem S288x6144 .fp8e4m3) (halloca_62_r0 : alloca_62_r0.IsWhole) (alloca_63_r0 : Memref sig .tc .vmem S288x128 .f32) (halloca_63_r0 : alloca_63_r0.IsWhole) (alloca_64_r0 : Memref sig .tc .vmem S288x2304 .bf16) (halloca_64_r0 : alloca_64_r0.IsWhole) (X : BufTy.Contents (Elt Ideal) alloca_r0.view.ty) (Y : BufTy.Contents (Elt Ideal) alloca_63_r0.view.ty) (y : S288x128.Idx) :
    ∃ p ∈ (List.finRange 9).flatMap (scalePieces (F := Ideal) 𝒱 c bd arg0 harg0 arg1 harg1 arg2 harg2 arg3 harg3 arg4 harg4 arg5 harg5 arg6 harg6 arg7 harg7 arg8 harg8 arg9 harg9 arg10 harg10 arg11 harg11 arg12 harg12 arg13 harg13 arg14 arg15 arg16 alloca_r0 halloca_r0 alloca_62_r0 halloca_62_r0 alloca_63_r0 halloca_63_r0 alloca_64_r0 halloca_64_r0 X Y), y ∈ p.1.set :=
  View.cover_of_tiledL _ ![32, 128] (by sl_kernel_rfl) y

theorem codePieces_cover (𝒱 : Variants) (c : Dev nD) (bd : Option 𝒱.V) (arg0 : Memref sig .tc .vmem S288x2304 .fp8e4m3) (harg0 : arg0.IsWhole) (arg1 : Memref sig .tc .vmem S288x128 .f32) (harg1 : arg1.IsWhole) (arg2 : Memref sig .tc .vmem S288x2304 .f32) (harg2 : arg2.IsWhole) (arg3 : Memref sig .tc .vmem S2x2304 .f32) (harg3 : arg3.IsWhole) (arg4 : Memref sig .tc .hbm S2304x12288 .fp8e4m3) (harg4 : arg4.IsWhole) (arg5 : Memref sig .tc .vmem S1x12288 .f32) (harg5 : arg5.IsWhole) (arg6 : Memref sig .tc .hbm S6144x2304 .fp8e4m3) (harg6 : arg6.IsWhole) (arg7 : Memref sig .tc .vmem S1x2304 .f32) (harg7 : arg7.IsWhole) (arg8 : Memref sig .tc .hbm S2x144x2304 .bf16) (harg8 : arg8.IsWhole) (arg9 : Memref sig .tc .hbm S2x144x6144 .fp8e4m3) (harg9 : arg9.IsWhole) (arg10 : Memref sig .tc .vmem S2x144 .f32) (harg10 : arg10.IsWhole) (arg11 : Memref sig .tc .vmem S10x2304x768 .fp8e4m3) (harg11 : arg11.IsWhole) (arg12 : Memref sig .tc .vmem S3x6144x768 .fp8e4m3) (harg12 : arg12.IsWhole) (arg13 : Memref sig .tc .vmem S288x128 .f32) (harg13 : arg13.IsWhole) (arg14 : DmaSems sig S10) (arg15 : DmaSems sig S3) (arg16 : DmaSems sig S8) (alloca_r0 : Memref sig .tc .vmem S288x6144 .f32) (halloca_r0 : alloca_r0.IsWhole) (alloca_62_r0 : Memref sig .tc .vmem S288x6144 .fp8e4m3) (halloca_62_r0 : alloca_62_r0.IsWhole) (alloca_63_r0 : Memref sig .tc .vmem S288x128 .f32) (halloca_63_r0 : alloca_63_r0.IsWhole) (alloca_64_r0 : Memref sig .tc .vmem S288x2304 .bf16) (halloca_64_r0 : alloca_64_r0.IsWhole) (X : BufTy.Contents (Elt Ideal) alloca_r0.view.ty) (Y : BufTy.Contents (Elt Ideal) alloca_63_r0.view.ty) (y : S288x6144.Idx) :
    ∃ p ∈ (List.finRange 9).flatMap (codePieces (F := Ideal) 𝒱 c bd arg0 harg0 arg1 harg1 arg2 harg2 arg3 harg3 arg4 harg4 arg5 harg5 arg6 harg6 arg7 harg7 arg8 harg8 arg9 harg9 arg10 harg10 arg11 harg11 arg12 harg12 arg13 harg13 arg14 arg15 arg16 alloca_r0 halloca_r0 alloca_62_r0 halloca_62_r0 alloca_63_r0 halloca_63_r0 alloca_64_r0 halloca_64_r0 X Y), y ∈ p.1.set :=
  View.cover_of_tiledL _ ![32, 128] (by sl_kernel_rfl) y
end Cert.KernelIdeal.Dma

end
-- ==== Proof.KernelIdeal.Val.lean ====
module

public import proofs.«01_k».proof.Proof.KernelIdeal.TripVal
public import Idealize.ShloMosaic.Lib.Pointwise
public import Idealize.ShloMosaic.Lib.WholeRead
public import Idealize.ShloMosaic.Lib.Ring
public import Idealize.ShloMosaic.Lib.Writes

@[expose] public section

set_option maxRecDepth 16384

noncomputable section

namespace Cert.KernelIdeal.Dma

open Cert.KernelIdeal Cert.KernelIdeal.Gen
open Idealize.ShloMosaic Idealize.ShloMosaic.TcCoe
open Idealize.SL.Sem

/-- The sample a packed row belongs to: rows 0 to 127 and 256 to 271 are sample 0's, the others sample 1's. -/
def sampleOf (r : Fin 288) : Fin 2 := if r.val < 128 ∨ (256 ≤ r.val ∧ r.val < 272) then 0 else 1

/-- The result at packed row `i 0` and column `i 1`: the residual row plus the gate of the row's sample times the
    scaled product of the row's codes with the weight column. -/
def yRow (x0 : S288x6144.Idx → EReal) (x1 : S288x128.Idx → EReal) (x2 : S288x2304.Idx → EReal) (x3 : S2x2304.Idx → EReal)
    (x4 : S1x2304.Idx → EReal) (w : S6144x2304.Idx → EReal) (i : S288x2304.Idx) : EReal :=
  x2 i + x3 (ix2 (sampleOf (i 0)) (i 1))
    * ((∑ k : Fin 6144, x0 (ix2 (i 0) k) * w (ix2 k (i 1))) * x1 (ix2 (i 0) ⟨(i 1).val % 128, Nat.mod_lt _ (by decide)⟩) * x4 (ix2 0 (i 1)))

/-- A copy into a squeezed slot, as one listed write. -/
theorem write_slot {sig : RefSig} {κ : Kind} {sp : Space} {s s' : Shape} {e : EltTy} {Val : EltTy → Type} (m : Memref sig κ sp s e) (r : Rect s)
    (hr : ∀ a, r.stride a = 1) (hq : r.shape.Squeezes s') (f : m.view.ty.Contents Val) (w : s'.Idx → Val e) :
    View.write Val ((m.slice r hr).squeeze s' hq).view f w Finset.univ
      = m.view.writes Val f [⟨r, fun x => w ((Shape.reshapeEquiv hq.numel_eq).symm x)⟩] := by
  exact View.write_reshape_univ (m.view.slice r) hq.numel_eq f w

/-- A part of a whole buffer read at an index. -/
theorem read_part {sig : RefSig} {κ : Kind} {Val : EltTy → Type} (b : Ref sig κ) (r : Rect b.ty.shape) (f : (View.whole b).ty.Contents Val)
    (x : r.shape.Idx) : View.read Val ((View.whole b).slice r) f x = f (r.emb x) := rfl

theorem same_apply {Val : EltTy → Type} {s : Shape} {e : EltTy} (w : s.Idx → Val e) : ReadAs.same.apply w = w := rfl

/-- The six-fold lane repetition of a row scale reads the scale's lane. -/
theorem rep_apply (v : FVec Ideal S288x128 .f32) (r : Fin 288) (l : Fin 768) :
    concatenate S288x768 1 [⟨S288x128, v⟩, ⟨S288x128, v⟩, ⟨S288x128, v⟩, ⟨S288x128, v⟩, ⟨S288x128, v⟩, ⟨S288x128, v⟩]
      concatenates_S288x128_S288x128_S288x128_S288x128_S288x128_S288x128_S288x768_d1 (ix2 r l)
      = v (ix2 r ⟨l.val % 128, Nat.mod_lt _ (by decide)⟩) := by
  pointwise
  split_ifs <;> congr 2 <;> apply Fin.ext <;> simp only <;> omega

/-- The weight buffer after its three copies, at slot `n`: the `n`-th column slab of the weights. -/
def slotW (w : S6144x2304.Idx → EReal) (x : S3x6144x768.Idx) : EReal :=
  w (ix2 (x 1) ⟨768 * (x 0).val + (x 2).val, by have h0 : (x 0).val < 3 := (x 0).isLt; have h2 : (x 2).val < 768 := (x 2).isLt; omega⟩)

theorem slots_read {sp : Space} (m : Memref sig .tc sp S3x6144x768 .fp8e4m3) (f : m.view.ty.Contents (Elt Ideal)) (w : S6144x2304.Idx → EReal)
    (w0 w1 w2 : S6144x768.Idx → EReal)
    (h0 : ∀ (k : Fin 6144) (l : Fin 768), w0 (ix2 k l) = w (ix2 k ⟨l.val, by omega⟩))
    (h1 : ∀ (k : Fin 6144) (l : Fin 768), w1 (ix2 k l) = w (ix2 k ⟨768 + l.val, by omega⟩))
    (h2 : ∀ (k : Fin 6144) (l : Fin 768), w2 (ix2 k l) = w (ix2 k ⟨1536 + l.val, by omega⟩)) (y : S3x6144x768.Idx) :
    View.read (Elt Ideal) m.view
      (View.write (Elt Ideal) ((m.slice (Rect.unit ![2, 0, 0] S1x6144x768.size inb_S3x6144x768_S1x6144x768_2_0_0) (fun _ => rfl)).squeeze S6144x768 squeezes_S1x6144x768_S6144x768).view
        (View.write (Elt Ideal) ((m.slice (Rect.unit ![1, 0, 0] S1x6144x768.size inb_S3x6144x768_S1x6144x768_1_0_0) (fun _ => rfl)).squeeze S6144x768 squeezes_S1x6144x768_S6144x768).view
          (View.write (Elt Ideal) ((m.slice (Rect.unit ![0, 0, 0] S1x6144x768.size inb_S3x6144x768_S1x6144x768_0_0_0) (fun _ => rfl)).squeeze S6144x768 squeezes_S1x6144x768_S6144x768).view
            f w0 Finset.univ) w1 Finset.univ) w2 Finset.univ) y
      = slotW w y := by
  rw [write_slot, write_slot, write_slot, ← View.writes_append, ← View.writes_append]
  simp only [List.cons_append, List.nil_append]
  refine View.read_writes_apply_of_pieces m.view f (slotW w) _ ?_ y ?_
  rotate_left
  · exact View.cover_of_tiledL _ ![1, 6144, 768] (by sl_kernel_rfl) y
  intro p hp x
  simp only [List.mem_cons, List.not_mem_nil, or_false] at hp
  rcases hp with rfl | rfl | rfl
  all_goals
    obtain ⟨j, rfl⟩ := (Shape.reshapeEquiv squeezes_S1x6144x768_S6144x768.numel_eq).surjective x
    idx_vars j
    simp only [Equiv.symm_apply_apply, h0, h1, h2, slotW]
    pointwise [emb_norm]

/-- Columns `768 n` and up of the weights, as one slot's slab. -/
def slabW (w : S6144x2304.Idx → EReal) (n : ℕ) (hn : n < 3) (j : S1x6144x768.Idx) : EReal :=
  w (ix2 (j 1) ⟨768 * n + (j 2).val, by have h2 : (j 2).val < 768 := (j 2).isLt; omega⟩)

theorem slotW_emb (w : S6144x2304.Idx → EReal) (n : ℕ) (hn : n < 3) (inb : ∀ a, (![n, 0, 0] : Fin 3 → ℕ) a + S1x6144x768.size a ≤ S3x6144x768.size a) (j : S1x6144x768.Idx) :
    slotW w ((Rect.unit (s := S3x6144x768) ![n, 0, 0] S1x6144x768.size inb).emb j) = slabW w n hn j := by
  idx_vars j
  pointwise [slotW, slabW, emb_norm]

/-- The selection of the sixteen first rows of the last chunk. -/
theorem select_lt {α : Type} (r : Fin 32) (a b : α) :
    Scalar.select (IntOp.cmpi CmpIPredicate.slt (BitVec.ofNat 32 r.val) 16#32) a b = if r.val < 16 then a else b := by
  have h : IntOp.cmpi CmpIPredicate.slt (BitVec.ofNat 32 r.val) 16#32 = if r.val < 16 then 1#1 else 0#1 := by revert r; decide
  rw [h]
  split_ifs <;> rfl

theorem mod_768 (l : ℕ) : (768 + l) % 128 = l % 128 := by omega
theorem mod_1536 (l : ℕ) : (1536 + l) % 128 = l % 128 := by omega

/-- Row `t` of sample `b` among the packed rows: the two samples' first 128 rows, then their last 16. -/
def packed (b : Fin 2) (t : Fin 144) : Fin 288 :=
  if t.val < 128 then ⟨128 * b.val + t.val, by omega⟩ else ⟨128 + 16 * b.val + t.val, by omega⟩

/-- The result as the kernel lays it out. -/
def yOut (Y : S288x2304.Idx → EReal) (i : S2x144x2304.Idx) : EReal := Y (ix2 (packed (i 0) (i 1)) (i 2))

/-- Four copies of row ranges of one array of packed rows leave its rows at their samples' places. -/
theorem four_copies {sp : Space} (m : Memref sig .tc sp S2x144x2304 .bf16) (f : m.view.ty.Contents (Elt Ideal)) (Y : S288x2304.Idx → EReal)
    (w0 w1 : S128x2304.Idx → EReal) (w2 w3 : S16x2304.Idx → EReal)
    (h0 : ∀ (r : Fin 128) (l : Fin 2304), w0 (ix2 r l) = Y (ix2 ⟨r.val, by omega⟩ l))
    (h1 : ∀ (r : Fin 128) (l : Fin 2304), w1 (ix2 r l) = Y (ix2 ⟨128 + r.val, by omega⟩ l))
    (h2 : ∀ (r : Fin 16) (l : Fin 2304), w2 (ix2 r l) = Y (ix2 ⟨256 + r.val, by omega⟩ l))
    (h3 : ∀ (r : Fin 16) (l : Fin 2304), w3 (ix2 r l) = Y (ix2 ⟨272 + r.val, by omega⟩ l)) (i : S2x144x2304.Idx) :
    View.read (Elt Ideal) m.view (View.write (Elt Ideal) ((m.slice (Rect.unit ![1, 128, 0] S1x16x2304.size inb_S2x144x2304_S1x16x2304_1_128_0) (fun _ => rfl)).squeeze S16x2304 squeezes_S1x16x2304_S16x2304).view
      (View.write (Elt Ideal) ((m.slice (Rect.unit ![0, 128, 0] S1x16x2304.size inb_S2x144x2304_S1x16x2304_0_128_0) (fun _ => rfl)).squeeze S16x2304 squeezes_S1x16x2304_S16x2304).view
        (View.write (Elt Ideal) ((m.slice (Rect.unit ![1, 0, 0] S1x128x2304.size inb_S2x144x2304_S1x128x2304_1_0_0) (fun _ => rfl)).squeeze S128x2304 squeezes_S1x128x2304_S128x2304).view
          (View.write (Elt Ideal) ((m.slice (Rect.unit ![0, 0, 0] S1x128x2304.size inb_S2x144x2304_S1x128x2304_0_0_0) (fun _ => rfl)).squeeze S128x2304 squeezes_S1x128x2304_S128x2304).view
            f w0 Finset.univ) w1 Finset.univ) w2 Finset.univ) w3 Finset.univ) i
      = yOut Y i := by
  rw [write_slot, write_slot, write_slot, write_slot, ← View.writes_append, ← View.writes_append, ← View.writes_append]
  simp only [List.cons_append, List.nil_append]
  refine View.read_writes_apply_of_pieces m.view f (yOut Y) _ ?_ i ?_
  rotate_left
  · exact View.cover_of_tiledBy _ ![1, 16, 2304] (by sl_kernel_rfl) i
  intro p hp
  simp only [List.mem_cons, List.not_mem_nil, or_false] at hp
  rcases hp with rfl | rfl | rfl | rfl
  all_goals
    intro x
    dsimp only at x
  · obtain ⟨j, rfl⟩ := (Shape.reshapeEquiv squeezes_S1x16x2304_S16x2304.numel_eq).surjective x
    idx_vars j
    simp only [Equiv.symm_apply_apply, h3]
    pointwise [emb_norm, yOut, packed]
    congr 2; apply Fin.ext; simp only; omega
  · obtain ⟨j, rfl⟩ := (Shape.reshapeEquiv squeezes_S1x16x2304_S16x2304.numel_eq).surjective x
    idx_vars j
    simp only [Equiv.symm_apply_apply, h2]
    pointwise [emb_norm, yOut, packed]
    try (congr 2; apply Fin.ext; simp only; omega)
  · obtain ⟨j, rfl⟩ := (Shape.reshapeEquiv squeezes_S1x128x2304_S128x2304.numel_eq).surjective x
    idx_vars j
    simp only [Equiv.symm_apply_apply, h1]
    pointwise [emb_norm, yOut, packed]
    try rw [dif_pos (by omega)]
  · obtain ⟨j, rfl⟩ := (Shape.reshapeEquiv squeezes_S1x128x2304_S128x2304.numel_eq).surjective x
    idx_vars j
    simp only [Equiv.symm_apply_apply, h0]
    pointwise [emb_norm, yOut, packed]
    try rw [dif_pos (by omega)]

/-- The codes as the kernel lays it out. -/
def codesOut (Y : S288x6144.Idx → EReal) (i : S2x144x6144.Idx) : EReal := Y (ix2 (packed (i 0) (i 1)) (i 2))

/-- Four copies of row ranges of one array of packed rows leave its rows at their samples' places. -/
theorem four_code_copies {sp : Space} (m : Memref sig .tc sp S2x144x6144 .fp8e4m3) (f : m.view.ty.Contents (Elt Ideal)) (Y : S288x6144.Idx → EReal)
    (w0 w1 : S128x6144.Idx → EReal) (w2 w3 : S16x6144.Idx → EReal)
    (h0 : ∀ (r : Fin 128) (l : Fin 6144), w0 (ix2 r l) = Y (ix2 ⟨r.val, by omega⟩ l))
    (h1 : ∀ (r : Fin 128) (l : Fin 6144), w1 (ix2 r l) = Y (ix2 ⟨128 + r.val, by omega⟩ l))
    (h2 : ∀ (r : Fin 16) (l : Fin 6144), w2 (ix2 r l) = Y (ix2 ⟨256 + r.val, by omega⟩ l))
    (h3 : ∀ (r : Fin 16) (l : Fin 6144), w3 (ix2 r l) = Y (ix2 ⟨272 + r.val, by omega⟩ l)) (i : S2x144x6144.Idx) :
    View.read (Elt Ideal) m.view (View.write (Elt Ideal) ((m.slice (Rect.unit ![1, 128, 0] S1x16x6144.size inb_S2x144x6144_S1x16x6144_1_128_0) (fun _ => rfl)).squeeze S16x6144 squeezes_S1x16x6144_S16x6144).view
      (View.write (Elt Ideal) ((m.slice (Rect.unit ![0, 128, 0] S1x16x6144.size inb_S2x144x6144_S1x16x6144_0_128_0) (fun _ => rfl)).squeeze S16x6144 squeezes_S1x16x6144_S16x6144).view
        (View.write (Elt Ideal) ((m.slice (Rect.unit ![1, 0, 0] S1x128x6144.size inb_S2x144x6144_S1x128x6144_1_0_0) (fun _ => rfl)).squeeze S128x6144 squeezes_S1x128x6144_S128x6144).view
          (View.write (Elt Ideal) ((m.slice (Rect.unit ![0, 0, 0] S1x128x6144.size inb_S2x144x6144_S1x128x6144_0_0_0) (fun _ => rfl)).squeeze S128x6144 squeezes_S1x128x6144_S128x6144).view
            f w0 Finset.univ) w1 Finset.univ) w2 Finset.univ) w3 Finset.univ) i
      = codesOut Y i := by
  rw [write_slot, write_slot, write_slot, write_slot, ← View.writes_append, ← View.writes_append, ← View.writes_append]
  simp only [List.cons_append, List.nil_append]
  refine View.read_writes_apply_of_pieces m.view f (codesOut Y) _ ?_ i ?_
  rotate_left
  · exact View.cover_of_tiledBy _ ![1, 16, 6144] (by sl_kernel_rfl) i
  intro p hp
  simp only [List.mem_cons, List.not_mem_nil, or_false] at hp
  rcases hp with rfl | rfl | rfl | rfl
  all_goals
    intro x
    dsimp only at x
  · obtain ⟨j, rfl⟩ := (Shape.reshapeEquiv squeezes_S1x16x6144_S16x6144.numel_eq).surjective x
    idx_vars j
    simp only [Equiv.symm_apply_apply, h3]
    pointwise [emb_norm, codesOut, packed]
    congr 2; apply Fin.ext; simp only; omega
  · obtain ⟨j, rfl⟩ := (Shape.reshapeEquiv squeezes_S1x16x6144_S16x6144.numel_eq).surjective x
    idx_vars j
    simp only [Equiv.symm_apply_apply, h2]
    pointwise [emb_norm, codesOut, packed]
    try (congr 2; apply Fin.ext; simp only; omega)
  · obtain ⟨j, rfl⟩ := (Shape.reshapeEquiv squeezes_S1x128x6144_S128x6144.numel_eq).surjective x
    idx_vars j
    simp only [Equiv.symm_apply_apply, h1]
    pointwise [emb_norm, codesOut, packed]
    try rw [dif_pos (by omega)]
  · obtain ⟨j, rfl⟩ := (Shape.reshapeEquiv squeezes_S1x128x6144_S128x6144.numel_eq).surjective x
    idx_vars j
    simp only [Equiv.symm_apply_apply, h0]
    pointwise [emb_norm, codesOut, packed]
    try rw [dif_pos (by omega)]

/-- The largest magnitude of a row. -/
def rowMax (A : S288x6144.Idx → EReal) (r : Fin 288) : EReal :=
  Finset.fold max (Ideal.ofBits FTy.f32 4286578688#32) (fun k : Fin 6144 => max (A (ix2 r k)) (-(A (ix2 r k)))) Finset.univ

/-- The gated activation of a row's codes with one gate column and one up column, each scaled. -/
def glu (g u : EReal) : EReal := g * Ideal.logistic g * u

/-- The activation at row `i 0` and column `i 1`. -/
def actOf (x0 : S288x2304.Idx → EReal) (x1 : S288x128.Idx → EReal) (x4 : S1x12288.Idx → EReal) (w : S2304x12288.Idx → EReal) (i : S288x6144.Idx) : EReal :=
  glu ((∑ k : Fin 2304, x0 (ix2 (i 0) k) * w (ix2 k ⟨(i 1).val, by have h : (i 1).val < 6144 := (i 1).isLt; omega⟩))
      * x1 (ix2 (i 0) ⟨(i 1).val % 128, Nat.mod_lt _ (by decide)⟩) * x4 (ix2 0 ⟨(i 1).val, by have h : (i 1).val < 6144 := (i 1).isLt; omega⟩))
    ((∑ k : Fin 2304, x0 (ix2 (i 0) k) * w (ix2 k ⟨6144 + (i 1).val, by have h : (i 1).val < 6144 := (i 1).isLt; omega⟩))
      * x1 (ix2 (i 0) ⟨(i 1).val % 128, Nat.mod_lt _ (by decide)⟩) * x4 (ix2 0 ⟨6144 + (i 1).val, by have h : (i 1).val < 6144 := (i 1).isLt; omega⟩))

/-- Columns `o` and up of the gate-and-up weights, as one slot's slab. -/
def slabGU (w : S2304x12288.Idx → EReal) (o : ℕ) (ho : o + 768 ≤ 12288) (j : S1x2304x768.Idx) : EReal :=
  w (ix2 (j 1) ⟨o + (j 2).val, by have h2 : (j 2).val < 768 := (j 2).isLt; omega⟩)

/-- A slot of the ring, read after a copy into another slot. -/
theorem ring_miss {sp : Space} (m : Memref sig .tc sp S10x2304x768 .fp8e4m3) (n n' : ℕ) (h : n ≠ n')
    (inb : ∀ a, (![n, 0, 0] : Fin 3 → ℕ) a + S1x2304x768.size a ≤ S10x2304x768.size a) (inb' : ∀ a, (![n', 0, 0] : Fin 3 → ℕ) a + S1x2304x768.size a ≤ S10x2304x768.size a)
    (hr) (hq) (f : m.view.ty.Contents (Elt Ideal)) (w : S2304x768.Idx → EReal) (x : S1x2304x768.Idx) :
    m.view.readAt (Elt Ideal) (Rect.unit (s := S10x2304x768) ![n, 0, 0] S1x2304x768.size inb).toLoadRect
      (View.write (Elt Ideal) ((m.slice (Rect.unit (s := S10x2304x768) ![n', 0, 0] S1x2304x768.size inb') hr).squeeze S2304x768 hq).view f w Finset.univ) x
      = m.view.readAt (Elt Ideal) (Rect.unit (s := S10x2304x768) ![n, 0, 0] S1x2304x768.size inb).toLoadRect f x := by
  rw [write_slot, readAt_apply, readAt_apply]
  refine View.read_writes_cons_miss_of_axis m.view f _ [] _ ⟨0, by decide⟩ n' 1 rfl rfl rfl ?_
  have h0 : (x 0).val < 1 := (x 0).isLt
  show n + 1 * (x 0).val < n' ∨ n' + 1 ≤ n + 1 * (x 0).val
  omega

/-- A slot of the ring, read after the copy into it. -/
theorem ring_hit {sp : Space} (m : Memref sig .tc sp S10x2304x768 .fp8e4m3) (n : ℕ)
    (inb : ∀ a, (![n, 0, 0] : Fin 3 → ℕ) a + S1x2304x768.size a ≤ S10x2304x768.size a) (inb' : ∀ a, (![n, 0, 0] : Fin 3 → ℕ) a + S1x2304x768.size a ≤ S10x2304x768.size a)
    (hr) (hq : S1x2304x768.Squeezes S2304x768) (f : m.view.ty.Contents (Elt Ideal)) (v : S2304x768.Idx → EReal) (w : S2304x12288.Idx → EReal) (o : ℕ) (ho : o + 768 ≤ 12288)
    (h : ∀ (k : Fin 2304) (l : Fin 768), v (ix2 k l) = w (ix2 k ⟨o + l.val, by omega⟩)) (x : S1x2304x768.Idx) :
    m.view.readAt (Elt Ideal) (Rect.unit (s := S10x2304x768) ![n, 0, 0] S1x2304x768.size inb).toLoadRect
      (View.write (Elt Ideal) ((m.slice (Rect.unit (s := S10x2304x768) ![n, 0, 0] S1x2304x768.size inb') hr).squeeze S2304x768 hq).view f v Finset.univ) x
      = slabGU w o ho x := by
  rw [write_slot]
  refine (View.read_writes_cons_emb m.view f (Rect.unit (s := S10x2304x768) ![n, 0, 0] S1x2304x768.size inb') _ [] x).trans ?_
  obtain ⟨j, rfl⟩ := (Shape.reshapeEquiv hq.numel_eq).surjective x
  idx_vars j
  simp only [Equiv.symm_apply_apply, h]
  pointwise [slabGU]

/-- The copy of columns `o` and up of the gate-and-up weights carries them. -/
theorem slab_copied (o : ℕ) (ho : o + 768 ≤ 12288) (inbw) (hrw) (w : S2304x12288.Idx → EReal) (k : Fin 2304) (l : Fin 768) :
    ReadAs.same.apply (View.read (Elt Ideal) ((Memref.whole main_arg4).slice (Rect.unit (s := S2304x12288) ![0, o] S2304x768.size inbw) hrw).view w) (ix2 k l)
      = w (ix2 k ⟨o + l.val, by omega⟩) := by
  refine congrArg w (funext fun a => Fin.ext ?_)
  match a with
  | ⟨0, _⟩ => show 0 + 1 * k.val = k.val; omega
  | ⟨1, _⟩ => show o + 1 * l.val = o + l.val; omega

/-- One slab's entry of the activation, from the slab of each weight half. -/
theorem act_entry (s : S288x128.Idx → EReal) (a : S288x2304.Idx → EReal) (wg wu : S1x2304x768.Idx → EReal) (sg su : S1x768.Idx → EReal) (r : Fin 288) (l : Fin 768) :
    k0_pay1 (F := Ideal) s a wg sg a wu su (ix2 r l)
      = glu ((∑ k : Fin 2304, a (ix2 r k) * wg (ix3 0 k l)) * s (ix2 r ⟨l.val % 128, Nat.mod_lt _ (by decide)⟩) * sg (ix2 0 l))
          ((∑ k : Fin 2304, a (ix2 r k) * wu (ix3 0 k l)) * s (ix2 r ⟨l.val % 128, Nat.mod_lt _ (by decide)⟩) * su (ix2 0 l)) := by
  unfold_payloads
  pointwise [rep_apply, glu]

theorem act_stored (s : S288x128.Idx → EReal) (a : S288x2304.Idx → EReal) (wg wu : S1x2304x768.Idx → EReal) (sg su : S1x768.Idx → EReal) :
    k0_pay2 (F := Ideal) s a wg sg a wu su = k0_pay1 (F := Ideal) s a wg sg a wu su := shapeCast_id _ _

/-- The running lane maxima after one slab: the larger of what they were and the magnitudes of the slab's six lane tiles. -/
def slabMax (A : S288x768.Idx → EReal) (M : S288x128.Idx → EReal) (i : S288x128.Idx) : EReal :=
  max (max (max (max (max (max (M i)
    (max (A (ix2 (i 0) ⟨(i 1).val, by have h : (i 1).val < 128 := (i 1).isLt; omega⟩)) (-(A (ix2 (i 0) ⟨(i 1).val, by have h : (i 1).val < 128 := (i 1).isLt; omega⟩)))))
    (max (A (ix2 (i 0) ⟨128 + (i 1).val, by have h : (i 1).val < 128 := (i 1).isLt; omega⟩)) (-(A (ix2 (i 0) ⟨128 + (i 1).val, by have h : (i 1).val < 128 := (i 1).isLt; omega⟩)))))
    (max (A (ix2 (i 0) ⟨256 + (i 1).val, by have h : (i 1).val < 128 := (i 1).isLt; omega⟩)) (-(A (ix2 (i 0) ⟨256 + (i 1).val, by have h : (i 1).val < 128 := (i 1).isLt; omega⟩)))))
    (max (A (ix2 (i 0) ⟨384 + (i 1).val, by have h : (i 1).val < 128 := (i 1).isLt; omega⟩)) (-(A (ix2 (i 0) ⟨384 + (i 1).val, by have h : (i 1).val < 128 := (i 1).isLt; omega⟩)))))
    (max (A (ix2 (i 0) ⟨512 + (i 1).val, by have h : (i 1).val < 128 := (i 1).isLt; omega⟩)) (-(A (ix2 (i 0) ⟨512 + (i 1).val, by have h : (i 1).val < 128 := (i 1).isLt; omega⟩)))))
    (max (A (ix2 (i 0) ⟨640 + (i 1).val, by have h : (i 1).val < 128 := (i 1).isLt; omega⟩)) (-(A (ix2 (i 0) ⟨640 + (i 1).val, by have h : (i 1).val < 128 := (i 1).isLt; omega⟩))))

theorem max_entry (s : S288x128.Idx → EReal) (a : S288x2304.Idx → EReal) (wg wu : S1x2304x768.Idx → EReal) (sg su : S1x768.Idx → EReal) (M : S288x128.Idx → EReal) (i : S288x128.Idx) :
    k0_pay65 (F := Ideal) (k0_pay1 (F := Ideal) s a wg sg a wu su) (k0_pay3 (F := Ideal) s a wg sg a wu su M) i
      = slabMax (k0_pay1 (F := Ideal) s a wg sg a wu su) M i := by
  unfold k0_pay65 k0_pay3
  idx_vars i
  generalize k0_pay1 (F := Ideal) s a wg sg a wu su = A
  pointwise [slabMax]
  simp only [Ideal.absf_def]

end Cert.KernelIdeal.Dma

end
-- ==== Proof.KernelIdeal.Max.lean ====
module

public import proofs.«01_k».proof.Proof.KernelIdeal.Val

@[expose] public section

set_option maxRecDepth 16384

noncomputable section

namespace Cert.KernelIdeal.Dma

open Cert.KernelIdeal Cert.KernelIdeal.Gen
open Idealize.ShloMosaic Idealize.ShloMosaic.TcCoe
open Idealize.SL.Sem

/-- The magnitude of a number is at least zero. -/
theorem mag_nonneg (a : EReal) : 0 ≤ max a (-a) := by
  rcases le_total 0 a with h | h
  · exact le_max_of_le_left h
  · exact le_max_of_le_right (EReal.neg_nonneg.mpr h)

/-- Columns `768 j` and up of an array, as one slab. -/
def slabOf (A : S288x6144.Idx → EReal) (j : ℕ) (hj : j < 8) (i : S288x768.Idx) : EReal :=
  A (ix2 (i 0) ⟨768 * j + (i 1).val, by have h : (i 1).val < 768 := (i 1).isLt; omega⟩)

/-- The lane maxima after the first `j` slabs, from zero. -/
def maxAfter (A : S288x6144.Idx → EReal) : ℕ → S288x128.Idx → EReal
  | 0 => fun _ => 0
  | j + 1 => if h : j < 8 then slabMax (slabOf A j h) (maxAfter A j) else maxAfter A j

/-- The magnitude of a row's entry. -/
def mag (A : S288x6144.Idx → EReal) (r : Fin 288) (k : Fin 6144) : EReal := max (A (ix2 r k)) (-(A (ix2 r k)))

/-- The lane maxima are bounded by what bounds every magnitude on their lane. -/
theorem slabMax_le (A : S288x6144.Idx → EReal) (j : ℕ) (hj : j < 8) (M : S288x128.Idx → EReal) (r : Fin 288) (l : Fin 128) (b : EReal) :
    slabMax (slabOf A j hj) M (ix2 r l) ≤ b ↔ M (ix2 r l) ≤ b ∧ ∀ k : Fin 6144, k.val / 768 = j → k.val % 128 = l.val → mag A r k ≤ b := by
  have e : slabMax (slabOf A j hj) M (ix2 r l) = max (max (max (max (max (max (M (ix2 r l)) (mag A r ⟨768 * j + l.val, by omega⟩))
      (mag A r ⟨768 * j + (128 + l.val), by omega⟩)) (mag A r ⟨768 * j + (256 + l.val), by omega⟩)) (mag A r ⟨768 * j + (384 + l.val), by omega⟩))
      (mag A r ⟨768 * j + (512 + l.val), by omega⟩)) (mag A r ⟨768 * j + (640 + l.val), by omega⟩) := rfl
  rw [e]
  simp only [max_le_iff]
  constructor
  · rintro ⟨⟨⟨⟨⟨⟨h, h0⟩, h1⟩, h2⟩, h3⟩, h4⟩, h5⟩
    refine ⟨h, fun k hk hl => ?_⟩
    have hl' := l.isLt
    have cases : k.val = 768 * j + l.val ∨ k.val = 768 * j + (128 + l.val) ∨ k.val = 768 * j + (256 + l.val) ∨ k.val = 768 * j + (384 + l.val)
        ∨ k.val = 768 * j + (512 + l.val) ∨ k.val = 768 * j + (640 + l.val) := by omega
    rcases cases with e | e | e | e | e | e
    all_goals
      refine (congrArg (mag A r) (Fin.ext (b := ⟨_, by omega⟩) e)).trans_le ?_
      assumption
  · rintro ⟨h, g⟩
    refine ⟨⟨⟨⟨⟨⟨h, ?_⟩, ?_⟩, ?_⟩, ?_⟩, ?_⟩, ?_⟩
    all_goals
      refine g _ ?_ ?_
      · dsimp only; omega
      · dsimp only; omega

theorem maxAfter_le (A : S288x6144.Idx → EReal) (r : Fin 288) (l : Fin 128) (b : EReal) :
    ∀ j : ℕ, j ≤ 8 → (maxAfter A j (ix2 r l) ≤ b ↔ 0 ≤ b ∧ ∀ k : Fin 6144, k.val / 768 < j → k.val % 128 = l.val → mag A r k ≤ b)
  | 0, _ => by simp [maxAfter]
  | j + 1, hj => by
    rw [maxAfter, dif_pos (by omega), slabMax_le, maxAfter_le A r l b j (by omega)]
    constructor
    · rintro ⟨⟨h0, h⟩, h'⟩
      refine ⟨h0, fun k hk hl => ?_⟩
      rcases Nat.lt_succ_iff_lt_or_eq.mp hk with hk | hk
      · exact h k hk hl
      · exact h' k hk hl
    · rintro ⟨h0, h⟩
      exact ⟨⟨h0, fun k hk hl => h k (by omega) hl⟩, fun k hk hl => h k (by omega) hl⟩

/-- The largest lane maximum of a row is the row's largest magnitude. -/
theorem laneMax_eq (A : S288x6144.Idx → EReal) (r : Fin 288) : laneMax (maxAfter A 8) r = rowMax A r := by
  refine eq_of_forall_ge_iff fun b => ?_
  rw [laneMax, rowMax, Finset.fold_max_le, Finset.fold_max_le]
  constructor
  · rintro ⟨h0, h⟩
    refine ⟨h0, fun k _ => ?_⟩
    exact ((maxAfter_le A r ⟨k.val % 128, Nat.mod_lt _ (by decide)⟩ b 8 le_rfl).mp (h _ (Finset.mem_univ _))).2 k (by have := k.isLt; omega) rfl
  · rintro ⟨h0, h⟩
    refine ⟨h0, fun l _ => (maxAfter_le A r l b 8 le_rfl).mpr ⟨(mag_nonneg _).trans (h 0 (Finset.mem_univ _)), fun k _ _ => h k (Finset.mem_univ _)⟩⟩

end Cert.KernelIdeal.Dma

end
-- ==== Proof.KernelIdeal.Act.lean ====
module

public import proofs.«01_k».proof.Proof.KernelIdeal.Run
public import proofs.«01_k».proof.Proof.KernelIdeal.Max
public import Idealize.ShloMosaic.Lib.VecWindow

@[expose] public section

set_option maxRecDepth 16384

noncomputable section

namespace Cert.KernelIdeal.Dma

open Cert.KernelIdeal Cert.KernelIdeal.Gen
open Idealize.ShloMosaic Idealize.ShloMosaic.TcCoe
open Idealize.SL.Sem

set_option maxHeartbeats 4000000 in
/-- What each trip of the first loop reads from the ring: its own slab of gate columns and its own slab of up columns. -/
theorem slabs_read (c : Dev nD) (arg11 : Memref sig .tc .vmem S10x2304x768 .fp8e4m3) (fh0 : HbBuf0 (F := Ideal) c hbM0_0) (fs0 : arg11.view.ty.Contents (Elt Ideal)) :
    (kernelRun0_A.sl.v584_r0 c arg11 fh0 fs0 = slabGU fh0 0 (by decide))
    ∧ (kernelRun0_A.sl.v597_r0 c arg11 fh0 fs0 = slabGU fh0 6144 (by decide))
    ∧ (kernelRun0_A.sl.v584_r0_1 c arg11 fh0 fs0 = slabGU fh0 768 (by decide))
    ∧ (kernelRun0_A.sl.v597_r0_1 c arg11 fh0 fs0 = slabGU fh0 6912 (by decide))
    ∧ (kernelRun0_A.sl.v584_r0_2 c arg11 fh0 fs0 = slabGU fh0 1536 (by decide))
    ∧ (kernelRun0_A.sl.v597_r0_2 c arg11 fh0 fs0 = slabGU fh0 7680 (by decide))
    ∧ (kernelRun0_A.sl.v584_r0_3 c arg11 fh0 fs0 = slabGU fh0 2304 (by decide))
    ∧ (kernelRun0_A.sl.v597_r0_3 c arg11 fh0 fs0 = slabGU fh0 8448 (by decide))
    ∧ (kernelRun0_A.sl.v584_r0_4 c arg11 fh0 fs0 = slabGU fh0 3072 (by decide))
    ∧ (kernelRun0_A.sl.v597_r0_4 c arg11 fh0 fs0 = slabGU fh0 9216 (by decide))
    ∧ (kernelRun0_A.sl.v584_r0_5 c arg11 fh0 fs0 = slabGU fh0 3840 (by decide))
    ∧ (kernelRun0_A.sl.v597_r0_5 c arg11 fh0 fs0 = slabGU fh0 9984 (by decide))
    ∧ (kernelRun0_A.sl.v584_r0_6 c arg11 fh0 fs0 = slabGU fh0 4608 (by decide))
    ∧ (kernelRun0_A.sl.v597_r0_6 c arg11 fh0 fs0 = slabGU fh0 10752 (by decide))
    ∧ (kernelRun0_A.sl.v584_r0_7 c arg11 fh0 fs0 = slabGU fh0 5376 (by decide))
    ∧ (kernelRun0_A.sl.v597_r0_7 c arg11 fh0 fs0 = slabGU fh0 11520 (by decide)) := by
  refine ⟨?_, ?_, ?_, ?_, ?_, ?_, ?_, ?_, ?_, ?_, ?_, ?_, ?_, ?_, ?_, ?_⟩
  all_goals
    funext x
    delta kernelRun0_A.sl.v584_r0 kernelRun0_A.sl.v597_r0 kernelRun0_A.sl.v584_r0_1 kernelRun0_A.sl.v597_r0_1 kernelRun0_A.sl.v584_r0_2 kernelRun0_A.sl.v597_r0_2 kernelRun0_A.sl.v584_r0_3 kernelRun0_A.sl.v597_r0_3 kernelRun0_A.sl.v584_r0_4 kernelRun0_A.sl.v597_r0_4 kernelRun0_A.sl.v584_r0_5 kernelRun0_A.sl.v597_r0_5 kernelRun0_A.sl.v584_r0_6 kernelRun0_A.sl.v597_r0_6 kernelRun0_A.sl.v584_r0_7 kernelRun0_A.sl.v597_r0_7
    repeat (refine Eq.trans (ring_miss _ _ _ ?_ _ _ _ _ _ _ _) ?_; · decide)
    exact ring_hit _ _ _ _ _ _ _ _ _ _ (by decide) (fun k l => slab_copied _ (by decide) _ _ _ k l) _

/-- One slab of the activation, from the slabs the trip has read. -/
theorem act_slab (x0 : S288x2304.Idx → EReal) (x1 : S288x128.Idx → EReal) (x4 : S1x12288.Idx → EReal) (w : S2304x12288.Idx → EReal) (j : ℕ) (hj : j < 8)
    (wg wu : S1x2304x768.Idx → EReal) (sg su : S1x768.Idx → EReal)
    (hwg : wg = slabGU w (768 * j) (by omega)) (hwu : wu = slabGU w (6144 + 768 * j) (by omega))
    (hsg : ∀ l : Fin 768, sg (ix2 0 l) = x4 (ix2 0 ⟨768 * j + l.val, by omega⟩)) (hsu : ∀ l : Fin 768, su (ix2 0 l) = x4 (ix2 0 ⟨6144 + 768 * j + l.val, by omega⟩)) :
    k0_pay1 (F := Ideal) x1 x0 wg sg x0 wu su = slabOf (actOf x0 x1 x4 w) j hj := by
  subst hwg hwu
  funext i
  idx_vars i
  rw [act_entry, hsg, hsu]
  have e : (⟨i1.val % 128, Nat.mod_lt _ (by decide)⟩ : Fin 128) = ⟨(768 * j + i1.val) % 128, Nat.mod_lt _ (by decide)⟩ := Fin.ext (by show i1.val % 128 = (768 * j + i1.val) % 128; omega)
  have e1 : (⟨6144 + 768 * j + i1.val, by omega⟩ : Fin 12288) = ⟨6144 + (768 * j + i1.val), by omega⟩ := Fin.ext (by show 6144 + 768 * j + i1.val = 6144 + (768 * j + i1.val); omega)
  have es := congrArg (fun z : Fin 128 => x1 (ix2 i0 z)) e
  refine congrArg₂ glu (congrArg₂ (fun a b : EReal => a * b) (congrArg₂ (fun a b : EReal => a * b) rfl es) rfl)
    (congrArg₂ (fun a b : EReal => a * b) (congrArg₂ (fun a b : EReal => a * b) (Finset.sum_congr rfl fun k _ => ?_) es) (congrArg (fun z : Fin 12288 => x4 (ix2 0 z)) e1))
  exact congrArg (fun z : Fin 12288 => x0 (ix2 i0 k) * w (ix2 k z)) e1

/-- The lane maxima after one more slab. -/
theorem max_slab (A : S288x6144.Idx → EReal) (j : ℕ) (hj : j < 8) (s : S288x128.Idx → EReal) (a : S288x2304.Idx → EReal) (wg wu : S1x2304x768.Idx → EReal) (sg su : S1x768.Idx → EReal)
    (M : S288x128.Idx → EReal) (hA : k0_pay1 (F := Ideal) s a wg sg a wu su = slabOf A j hj) (hM : M = maxAfter A j) :
    k0_pay65 (F := Ideal) (k0_pay1 (F := Ideal) s a wg sg a wu su) (k0_pay3 (F := Ideal) s a wg sg a wu su M) = maxAfter A (j + 1) := by
  subst hM
  funext i
  rw [max_entry, hA, maxAfter, dif_pos hj]

/-- The scale columns the first loop reads are the given ones. -/
theorem scol_read (c : Dev nD) (arg1 : Memref sig .tc .vmem S288x128 .f32) (harg1 : arg1.IsWhole) (arg13 : Memref sig .tc .vmem S288x128 .f32) (x1 : Vec Ideal S288x128 .f32) :
    kernelRun0_A.sl.v579_r0 c arg1 harg1 arg13 x1 = x1 := by
  simp only [kernelRun0_A.sl.v579_r0, kernelRun0_A.sl.HS2_1]
  refine (View.readCov_full _ _ _ _ _).trans ?_
  unfold k0_pay63
  simp only [shapeCast_id]
  exact (View.readAt_full _ _ _).trans (harg1.read_unread _)

set_option maxHeartbeats 4000000 in
/-- What each trip of the first loop computes is its slab of the activation. -/
theorem acts_eq (c : Dev nD) (arg0 : Memref sig .tc .vmem S288x2304 .fp8e4m3) (harg0 : arg0.IsWhole) (arg1 : Memref sig .tc .vmem S288x128 .f32) (harg1 : arg1.IsWhole) (arg5 : Memref sig .tc .vmem S1x12288 .f32) (harg5 : arg5.IsWhole) (arg11 : Memref sig .tc .vmem S10x2304x768 .fp8e4m3) (arg13 : Memref sig .tc .vmem S288x128 .f32)
    (x0 : Vec Ideal S288x2304 .fp8e4m3) (x1 : Vec Ideal S288x128 .f32) (x4 : Vec Ideal S1x12288 .f32) (fh0 : HbBuf0 (F := Ideal) c hbM0_0) (fs0 : arg11.view.ty.Contents (Elt Ideal)) :
    (kernelRun0_A.sl.r c arg0 harg0 arg1 harg1 arg5 harg5 arg11 arg13 x0 x1 x4 fh0 fs0 = slabOf (actOf x0 x1 x4 fh0) 0 (by decide)) ∧ (kernelRun0_A.sl.r_2 c arg0 harg0 arg1 harg1 arg5 harg5 arg11 arg13 x0 x1 x4 fh0 fs0 = slabOf (actOf x0 x1 x4 fh0) 1 (by decide)) ∧ (kernelRun0_A.sl.r_4 c arg0 harg0 arg1 harg1 arg5 harg5 arg11 arg13 x0 x1 x4 fh0 fs0 = slabOf (actOf x0 x1 x4 fh0) 2 (by decide)) ∧ (kernelRun0_A.sl.r_6 c arg0 harg0 arg1 harg1 arg5 harg5 arg11 arg13 x0 x1 x4 fh0 fs0 = slabOf (actOf x0 x1 x4 fh0) 3 (by decide)) ∧ (kernelRun0_A.sl.r_8 c arg0 harg0 arg1 harg1 arg5 harg5 arg11 arg13 x0 x1 x4 fh0 fs0 = slabOf (actOf x0 x1 x4 fh0) 4 (by decide)) ∧ (kernelRun0_A.sl.r_10 c arg0 harg0 arg1 harg1 arg5 harg5 arg11 arg13 x0 x1 x4 fh0 fs0 = slabOf (actOf x0 x1 x4 fh0) 5 (by decide)) ∧ (kernelRun0_A.sl.r_12 c arg0 harg0 arg1 harg1 arg5 harg5 arg11 arg13 x0 x1 x4 fh0 fs0 = slabOf (actOf x0 x1 x4 fh0) 6 (by decide)) ∧ (kernelRun0_A.sl.r_14 c arg0 harg0 arg1 harg1 arg5 harg5 arg11 arg13 x0 x1 x4 fh0 fs0 = slabOf (actOf x0 x1 x4 fh0) 7 (by decide)) := by
  obtain ⟨g0, u0, g1, u1, g2, u2, g3, u3, g4, u4, g5, u5, g6, u6, g7, u7⟩ := slabs_read c arg11 fh0 fs0
  have hx : View.readAt (Elt Ideal) arg0.view (Rect.unit ![0, 0] S288x2304.size inb_S288x2304_S288x2304_0_0).toLoadRect (harg0.unread x0) = x0 :=
    (View.readAt_full _ _ _).trans (harg0.read_unread _)
  refine ⟨?_, ?_, ?_, ?_, ?_, ?_, ?_, ?_⟩
  all_goals
    simp only [kernelRun0_A.sl.r, kernelRun0_A.sl.r_2, kernelRun0_A.sl.r_4, kernelRun0_A.sl.r_6, kernelRun0_A.sl.r_8, kernelRun0_A.sl.r_10, kernelRun0_A.sl.r_12, kernelRun0_A.sl.r_14, scol_read, hx, g0, u0, g1, u1, g2, u2, g3, u3, g4, u4, g5, u5, g6, u6, g7, u7]
    refine act_slab x0 x1 x4 fh0 _ _ _ _ _ _ rfl rfl ?_ ?_
  all_goals
    intro l
    simp only [kernelRun0_A.sl.v589_r0, kernelRun0_A.sl.v603_r0, kernelRun0_A.sl.v589_r0_1, kernelRun0_A.sl.v603_r0_1, kernelRun0_A.sl.v589_r0_2, kernelRun0_A.sl.v603_r0_2, kernelRun0_A.sl.v589_r0_3, kernelRun0_A.sl.v603_r0_3, kernelRun0_A.sl.v589_r0_4, kernelRun0_A.sl.v603_r0_4, kernelRun0_A.sl.v589_r0_5, kernelRun0_A.sl.v603_r0_5, kernelRun0_A.sl.v589_r0_6, kernelRun0_A.sl.v603_r0_6, kernelRun0_A.sl.v589_r0_7, kernelRun0_A.sl.v603_r0_7]
    pointwise [emb_norm, Memref.IsWhole.readAt_unread]

end Cert.KernelIdeal.Dma

end
-- ==== Proof.KernelIdeal.Quant.lean ====
module

public import proofs.«01_k».proof.Proof.KernelIdeal.Act

@[expose] public section

set_option maxRecDepth 16384

noncomputable section

namespace Cert.KernelIdeal.Dma

open Cert.KernelIdeal Cert.KernelIdeal.Gen
open Idealize.ShloMosaic Idealize.ShloMosaic.TcCoe
open Idealize.SL.Sem

/-- A slab's entry is the array's at the slab's place. -/
theorem slab_place (A : S288x6144.Idx → EReal) (j : ℕ) (hj : j < 8) (inb : ∀ a, (![0, 768 * j] : Fin 2 → ℕ) a + S288x768.size a ≤ S288x6144.size a) (x : S288x768.Idx) :
    slabOf A j hj x = A ((Rect.unit (s := S288x6144) ![0, 768 * j] S288x768.size inb).emb x) := by
  refine congrArg A (funext fun a => Fin.ext ?_)
  match a with
  | ⟨0, _⟩ => show (x 0).val = 0 + 1 * (x 0).val; omega
  | ⟨1, _⟩ => show 768 * j + (x 1).val = 768 * j + 1 * (x 1).val; omega

/-- The scale of every row of an array, on every lane. -/
def scaleRows (A : S288x6144.Idx → EReal) (i : S288x128.Idx) : EReal := scaleOf (rowMax A (i 0))

/-- The codes of an array: each entry over its row's scale, clipped. -/
def codeRows (A : S288x6144.Idx → EReal) (i : S288x6144.Idx) : EReal :=
  min (Ideal.ofBits FTy.f32 1138753536#32) (max (Ideal.ofBits FTy.f32 3286237184#32) (Ideal.div (A i) (scaleOf (rowMax A (i 0)))))

/-- A buffer the loop's trips tile, when every trip has stored its pieces, holds what every piece holds of one array. -/
theorem stored_upto {s : Shape} {e : EltTy} (M : Memref sig .tc .vmem s e) (f : BufTy.Contents (Elt Ideal) M.view.ty) (L : Fin k0_t2_loop.trips → List (View.Piece (Elt Ideal) s e))
    (G : s.Idx → Elt Ideal e) (hG : ∀ k, ∀ p ∈ L k, ∀ x : p.1.shape.Idx, p.2 x = G (p.1.emb x)) (y : s.Idx) :
    ∀ n : ℕ, (∃ k : Fin k0_t2_loop.trips, k.val < n ∧ ∃ p ∈ L k, y ∈ p.1.set) → View.read (Elt Ideal) M.view (stored M f L n) y = G y
  | 0, h => by obtain ⟨k, hk, _⟩ := h; exact absurd hk (Nat.not_lt_zero _)
  | n + 1, h => by
    by_cases hn : n < k0_t2_loop.trips
    · rw [stored, dif_pos hn]
      by_cases hy : ∃ p ∈ L ⟨n, hn⟩, y ∈ p.1.set
      · exact View.read_writes_apply_of_pieces M.view _ G _ (hG ⟨n, hn⟩) y hy
      · rw [View.read_writes_apply_of_forall_not_mem _ _ y _ fun p hp hm => hy ⟨p, hp, hm⟩]
        refine stored_upto M f L G hG y n ?_
        obtain ⟨k, hk, hp⟩ := h
        rcases Nat.lt_succ_iff_lt_or_eq.mp hk with hk | hk
        · exact ⟨k, hk, hp⟩
        · obtain rfl : k = ⟨n, hn⟩ := Fin.ext hk
          exact absurd hp hy
    · rw [stored, dif_neg hn]
      obtain ⟨k, hk, hp⟩ := h
      exact stored_upto M f L G hG y n ⟨k, by have := k.isLt; omega, hp⟩

theorem stored_read {s : Shape} {e : EltTy} (M : Memref sig .tc .vmem s e) (f : BufTy.Contents (Elt Ideal) M.view.ty) (L : Fin 9 → List (View.Piece (Elt Ideal) s e))
    (G : s.Idx → Elt Ideal e) (hG : ∀ k, ∀ p ∈ L k, ∀ x : p.1.shape.Idx, p.2 x = G (p.1.emb x)) (y : s.Idx)
    (hy : ∃ p ∈ (List.finRange 9).flatMap L, y ∈ p.1.set) :
    View.read (Elt Ideal) M.view (stored M f L (Scf.trips k0_t2_loop.lb k0_t2_loop.ub k0_t2_loop.st)) y = G y := by
  obtain ⟨p, hp, hm⟩ := hy
  obtain ⟨k, _, hk⟩ := List.mem_flatMap.mp hp
  exact stored_upto M f L G hG y _ ⟨k, k.isLt, p, hk, hm⟩

variable (c : Dev nD) (arg0 : Memref sig .tc .vmem S288x2304 .fp8e4m3) (harg0 : arg0.IsWhole) (arg1 : Memref sig .tc .vmem S288x128 .f32) (harg1 : arg1.IsWhole) (arg2 : Memref sig .tc .vmem S288x2304 .f32) (harg2 : arg2.IsWhole) (arg3 : Memref sig .tc .vmem S2x2304 .f32) (harg3 : arg3.IsWhole) (arg5 : Memref sig .tc .vmem S1x12288 .f32) (harg5 : arg5.IsWhole) (arg7 : Memref sig .tc .vmem S1x2304 .f32) (harg7 : arg7.IsWhole) (arg10 : Memref sig .tc .vmem S2x144 .f32) (harg10 : arg10.IsWhole) (arg11 : Memref sig .tc .vmem S10x2304x768 .fp8e4m3) (harg11 : arg11.IsWhole) (arg12 : Memref sig .tc .vmem S3x6144x768 .fp8e4m3) (harg12 : arg12.IsWhole) (arg13 : Memref sig .tc .vmem S288x128 .f32) (harg13 : arg13.IsWhole) (alloca_r0 : Memref sig .tc .vmem S288x6144 .f32) (halloca_r0 : alloca_r0.IsWhole) (alloca_62_r0 : Memref sig .tc .vmem S288x6144 .fp8e4m3) (halloca_62_r0 : alloca_62_r0.IsWhole) (alloca_63_r0 : Memref sig .tc .vmem S288x128 .f32) (halloca_63_r0 : alloca_63_r0.IsWhole) (alloca_64_r0 : Memref sig .tc .vmem S288x2304 .bf16) (halloca_64_r0 : alloca_64_r0.IsWhole)
  (x0 : Vec Ideal S288x2304 .fp8e4m3) (x1 : Vec Ideal S288x128 .f32) (x2 : Vec Ideal S288x2304 .f32) (x3 : Vec Ideal S2x2304 .f32) (x4 : Vec Ideal S1x12288 .f32) (x5 : Vec Ideal S1x2304 .f32)
  (fh0 : HbBuf0 (F := Ideal) c hbM0_0) (fh1 : HbBuf0 (F := Ideal) c hbM0_1)
  (fs0 : arg11.view.ty.Contents (Elt Ideal)) (fs1 : arg12.view.ty.Contents (Elt Ideal)) (fs4 : alloca_62_r0.view.ty.Contents (Elt Ideal)) (fs6 : alloca_64_r0.view.ty.Contents (Elt Ideal))

set_option maxHeartbeats 4000000 in
/-- The lane maxima when all eight slabs are done. -/
theorem maxima_eq : View.read (Elt Ideal) alloca_63_r0.view (alloca_63_r0.view.writes (Elt Ideal) alloca_63_r0.view.junk (kernelRun0_A.sl.HS5_9 c arg0 harg0 arg1 harg1 arg5 harg5 arg11 arg13 alloca_63_r0 x0 x1 x4 fh0 fs0)) = maxAfter (actOf x0 x1 x4 fh0) 8 := by
  obtain ⟨a0, a1, a2, a3, a4, a5, a6, a7⟩ := acts_eq c arg0 harg0 arg1 harg1 arg5 harg5 arg11 arg13 x0 x1 x4 fh0 fs0
  have m0 : kernelRun0_A.sl.v614_r0 (F := Ideal) c alloca_63_r0 = maxAfter (actOf x0 x1 x4 fh0) 0 := by
    simp only [kernelRun0_A.sl.v614_r0, kernelRun0_A.sl.HS5_1]
    refine (View.readCov_full _ _ _ _ _).trans ?_
    refine funext fun (i : S288x128.Idx) => ?_
    unfold_payloads
    pointwise [maxAfter]
  have m1 : kernelRun0_A.sl.v614_r0_1 c arg0 harg0 arg1 harg1 arg5 harg5 arg11 arg13 alloca_63_r0 x0 x1 x4 fh0 fs0 = maxAfter (actOf x0 x1 x4 fh0) 1 := by
    simp only [kernelRun0_A.sl.v614_r0_1, kernelRun0_A.sl.HS5_2]
    exact (View.readCov_full _ _ _ _ _).trans (max_slab (actOf x0 x1 x4 fh0) 0 (by decide) _ _ _ _ _ _ _ a0 m0)
  have m2 : kernelRun0_A.sl.v614_r0_2 c arg0 harg0 arg1 harg1 arg5 harg5 arg11 arg13 alloca_63_r0 x0 x1 x4 fh0 fs0 = maxAfter (actOf x0 x1 x4 fh0) 2 := by
    simp only [kernelRun0_A.sl.v614_r0_2, kernelRun0_A.sl.HS5_3]
    exact (View.readCov_full _ _ _ _ _).trans (max_slab (actOf x0 x1 x4 fh0) 1 (by decide) _ _ _ _ _ _ _ a1 m1)
  have m3 : kernelRun0_A.sl.v614_r0_3 c arg0 harg0 arg1 harg1 arg5 harg5 arg11 arg13 alloca_63_r0 x0 x1 x4 fh0 fs0 = maxAfter (actOf x0 x1 x4 fh0) 3 := by
    simp only [kernelRun0_A.sl.v614_r0_3, kernelRun0_A.sl.HS5_4]
    exact (View.readCov_full _ _ _ _ _).trans (max_slab (actOf x0 x1 x4 fh0) 2 (by decide) _ _ _ _ _ _ _ a2 m2)
  have m4 : kernelRun0_A.sl.v614_r0_4 c arg0 harg0 arg1 harg1 arg5 harg5 arg11 arg13 alloca_63_r0 x0 x1 x4 fh0 fs0 = maxAfter (actOf x0 x1 x4 fh0) 4 := by
    simp only [kernelRun0_A.sl.v614_r0_4, kernelRun0_A.sl.HS5_5]
    exact (View.readCov_full _ _ _ _ _).trans (max_slab (actOf x0 x1 x4 fh0) 3 (by decide) _ _ _ _ _ _ _ a3 m3)
  have m5 : kernelRun0_A.sl.v614_r0_5 c arg0 harg0 arg1 harg1 arg5 harg5 arg11 arg13 alloca_63_r0 x0 x1 x4 fh0 fs0 = maxAfter (actOf x0 x1 x4 fh0) 5 := by
    simp only [kernelRun0_A.sl.v614_r0_5, kernelRun0_A.sl.HS5_6]
    exact (View.readCov_full _ _ _ _ _).trans (max_slab (actOf x0 x1 x4 fh0) 4 (by decide) _ _ _ _ _ _ _ a4 m4)
  have m6 : kernelRun0_A.sl.v614_r0_6 c arg0 harg0 arg1 harg1 arg5 harg5 arg11 arg13 alloca_63_r0 x0 x1 x4 fh0 fs0 = maxAfter (actOf x0 x1 x4 fh0) 6 := by
    simp only [kernelRun0_A.sl.v614_r0_6, kernelRun0_A.sl.HS5_7]
    exact (View.readCov_full _ _ _ _ _).trans (max_slab (actOf x0 x1 x4 fh0) 5 (by decide) _ _ _ _ _ _ _ a5 m5)
  have m7 : kernelRun0_A.sl.v614_r0_7 c arg0 harg0 arg1 harg1 arg5 harg5 arg11 arg13 alloca_63_r0 x0 x1 x4 fh0 fs0 = maxAfter (actOf x0 x1 x4 fh0) 7 := by
    simp only [kernelRun0_A.sl.v614_r0_7, kernelRun0_A.sl.HS5_8]
    exact (View.readCov_full _ _ _ _ _).trans (max_slab (actOf x0 x1 x4 fh0) 6 (by decide) _ _ _ _ _ _ _ a6 m6)
  simp only [kernelRun0_A.sl.HS5_9]
  exact (View.read_writes_full _ _ _ _ _).trans (max_slab (actOf x0 x1 x4 fh0) 7 (by decide) _ _ _ _ _ _ _ a7 m7)

set_option maxHeartbeats 4000000 in
/-- Every slab the first loop stores holds the activation's own entries. -/
theorem act_pieces : ∀ p ∈ kernelRun0_A.sl.HS3_8 c arg0 harg0 arg1 harg1 arg5 harg5 arg11 arg13 x0 x1 x4 fh0 fs0, ∀ x : p.1.shape.Idx, p.2 x = (actOf x0 x1 x4 fh0) (p.1.emb x) := by
  obtain ⟨a0, a1, a2, a3, a4, a5, a6, a7⟩ := acts_eq c arg0 harg0 arg1 harg1 arg5 harg5 arg11 arg13 x0 x1 x4 fh0 fs0
  intro p hp
  unfold kernelRun0_A.sl.HS3_8 at hp
  simp only [List.mem_cons, List.not_mem_nil, or_false] at hp
  rcases hp with rfl | rfl | rfl | rfl | rfl | rfl | rfl | rfl
  · exact fun x => (congrFun ((act_stored _ _ _ _ _ _).trans a7) x).trans (slab_place (actOf x0 x1 x4 fh0) 7 (by decide) (by decide) x)
  · exact fun x => (congrFun ((act_stored _ _ _ _ _ _).trans a6) x).trans (slab_place (actOf x0 x1 x4 fh0) 6 (by decide) (by decide) x)
  · exact fun x => (congrFun ((act_stored _ _ _ _ _ _).trans a5) x).trans (slab_place (actOf x0 x1 x4 fh0) 5 (by decide) (by decide) x)
  · exact fun x => (congrFun ((act_stored _ _ _ _ _ _).trans a4) x).trans (slab_place (actOf x0 x1 x4 fh0) 4 (by decide) (by decide) x)
  · exact fun x => (congrFun ((act_stored _ _ _ _ _ _).trans a3) x).trans (slab_place (actOf x0 x1 x4 fh0) 3 (by decide) (by decide) x)
  · exact fun x => (congrFun ((act_stored _ _ _ _ _ _).trans a2) x).trans (slab_place (actOf x0 x1 x4 fh0) 2 (by decide) (by decide) x)
  · exact fun x => (congrFun ((act_stored _ _ _ _ _ _).trans a1) x).trans (slab_place (actOf x0 x1 x4 fh0) 1 (by decide) (by decide) x)
  · exact fun x => (congrFun ((act_stored _ _ _ _ _ _).trans a0) x).trans (slab_place (actOf x0 x1 x4 fh0) 0 (by decide) (by decide) x)

/-- The activation once every slab is stored. -/
theorem act_read : View.read (Elt Ideal) alloca_r0.view (alloca_r0.view.writes (Elt Ideal) alloca_r0.view.junk (kernelRun0_A.sl.HS3_8 c arg0 harg0 arg1 harg1 arg5 harg5 arg11 arg13 x0 x1 x4 fh0 fs0)) = (actOf x0 x1 x4 fh0) :=
  funext fun i => View.read_writes_apply_of_pieces alloca_r0.view _ (actOf x0 x1 x4 fh0) _ (act_pieces c arg0 harg0 arg1 harg1 arg5 harg5 arg11 arg13 x0 x1 x4 fh0 fs0) i
    (View.cover_of_tiledL (kernelRun0_A.sl.HS3_8 c arg0 harg0 arg1 harg1 arg5 harg5 arg11 arg13 x0 x1 x4 fh0 fs0) ![288, 768] (by sl_kernel_rfl) i)

/-- The scales once every trip has stored its rows. -/
theorem scales_stored (f : arg13.view.ty.Contents (Elt Ideal)) (y : S288x128.Idx) :
    View.read (Elt Ideal) arg13.view (stored arg13 f (scalePieces Variants.none c none arg0 harg0 arg1 harg1 arg2 harg2 arg3 harg3 (Memref.whole main_arg4) (Memref.isWhole_whole _) arg5 harg5 (Memref.whole main_arg6) (Memref.isWhole_whole _) arg7 harg7 (Memref.whole main_v31_0) (Memref.isWhole_whole _) (Memref.whole main_v31_1) (Memref.isWhole_whole _) arg10 harg10 arg11 harg11 arg12 harg12 arg13 harg13 cc0_scratch3 cc0_scratch4 cc0_scratch5 alloca_r0 halloca_r0 alloca_62_r0 halloca_62_r0 alloca_63_r0 halloca_63_r0 alloca_64_r0 halloca_64_r0 (alloca_r0.view.writes (Elt Ideal) alloca_r0.view.junk (kernelRun0_A.sl.HS3_8 c arg0 harg0 arg1 harg1 arg5 harg5 arg11 arg13 x0 x1 x4 fh0 fs0)) (alloca_63_r0.view.writes (Elt Ideal) alloca_63_r0.view.junk (kernelRun0_A.sl.HS5_9 c arg0 harg0 arg1 harg1 arg5 harg5 arg11 arg13 alloca_63_r0 x0 x1 x4 fh0 fs0))) (Scf.trips k0_t2_loop.lb k0_t2_loop.ub k0_t2_loop.st)) y = scaleRows (actOf x0 x1 x4 fh0) y :=
  (stored_read arg13 f _ (scales (View.read (Elt Ideal) alloca_63_r0.view (alloca_63_r0.view.writes (Elt Ideal) alloca_63_r0.view.junk (kernelRun0_A.sl.HS5_9 c arg0 harg0 arg1 harg1 arg5 harg5 arg11 arg13 alloca_63_r0 x0 x1 x4 fh0 fs0)))) (fun k => scalePieces_eq Variants.none c none arg0 harg0 arg1 harg1 arg2 harg2 arg3 harg3 (Memref.whole main_arg4) (Memref.isWhole_whole _) arg5 harg5 (Memref.whole main_arg6) (Memref.isWhole_whole _) arg7 harg7 (Memref.whole main_v31_0) (Memref.isWhole_whole _) (Memref.whole main_v31_1) (Memref.isWhole_whole _) arg10 harg10 arg11 harg11 arg12 harg12 arg13 harg13 cc0_scratch3 cc0_scratch4 cc0_scratch5 alloca_r0 halloca_r0 alloca_62_r0 halloca_62_r0 alloca_63_r0 halloca_63_r0 alloca_64_r0 halloca_64_r0 (alloca_r0.view.writes (Elt Ideal) alloca_r0.view.junk (kernelRun0_A.sl.HS3_8 c arg0 harg0 arg1 harg1 arg5 harg5 arg11 arg13 x0 x1 x4 fh0 fs0)) (alloca_63_r0.view.writes (Elt Ideal) alloca_63_r0.view.junk (kernelRun0_A.sl.HS5_9 c arg0 harg0 arg1 harg1 arg5 harg5 arg11 arg13 alloca_63_r0 x0 x1 x4 fh0 fs0)) k) y
    (scalePieces_cover Variants.none c none arg0 harg0 arg1 harg1 arg2 harg2 arg3 harg3 (Memref.whole main_arg4) (Memref.isWhole_whole _) arg5 harg5 (Memref.whole main_arg6) (Memref.isWhole_whole _) arg7 harg7 (Memref.whole main_v31_0) (Memref.isWhole_whole _) (Memref.whole main_v31_1) (Memref.isWhole_whole _) arg10 harg10 arg11 harg11 arg12 harg12 arg13 harg13 cc0_scratch3 cc0_scratch4 cc0_scratch5 alloca_r0 halloca_r0 alloca_62_r0 halloca_62_r0 alloca_63_r0 halloca_63_r0 alloca_64_r0 halloca_64_r0 (alloca_r0.view.writes (Elt Ideal) alloca_r0.view.junk (kernelRun0_A.sl.HS3_8 c arg0 harg0 arg1 harg1 arg5 harg5 arg11 arg13 x0 x1 x4 fh0 fs0)) (alloca_63_r0.view.writes (Elt Ideal) alloca_63_r0.view.junk (kernelRun0_A.sl.HS5_9 c arg0 harg0 arg1 harg1 arg5 harg5 arg11 arg13 alloca_63_r0 x0 x1 x4 fh0 fs0)) y)).trans
    (by rw [maxima_eq]; exact congrArg scaleOf (laneMax_eq _ _))

/-- The codes once every trip has stored its rows. -/
theorem codes_stored (f : alloca_62_r0.view.ty.Contents (Elt Ideal)) (y : S288x6144.Idx) :
    View.read (Elt Ideal) alloca_62_r0.view (stored alloca_62_r0 f (codePieces Variants.none c none arg0 harg0 arg1 harg1 arg2 harg2 arg3 harg3 (Memref.whole main_arg4) (Memref.isWhole_whole _) arg5 harg5 (Memref.whole main_arg6) (Memref.isWhole_whole _) arg7 harg7 (Memref.whole main_v31_0) (Memref.isWhole_whole _) (Memref.whole main_v31_1) (Memref.isWhole_whole _) arg10 harg10 arg11 harg11 arg12 harg12 arg13 harg13 cc0_scratch3 cc0_scratch4 cc0_scratch5 alloca_r0 halloca_r0 alloca_62_r0 halloca_62_r0 alloca_63_r0 halloca_63_r0 alloca_64_r0 halloca_64_r0 (alloca_r0.view.writes (Elt Ideal) alloca_r0.view.junk (kernelRun0_A.sl.HS3_8 c arg0 harg0 arg1 harg1 arg5 harg5 arg11 arg13 x0 x1 x4 fh0 fs0)) (alloca_63_r0.view.writes (Elt Ideal) alloca_63_r0.view.junk (kernelRun0_A.sl.HS5_9 c arg0 harg0 arg1 harg1 arg5 harg5 arg11 arg13 alloca_63_r0 x0 x1 x4 fh0 fs0))) (Scf.trips k0_t2_loop.lb k0_t2_loop.ub k0_t2_loop.st)) y = codeRows (actOf x0 x1 x4 fh0) y :=
  (stored_read alloca_62_r0 f _ (codes (View.read (Elt Ideal) alloca_r0.view (alloca_r0.view.writes (Elt Ideal) alloca_r0.view.junk (kernelRun0_A.sl.HS3_8 c arg0 harg0 arg1 harg1 arg5 harg5 arg11 arg13 x0 x1 x4 fh0 fs0))) (View.read (Elt Ideal) alloca_63_r0.view (alloca_63_r0.view.writes (Elt Ideal) alloca_63_r0.view.junk (kernelRun0_A.sl.HS5_9 c arg0 harg0 arg1 harg1 arg5 harg5 arg11 arg13 alloca_63_r0 x0 x1 x4 fh0 fs0)))) (fun k => codePieces_eq Variants.none c none arg0 harg0 arg1 harg1 arg2 harg2 arg3 harg3 (Memref.whole main_arg4) (Memref.isWhole_whole _) arg5 harg5 (Memref.whole main_arg6) (Memref.isWhole_whole _) arg7 harg7 (Memref.whole main_v31_0) (Memref.isWhole_whole _) (Memref.whole main_v31_1) (Memref.isWhole_whole _) arg10 harg10 arg11 harg11 arg12 harg12 arg13 harg13 cc0_scratch3 cc0_scratch4 cc0_scratch5 alloca_r0 halloca_r0 alloca_62_r0 halloca_62_r0 alloca_63_r0 halloca_63_r0 alloca_64_r0 halloca_64_r0 (alloca_r0.view.writes (Elt Ideal) alloca_r0.view.junk (kernelRun0_A.sl.HS3_8 c arg0 harg0 arg1 harg1 arg5 harg5 arg11 arg13 x0 x1 x4 fh0 fs0)) (alloca_63_r0.view.writes (Elt Ideal) alloca_63_r0.view.junk (kernelRun0_A.sl.HS5_9 c arg0 harg0 arg1 harg1 arg5 harg5 arg11 arg13 alloca_63_r0 x0 x1 x4 fh0 fs0)) k) y
    (codePieces_cover Variants.none c none arg0 harg0 arg1 harg1 arg2 harg2 arg3 harg3 (Memref.whole main_arg4) (Memref.isWhole_whole _) arg5 harg5 (Memref.whole main_arg6) (Memref.isWhole_whole _) arg7 harg7 (Memref.whole main_v31_0) (Memref.isWhole_whole _) (Memref.whole main_v31_1) (Memref.isWhole_whole _) arg10 harg10 arg11 harg11 arg12 harg12 arg13 harg13 cc0_scratch3 cc0_scratch4 cc0_scratch5 alloca_r0 halloca_r0 alloca_62_r0 halloca_62_r0 alloca_63_r0 halloca_63_r0 alloca_64_r0 halloca_64_r0 (alloca_r0.view.writes (Elt Ideal) alloca_r0.view.junk (kernelRun0_A.sl.HS3_8 c arg0 harg0 arg1 harg1 arg5 harg5 arg11 arg13 x0 x1 x4 fh0 fs0)) (alloca_63_r0.view.writes (Elt Ideal) alloca_63_r0.view.junk (kernelRun0_A.sl.HS5_9 c arg0 harg0 arg1 harg1 arg5 harg5 arg11 arg13 alloca_63_r0 x0 x1 x4 fh0 fs0)) y)).trans
    (by rw [maxima_eq, act_read]; exact congrArg (fun z : EReal => min (Ideal.ofBits FTy.f32 1138753536#32) (max (Ideal.ofBits FTy.f32 3286237184#32) (Ideal.div (actOf x0 x1 x4 fh0 y) (scaleOf z)))) (laneMax_eq _ _))

end Cert.KernelIdeal.Dma

end
-- ==== Proof.KernelIdeal.Scale.lean ====
module

public import proofs.«01_k».proof.Proof.KernelIdeal.Quant

@[expose] public section

set_option maxRecDepth 16384

noncomputable section

namespace Cert.KernelIdeal.Dma

open Cert.KernelIdeal Cert.KernelIdeal.Gen
open Idealize.ShloMosaic Idealize.ShloMosaic.TcCoe
open Idealize.SL.Sem

/-- The scales as the kernel lays them out. -/
def scalesOut (A : S288x6144.Idx → EReal) (i : S2x144.Idx) : EReal := scaleOf (rowMax A (packed (i 0) (i 1)))

theorem packed_val (b : Fin 2) (t : Fin 144) : (packed b t).val = if t.val < 128 then 128 * b.val + t.val else 128 + 16 * b.val + t.val := by
  unfold packed; split_ifs <;> rfl

/-- A row's scale, at the row's sample and token. -/
theorem scales_place (A : S288x6144.Idx → EReal) (r : Fin 288) (i : S2x144.Idx)
    (h : r.val = if (i 1).val < 128 then 128 * (i 0).val + (i 1).val else 128 + 16 * (i 0).val + (i 1).val) : scaleOf (rowMax A r) = scalesOut A i :=
  congrArg (fun z : Fin 288 => scaleOf (rowMax A z)) (Fin.ext (h.trans (packed_val _ _).symm))

/-- A range of rows of an array of rows, at a row and a column. -/
theorem rows_place (A : S288x6144.Idx → EReal) (o n : ℕ) (inb : ∀ a, (![o, 0] : Fin 2 → ℕ) a + (⟨2, ![n, 6144]⟩ : Shape).size a ≤ S288x6144.size a) (r : Fin n) (l : Fin 6144) (h : o + r.val < 288) :
    A ((Rect.unit (s := S288x6144) ![o, 0] (⟨2, ![n, 6144]⟩ : Shape).size inb).emb (ix2 r l)) = A (ix2 ⟨o + r.val, h⟩ l) := by
  refine congrArg A (funext fun a => Fin.ext ?_)
  match a with
  | ⟨0, _⟩ => show o + 1 * r.val = o + r.val; omega
  | ⟨1, _⟩ => show 0 + 1 * l.val = l.val; omega

variable (c : Dev nD) (arg0 : Memref sig .tc .vmem S288x2304 .fp8e4m3) (harg0 : arg0.IsWhole) (arg1 : Memref sig .tc .vmem S288x128 .f32) (harg1 : arg1.IsWhole) (arg2 : Memref sig .tc .vmem S288x2304 .f32) (harg2 : arg2.IsWhole) (arg3 : Memref sig .tc .vmem S2x2304 .f32) (harg3 : arg3.IsWhole) (arg5 : Memref sig .tc .vmem S1x12288 .f32) (harg5 : arg5.IsWhole) (arg7 : Memref sig .tc .vmem S1x2304 .f32) (harg7 : arg7.IsWhole) (arg10 : Memref sig .tc .vmem S2x144 .f32) (harg10 : arg10.IsWhole) (arg11 : Memref sig .tc .vmem S10x2304x768 .fp8e4m3) (harg11 : arg11.IsWhole) (arg12 : Memref sig .tc .vmem S3x6144x768 .fp8e4m3) (harg12 : arg12.IsWhole) (arg13 : Memref sig .tc .vmem S288x128 .f32) (harg13 : arg13.IsWhole) (alloca_r0 : Memref sig .tc .vmem S288x6144 .f32) (halloca_r0 : alloca_r0.IsWhole) (alloca_62_r0 : Memref sig .tc .vmem S288x6144 .fp8e4m3) (halloca_62_r0 : alloca_62_r0.IsWhole) (alloca_63_r0 : Memref sig .tc .vmem S288x128 .f32) (halloca_63_r0 : alloca_63_r0.IsWhole) (alloca_64_r0 : Memref sig .tc .vmem S288x2304 .bf16) (halloca_64_r0 : alloca_64_r0.IsWhole)
  (x0 : Vec Ideal S288x2304 .fp8e4m3) (x1 : Vec Ideal S288x128 .f32) (x2 : Vec Ideal S288x2304 .f32) (x3 : Vec Ideal S2x2304 .f32) (x4 : Vec Ideal S1x12288 .f32) (x5 : Vec Ideal S1x2304 .f32)
  (fh0 : HbBuf0 (F := Ideal) c hbM0_0) (fh1 : HbBuf0 (F := Ideal) c hbM0_1)
  (fs0 : arg11.view.ty.Contents (Elt Ideal)) (fs1 : arg12.view.ty.Contents (Elt Ideal)) (fs4 : alloca_62_r0.view.ty.Contents (Elt Ideal)) (fs6 : alloca_64_r0.view.ty.Contents (Elt Ideal))

/-- The scales of the first sample's 128 first tokens. -/
theorem head0_read (r l : Fin 128) : kernelRun0_A.sl.v98_r0 c arg0 harg0 arg1 harg1 arg2 harg2 arg3 harg3 arg5 harg5 arg7 harg7 arg10 harg10 arg11 harg11 arg12 harg12 arg13 harg13 alloca_r0 halloca_r0 alloca_62_r0 halloca_62_r0 alloca_63_r0 halloca_63_r0 alloca_64_r0 halloca_64_r0 x0 x1 x4 fh0 fs0 (ix2 r l) = scaleOf (rowMax (actOf x0 x1 x4 fh0) ⟨r.val, by omega⟩) := by
  simp only [kernelRun0_A.sl.v98_r0]
  exact (scales_stored c arg0 harg0 arg1 harg1 arg2 harg2 arg3 harg3 arg5 harg5 arg7 harg7 arg10 harg10 arg11 harg11 arg12 harg12 arg13 harg13 alloca_r0 halloca_r0 alloca_62_r0 halloca_62_r0 alloca_63_r0 halloca_63_r0 alloca_64_r0 halloca_64_r0 x0 x1 x4 fh0 fs0 _ _).trans (congrArg (fun z : Fin 288 => scaleOf (rowMax (actOf x0 x1 x4 fh0) z)) (Fin.ext (by show 0 + 1 * r.val = r.val; omega)))

/-- The scales of the second sample's 128 first tokens. -/
theorem head1_read (r l : Fin 128) : kernelRun0_A.sl.v101_r0 c arg0 harg0 arg1 harg1 arg2 harg2 arg3 harg3 arg5 harg5 arg7 harg7 arg10 harg10 arg11 harg11 arg12 harg12 arg13 harg13 alloca_r0 halloca_r0 alloca_62_r0 halloca_62_r0 alloca_63_r0 halloca_63_r0 alloca_64_r0 halloca_64_r0 x0 x1 x4 fh0 fs0 (ix2 r l) = scaleOf (rowMax (actOf x0 x1 x4 fh0) ⟨128 + r.val, by omega⟩) := by
  simp only [kernelRun0_A.sl.v101_r0]
  exact (scales_stored c arg0 harg0 arg1 harg1 arg2 harg2 arg3 harg3 arg5 harg5 arg7 harg7 arg10 harg10 arg11 harg11 arg12 harg12 arg13 harg13 alloca_r0 halloca_r0 alloca_62_r0 halloca_62_r0 alloca_63_r0 halloca_63_r0 alloca_64_r0 halloca_64_r0 x0 x1 x4 fh0 fs0 _ _).trans (congrArg (fun z : Fin 288 => scaleOf (rowMax (actOf x0 x1 x4 fh0) z)) (Fin.ext (by show 128 + 1 * r.val = 128 + r.val; omega)))

/-- The scales of both samples' 16 last tokens. -/
theorem tail_read (r : Fin 32) (l : Fin 128) : kernelRun0_A.sl.v104_r0 c arg0 harg0 arg1 harg1 arg2 harg2 arg3 harg3 arg5 harg5 arg7 harg7 arg10 harg10 arg11 harg11 arg12 harg12 arg13 harg13 alloca_r0 halloca_r0 alloca_62_r0 halloca_62_r0 alloca_63_r0 halloca_63_r0 alloca_64_r0 halloca_64_r0 x0 x1 x4 fh0 fs0 (ix2 r l) = scaleOf (rowMax (actOf x0 x1 x4 fh0) ⟨256 + r.val, by omega⟩) := by
  simp only [kernelRun0_A.sl.v104_r0]
  exact (scales_stored c arg0 harg0 arg1 harg1 arg2 harg2 arg3 harg3 arg5 harg5 arg7 harg7 arg10 harg10 arg11 harg11 arg12 harg12 arg13 harg13 alloca_r0 halloca_r0 alloca_62_r0 halloca_62_r0 alloca_63_r0 halloca_63_r0 alloca_64_r0 halloca_64_r0 x0 x1 x4 fh0 fs0 _ _).trans (congrArg (fun z : Fin 288 => scaleOf (rowMax (actOf x0 x1 x4 fh0) z)) (Fin.ext (by show 256 + 1 * r.val = 256 + r.val; omega)))

/-- The scales the down projection reads. -/
theorem scales_read : kernelRun0_A.sl.v124_r0 c arg0 harg0 arg1 harg1 arg2 harg2 arg3 harg3 arg5 harg5 arg7 harg7 arg10 harg10 arg11 harg11 arg12 harg12 arg13 harg13 alloca_r0 halloca_r0 alloca_62_r0 halloca_62_r0 alloca_63_r0 halloca_63_r0 alloca_64_r0 halloca_64_r0 x0 x1 x4 fh0 fs0 = scaleRows (actOf x0 x1 x4 fh0) := by
  simp only [kernelRun0_A.sl.v124_r0]
  exact (View.readAt_full _ _ _).trans (funext fun y => scales_stored c arg0 harg0 arg1 harg1 arg2 harg2 arg3 harg3 arg5 harg5 arg7 harg7 arg10 harg10 arg11 harg11 arg12 harg12 arg13 harg13 alloca_r0 halloca_r0 alloca_62_r0 halloca_62_r0 alloca_63_r0 halloca_63_r0 alloca_64_r0 halloca_64_r0 x0 x1 x4 fh0 fs0 _ y)

/-- The codes the down projection reads. -/
theorem codes_read : kernelRun0_A.sl.v120_r0 c arg0 harg0 arg1 harg1 arg2 harg2 arg3 harg3 arg5 harg5 arg7 harg7 arg10 harg10 arg11 harg11 arg12 harg12 arg13 harg13 alloca_r0 halloca_r0 alloca_62_r0 halloca_62_r0 alloca_63_r0 halloca_63_r0 alloca_64_r0 halloca_64_r0 x0 x1 x4 fh0 fs0 fs4 = codeRows (actOf x0 x1 x4 fh0) := by
  simp only [kernelRun0_A.sl.v120_r0]
  exact (View.readAt_full _ _ _).trans (funext fun y => codes_stored c arg0 harg0 arg1 harg1 arg2 harg2 arg3 harg3 arg5 harg5 arg7 harg7 arg10 harg10 arg11 harg11 arg12 harg12 arg13 harg13 alloca_r0 halloca_r0 alloca_62_r0 halloca_62_r0 alloca_63_r0 halloca_63_r0 alloca_64_r0 halloca_64_r0 x0 x1 x4 fh0 fs0 _ y)

/-- The codes carried by copy 0 out of the packed codes. -/
theorem code_copy0 (r : Fin 128) (l : Fin 6144) : kernelRun0_A.sl.dma0_13 c arg0 harg0 arg1 harg1 arg2 harg2 arg3 harg3 arg5 harg5 arg7 harg7 arg10 harg10 arg11 harg11 arg12 harg12 arg13 harg13 alloca_r0 halloca_r0 alloca_62_r0 halloca_62_r0 alloca_63_r0 halloca_63_r0 alloca_64_r0 halloca_64_r0 x0 x1 x4 fh0 fs0 fs4 (ix2 r l) = codeRows (actOf x0 x1 x4 fh0) (ix2 ⟨r.val, by omega⟩ l) := by
  simp only [kernelRun0_A.sl.dma0_13]
  refine (codes_stored c arg0 harg0 arg1 harg1 arg2 harg2 arg3 harg3 arg5 harg5 arg7 harg7 arg10 harg10 arg11 harg11 arg12 harg12 arg13 harg13 alloca_r0 halloca_r0 alloca_62_r0 halloca_62_r0 alloca_63_r0 halloca_63_r0 alloca_64_r0 halloca_64_r0 x0 x1 x4 fh0 fs0 _ _).trans (congrArg (codeRows (actOf x0 x1 x4 fh0)) (funext fun a => Fin.ext ?_))
  match a with
  | ⟨0, _⟩ => show 0 + 1 * r.val = r.val; omega
  | ⟨1, _⟩ => show 0 + 1 * l.val = l.val; omega

/-- The codes carried by copy 1 out of the packed codes. -/
theorem code_copy1 (r : Fin 128) (l : Fin 6144) : kernelRun0_A.sl.dma0_14 c arg0 harg0 arg1 harg1 arg2 harg2 arg3 harg3 arg5 harg5 arg7 harg7 arg10 harg10 arg11 harg11 arg12 harg12 arg13 harg13 alloca_r0 halloca_r0 alloca_62_r0 halloca_62_r0 alloca_63_r0 halloca_63_r0 alloca_64_r0 halloca_64_r0 x0 x1 x4 fh0 fs0 fs4 (ix2 r l) = codeRows (actOf x0 x1 x4 fh0) (ix2 ⟨128 + r.val, by omega⟩ l) := by
  simp only [kernelRun0_A.sl.dma0_14]
  refine (codes_stored c arg0 harg0 arg1 harg1 arg2 harg2 arg3 harg3 arg5 harg5 arg7 harg7 arg10 harg10 arg11 harg11 arg12 harg12 arg13 harg13 alloca_r0 halloca_r0 alloca_62_r0 halloca_62_r0 alloca_63_r0 halloca_63_r0 alloca_64_r0 halloca_64_r0 x0 x1 x4 fh0 fs0 _ _).trans (congrArg (codeRows (actOf x0 x1 x4 fh0)) (funext fun a => Fin.ext ?_))
  match a with
  | ⟨0, _⟩ => show 128 + 1 * r.val = 128 + r.val; omega
  | ⟨1, _⟩ => show 0 + 1 * l.val = l.val; omega

/-- The codes carried by copy 2 out of the packed codes. -/
theorem code_copy2 (r : Fin 16) (l : Fin 6144) : kernelRun0_A.sl.dma0_15 c arg0 harg0 arg1 harg1 arg2 harg2 arg3 harg3 arg5 harg5 arg7 harg7 arg10 harg10 arg11 harg11 arg12 harg12 arg13 harg13 alloca_r0 halloca_r0 alloca_62_r0 halloca_62_r0 alloca_63_r0 halloca_63_r0 alloca_64_r0 halloca_64_r0 x0 x1 x4 fh0 fs0 fs4 (ix2 r l) = codeRows (actOf x0 x1 x4 fh0) (ix2 ⟨256 + r.val, by omega⟩ l) := by
  simp only [kernelRun0_A.sl.dma0_15]
  refine (codes_stored c arg0 harg0 arg1 harg1 arg2 harg2 arg3 harg3 arg5 harg5 arg7 harg7 arg10 harg10 arg11 harg11 arg12 harg12 arg13 harg13 alloca_r0 halloca_r0 alloca_62_r0 halloca_62_r0 alloca_63_r0 halloca_63_r0 alloca_64_r0 halloca_64_r0 x0 x1 x4 fh0 fs0 _ _).trans (congrArg (codeRows (actOf x0 x1 x4 fh0)) (funext fun a => Fin.ext ?_))
  match a with
  | ⟨0, _⟩ => show 256 + 1 * r.val = 256 + r.val; omega
  | ⟨1, _⟩ => show 0 + 1 * l.val = l.val; omega

/-- The codes carried by copy 3 out of the packed codes. -/
theorem code_copy3 (r : Fin 16) (l : Fin 6144) : kernelRun0_A.sl.dma0_16 c arg0 harg0 arg1 harg1 arg2 harg2 arg3 harg3 arg5 harg5 arg7 harg7 arg10 harg10 arg11 harg11 arg12 harg12 arg13 harg13 alloca_r0 halloca_r0 alloca_62_r0 halloca_62_r0 alloca_63_r0 halloca_63_r0 alloca_64_r0 halloca_64_r0 x0 x1 x4 fh0 fs0 fs4 (ix2 r l) = codeRows (actOf x0 x1 x4 fh0) (ix2 ⟨272 + r.val, by omega⟩ l) := by
  simp only [kernelRun0_A.sl.dma0_16]
  refine (codes_stored c arg0 harg0 arg1 harg1 arg2 harg2 arg3 harg3 arg5 harg5 arg7 harg7 arg10 harg10 arg11 harg11 arg12 harg12 arg13 harg13 alloca_r0 halloca_r0 alloca_62_r0 halloca_62_r0 alloca_63_r0 halloca_63_r0 alloca_64_r0 halloca_64_r0 x0 x1 x4 fh0 fs0 _ _).trans (congrArg (codeRows (actOf x0 x1 x4 fh0)) (funext fun a => Fin.ext ?_))
  match a with
  | ⟨0, _⟩ => show 272 + 1 * r.val = 272 + r.val; omega
  | ⟨1, _⟩ => show 0 + 1 * l.val = l.val; omega

/-- The first sample's 128 first scales, as stored. -/
theorem row00_eq (inb) (i : S1x128.Idx) : k0_pay68 (F := Ideal) (kernelRun0_A.sl.r_16 c arg0 harg0 arg1 harg1 arg2 harg2 arg3 harg3 arg5 harg5 arg7 harg7 arg10 harg10 arg11 harg11 arg12 harg12 arg13 harg13 alloca_r0 halloca_r0 alloca_62_r0 halloca_62_r0 alloca_63_r0 halloca_63_r0 alloca_64_r0 halloca_64_r0 x0 x1 x4 fh0 fs0) i = scalesOut (actOf x0 x1 x4 fh0) ((Rect.unit (s := S2x144) ![0, 0] S1x128.size inb).emb i) := by
  idx_vars i
  have h0 := i0.isLt
  have h1 := i1.isLt
  refine Eq.trans ?_ ((head0_read c arg0 harg0 arg1 harg1 arg2 harg2 arg3 harg3 arg5 harg5 arg7 harg7 arg10 harg10 arg11 harg11 arg12 harg12 arg13 harg13 alloca_r0 halloca_r0 alloca_62_r0 halloca_62_r0 alloca_63_r0 halloca_63_r0 alloca_64_r0 halloca_64_r0 x0 x1 x4 fh0 fs0 i1 0).trans (scales_place (actOf x0 x1 x4 fh0) _ _ ?_))
  · unfold kernelRun0_A.sl.r_16
    unfold_payloads
    pointwise [emb_norm]
    all_goals exact dif_pos (by omega)
  · show i1.val = if 0 + 1 * i1.val < 128 then 128 * (0 + 1 * i0.val) + (0 + 1 * i1.val) else 128 + 16 * (0 + 1 * i0.val) + (0 + 1 * i1.val)
    split_ifs <;> omega

/-- The second sample's 128 first scales, as stored. -/
theorem row10_eq (inb) (i : S1x128.Idx) : k0_pay69 (F := Ideal) (kernelRun0_A.sl.v101_r0 c arg0 harg0 arg1 harg1 arg2 harg2 arg3 harg3 arg5 harg5 arg7 harg7 arg10 harg10 arg11 harg11 arg12 harg12 arg13 harg13 alloca_r0 halloca_r0 alloca_62_r0 halloca_62_r0 alloca_63_r0 halloca_63_r0 alloca_64_r0 halloca_64_r0 x0 x1 x4 fh0 fs0) i = scalesOut (actOf x0 x1 x4 fh0) ((Rect.unit (s := S2x144) ![1, 0] S1x128.size inb).emb i) := by
  idx_vars i
  have h0 := i0.isLt
  have h1 := i1.isLt
  refine Eq.trans ?_ ((head1_read c arg0 harg0 arg1 harg1 arg2 harg2 arg3 harg3 arg5 harg5 arg7 harg7 arg10 harg10 arg11 harg11 arg12 harg12 arg13 harg13 alloca_r0 halloca_r0 alloca_62_r0 halloca_62_r0 alloca_63_r0 halloca_63_r0 alloca_64_r0 halloca_64_r0 x0 x1 x4 fh0 fs0 i1 0).trans (scales_place (actOf x0 x1 x4 fh0) _ _ ?_))
  · unfold_payloads
    pointwise [emb_norm]
    all_goals exact dif_pos (by omega)
  · show 128 + i1.val = if 0 + 1 * i1.val < 128 then 128 * (1 + 1 * i0.val) + (0 + 1 * i1.val) else 128 + 16 * (1 + 1 * i0.val) + (0 + 1 * i1.val)
    split_ifs <;> omega

/-- The first sample's 16 last scales, as stored. -/
theorem row01_eq (inb) (i : S1x16.Idx) : k0_pay71 (F := Ideal) (kernelRun0_A.sl.v104_r0 c arg0 harg0 arg1 harg1 arg2 harg2 arg3 harg3 arg5 harg5 arg7 harg7 arg10 harg10 arg11 harg11 arg12 harg12 arg13 harg13 alloca_r0 halloca_r0 alloca_62_r0 halloca_62_r0 alloca_63_r0 halloca_63_r0 alloca_64_r0 halloca_64_r0 x0 x1 x4 fh0 fs0) i = scalesOut (actOf x0 x1 x4 fh0) ((Rect.unit (s := S2x144) ![0, 128] S1x16.size inb).emb i) := by
  idx_vars i
  have h0 := i0.isLt
  have h1 := i1.isLt
  refine Eq.trans ?_ ((tail_read c arg0 harg0 arg1 harg1 arg2 harg2 arg3 harg3 arg5 harg5 arg7 harg7 arg10 harg10 arg11 harg11 arg12 harg12 arg13 harg13 alloca_r0 halloca_r0 alloca_62_r0 halloca_62_r0 alloca_63_r0 halloca_63_r0 alloca_64_r0 halloca_64_r0 x0 x1 x4 fh0 fs0 ⟨i1.val, by omega⟩ 0).trans (scales_place (actOf x0 x1 x4 fh0) _ _ ?_))
  · unfold_payloads
    pointwise [emb_norm]
    all_goals exact dif_pos (by omega)
  · show 256 + i1.val = if 128 + 1 * i1.val < 128 then 128 * (0 + 1 * i0.val) + (128 + 1 * i1.val) else 128 + 16 * (0 + 1 * i0.val) + (128 + 1 * i1.val)
    split_ifs <;> omega

/-- The second sample's 16 last scales, as stored. -/
theorem row11_eq (inb) (i : S1x16.Idx) : k0_pay72 (F := Ideal) (kernelRun0_A.sl.v104_r0 c arg0 harg0 arg1 harg1 arg2 harg2 arg3 harg3 arg5 harg5 arg7 harg7 arg10 harg10 arg11 harg11 arg12 harg12 arg13 harg13 alloca_r0 halloca_r0 alloca_62_r0 halloca_62_r0 alloca_63_r0 halloca_63_r0 alloca_64_r0 halloca_64_r0 x0 x1 x4 fh0 fs0) i = scalesOut (actOf x0 x1 x4 fh0) ((Rect.unit (s := S2x144) ![1, 128] S1x16.size inb).emb i) := by
  idx_vars i
  have h0 := i0.isLt
  have h1 := i1.isLt
  refine Eq.trans ?_ ((tail_read c arg0 harg0 arg1 harg1 arg2 harg2 arg3 harg3 arg5 harg5 arg7 harg7 arg10 harg10 arg11 harg11 arg12 harg12 arg13 harg13 alloca_r0 halloca_r0 alloca_62_r0 halloca_62_r0 alloca_63_r0 halloca_63_r0 alloca_64_r0 halloca_64_r0 x0 x1 x4 fh0 fs0 ⟨16 + i1.val, by omega⟩ 0).trans (scales_place (actOf x0 x1 x4 fh0) _ _ ?_))
  · unfold_payloads
    pointwise [emb_norm]
    all_goals exact dif_pos (by omega)
  · show 256 + (16 + i1.val) = if 128 + 1 * i1.val < 128 then 128 * (1 + 1 * i0.val) + (128 + 1 * i1.val) else 128 + 16 * (1 + 1 * i0.val) + (128 + 1 * i1.val)
    split_ifs <;> omega

/-- The scales' result, once its four pieces are stored. -/
theorem scales_out (f : arg10.view.ty.Contents (Elt Ideal)) (inb0) (inb1) (inb2) (inb3) (i : S2x144.Idx) :
    View.read (Elt Ideal) arg10.view (arg10.view.writes (Elt Ideal) f [⟨Rect.unit ![1, 128] S1x16.size inb3, k0_pay72 (F := Ideal) (kernelRun0_A.sl.v104_r0 c arg0 harg0 arg1 harg1 arg2 harg2 arg3 harg3 arg5 harg5 arg7 harg7 arg10 harg10 arg11 harg11 arg12 harg12 arg13 harg13 alloca_r0 halloca_r0 alloca_62_r0 halloca_62_r0 alloca_63_r0 halloca_63_r0 alloca_64_r0 halloca_64_r0 x0 x1 x4 fh0 fs0)⟩, ⟨Rect.unit ![1, 0] S1x128.size inb2, k0_pay69 (F := Ideal) (kernelRun0_A.sl.v101_r0 c arg0 harg0 arg1 harg1 arg2 harg2 arg3 harg3 arg5 harg5 arg7 harg7 arg10 harg10 arg11 harg11 arg12 harg12 arg13 harg13 alloca_r0 halloca_r0 alloca_62_r0 halloca_62_r0 alloca_63_r0 halloca_63_r0 alloca_64_r0 halloca_64_r0 x0 x1 x4 fh0 fs0)⟩, ⟨Rect.unit ![0, 128] S1x16.size inb1, k0_pay71 (F := Ideal) (kernelRun0_A.sl.v104_r0 c arg0 harg0 arg1 harg1 arg2 harg2 arg3 harg3 arg5 harg5 arg7 harg7 arg10 harg10 arg11 harg11 arg12 harg12 arg13 harg13 alloca_r0 halloca_r0 alloca_62_r0 halloca_62_r0 alloca_63_r0 halloca_63_r0 alloca_64_r0 halloca_64_r0 x0 x1 x4 fh0 fs0)⟩, ⟨Rect.unit ![0, 0] S1x128.size inb0, k0_pay68 (F := Ideal) (kernelRun0_A.sl.r_16 c arg0 harg0 arg1 harg1 arg2 harg2 arg3 harg3 arg5 harg5 arg7 harg7 arg10 harg10 arg11 harg11 arg12 harg12 arg13 harg13 alloca_r0 halloca_r0 alloca_62_r0 halloca_62_r0 alloca_63_r0 halloca_63_r0 alloca_64_r0 halloca_64_r0 x0 x1 x4 fh0 fs0)⟩]) i = scalesOut (actOf x0 x1 x4 fh0) i := by
  refine View.read_writes_apply_of_pieces arg10.view f (scalesOut (actOf x0 x1 x4 fh0)) _ ?_ i ?_
  swap
  · have h0 : (i 0).val < 2 := (i 0).isLt
    have h1 : (i 1).val < 144 := (i 1).isLt
    by_cases a : (i 0).val = 0 <;> by_cases b : (i 1).val < 128
    · refine ⟨_, .tail _ (.tail _ (.tail _ (.head _))), ?_⟩
      exact (Rect.mem_set_unit (inb := inb0)).mpr fun k => match k with
        | ⟨0, _⟩ => ⟨Nat.zero_le _, by show (i 0).val < 0 + 1; omega⟩
        | ⟨1, _⟩ => ⟨Nat.zero_le _, by show (i 1).val < 0 + 128; omega⟩
    · refine ⟨_, .tail _ (.tail _ (.head _)), ?_⟩
      exact (Rect.mem_set_unit (inb := inb1)).mpr fun k => match k with
        | ⟨0, _⟩ => ⟨Nat.zero_le _, by show (i 0).val < 0 + 1; omega⟩
        | ⟨1, _⟩ => ⟨by show 128 ≤ (i 1).val; omega, by show (i 1).val < 128 + 16; omega⟩
    · refine ⟨_, .tail _ (.head _), ?_⟩
      exact (Rect.mem_set_unit (inb := inb2)).mpr fun k => match k with
        | ⟨0, _⟩ => ⟨by show 1 ≤ (i 0).val; omega, by show (i 0).val < 1 + 1; omega⟩
        | ⟨1, _⟩ => ⟨Nat.zero_le _, by show (i 1).val < 0 + 128; omega⟩
    · refine ⟨_, .head _, ?_⟩
      exact (Rect.mem_set_unit (inb := inb3)).mpr fun k => match k with
        | ⟨0, _⟩ => ⟨by show 1 ≤ (i 0).val; omega, by show (i 0).val < 1 + 1; omega⟩
        | ⟨1, _⟩ => ⟨by show 128 ≤ (i 1).val; omega, by show (i 1).val < 128 + 16; omega⟩
  intro p hp
  simp only [List.mem_cons, List.not_mem_nil, or_false] at hp
  rcases hp with rfl | rfl | rfl | rfl
  · exact row11_eq c arg0 harg0 arg1 harg1 arg2 harg2 arg3 harg3 arg5 harg5 arg7 harg7 arg10 harg10 arg11 harg11 arg12 harg12 arg13 harg13 alloca_r0 halloca_r0 alloca_62_r0 halloca_62_r0 alloca_63_r0 halloca_63_r0 alloca_64_r0 halloca_64_r0 x0 x1 x4 fh0 fs0 inb3
  · exact row10_eq c arg0 harg0 arg1 harg1 arg2 harg2 arg3 harg3 arg5 harg5 arg7 harg7 arg10 harg10 arg11 harg11 arg12 harg12 arg13 harg13 alloca_r0 halloca_r0 alloca_62_r0 halloca_62_r0 alloca_63_r0 halloca_63_r0 alloca_64_r0 halloca_64_r0 x0 x1 x4 fh0 fs0 inb2
  · exact row01_eq c arg0 harg0 arg1 harg1 arg2 harg2 arg3 harg3 arg5 harg5 arg7 harg7 arg10 harg10 arg11 harg11 arg12 harg12 arg13 harg13 alloca_r0 halloca_r0 alloca_62_r0 halloca_62_r0 alloca_63_r0 halloca_63_r0 alloca_64_r0 halloca_64_r0 x0 x1 x4 fh0 fs0 inb1
  · exact row00_eq c arg0 harg0 arg1 harg1 arg2 harg2 arg3 harg3 arg5 harg5 arg7 harg7 arg10 harg10 arg11 harg11 arg12 harg12 arg13 harg13 alloca_r0 halloca_r0 alloca_62_r0 halloca_62_r0 alloca_63_r0 halloca_63_r0 alloca_64_r0 halloca_64_r0 x0 x1 x4 fh0 fs0 inb0

end Cert.KernelIdeal.Dma

end
-- ==== Proof.KernelIdeal.Out.lean ====
module

public import proofs.«01_k».proof.Proof.KernelIdeal.Scale

@[expose] public section

set_option maxRecDepth 16384

noncomputable section

namespace Cert.KernelIdeal.Dma

open Cert.KernelIdeal Cert.KernelIdeal.Gen
open Idealize.ShloMosaic Idealize.ShloMosaic.TcCoe
open Idealize.SL.Sem

variable (c : Dev nD) (arg0 : Memref sig .tc .vmem S288x2304 .fp8e4m3) (harg0 : arg0.IsWhole) (arg1 : Memref sig .tc .vmem S288x128 .f32) (harg1 : arg1.IsWhole) (arg2 : Memref sig .tc .vmem S288x2304 .f32) (harg2 : arg2.IsWhole) (arg3 : Memref sig .tc .vmem S2x2304 .f32) (harg3 : arg3.IsWhole) (arg5 : Memref sig .tc .vmem S1x12288 .f32) (harg5 : arg5.IsWhole) (arg7 : Memref sig .tc .vmem S1x2304 .f32) (harg7 : arg7.IsWhole) (arg10 : Memref sig .tc .vmem S2x144 .f32) (harg10 : arg10.IsWhole) (arg11 : Memref sig .tc .vmem S10x2304x768 .fp8e4m3) (harg11 : arg11.IsWhole) (arg12 : Memref sig .tc .vmem S3x6144x768 .fp8e4m3) (harg12 : arg12.IsWhole) (arg13 : Memref sig .tc .vmem S288x128 .f32) (harg13 : arg13.IsWhole) (alloca_r0 : Memref sig .tc .vmem S288x6144 .f32) (halloca_r0 : alloca_r0.IsWhole) (alloca_62_r0 : Memref sig .tc .vmem S288x6144 .fp8e4m3) (halloca_62_r0 : alloca_62_r0.IsWhole) (alloca_63_r0 : Memref sig .tc .vmem S288x128 .f32) (halloca_63_r0 : alloca_63_r0.IsWhole) (alloca_64_r0 : Memref sig .tc .vmem S288x2304 .bf16) (halloca_64_r0 : alloca_64_r0.IsWhole)
  (x0 : Vec Ideal S288x2304 .fp8e4m3) (x1 : Vec Ideal S288x128 .f32) (x2 : Vec Ideal S288x2304 .f32) (x3 : Vec Ideal S2x2304 .f32) (x4 : Vec Ideal S1x12288 .f32) (x5 : Vec Ideal S1x2304 .f32)
  (fh0 : HbBuf0 (F := Ideal) c hbM0_0) (fh1 : HbBuf0 (F := Ideal) c hbM0_1)
  (fs0 : arg11.view.ty.Contents (Elt Ideal)) (fs1 : arg12.view.ty.Contents (Elt Ideal)) (fs4 : alloca_62_r0.view.ty.Contents (Elt Ideal)) (fs6 : alloca_64_r0.view.ty.Contents (Elt Ideal))

/-- The copy of slab 0 of the down weight carries its columns from 0 on. -/
theorem slab0_copied (k : Fin 6144) (l : Fin 768) :
    kernelRun0_A.sl.dma0_10 c fh1 (ix2 k l) = fh1 (ix2 k ⟨l.val, by omega⟩) := by
  simp only [kernelRun0_A.sl.dma0_10]
  pointwise [same_apply, read_part, emb_norm]

/-- The copy of slab 1 of the down weight carries its columns from 768 on. -/
theorem slab1_copied (k : Fin 6144) (l : Fin 768) :
    kernelRun0_A.sl.dma0_11 c fh1 (ix2 k l) = fh1 (ix2 k ⟨768 + l.val, by omega⟩) := by
  simp only [kernelRun0_A.sl.dma0_11]
  pointwise [same_apply, read_part, emb_norm]

/-- The copy of slab 2 of the down weight carries its columns from 1536 on. -/
theorem slab2_copied (k : Fin 6144) (l : Fin 768) :
    kernelRun0_A.sl.dma0_12 c fh1 (ix2 k l) = fh1 (ix2 k ⟨1536 + l.val, by omega⟩) := by
  simp only [kernelRun0_A.sl.dma0_12]
  pointwise [same_apply, read_part, emb_norm]

/-- Slot 0 of the down weight's scratch, when all three slabs have arrived, is slab 0 of the weight. -/
theorem slab0_eq : kernelRun0_A.sl.v121_r0 c arg12 fh1 fs1 = fun j : S1x6144x768.Idx => slabW fh1 0 (by decide) j :=
  funext fun j => (slots_read arg12 fs1 fh1 _ _ _ (slab0_copied c fh1) (slab1_copied c fh1) (slab2_copied c fh1) _).trans (slotW_emb fh1 0 (by decide) _ j)

/-- Slot 1 of the down weight's scratch, when all three slabs have arrived, is slab 1 of the weight. -/
theorem slab1_eq : kernelRun0_A.sl.v245_r0 c arg12 fh1 fs1 = fun j : S1x6144x768.Idx => slabW fh1 1 (by decide) j :=
  funext fun j => (slots_read arg12 fs1 fh1 _ _ _ (slab0_copied c fh1) (slab1_copied c fh1) (slab2_copied c fh1) _).trans (slotW_emb fh1 1 (by decide) _ j)

/-- Slot 2 of the down weight's scratch, when all three slabs have arrived, is slab 2 of the weight. -/
theorem slab2_eq : kernelRun0_A.sl.v369_r0 c arg12 fh1 fs1 = fun j : S1x6144x768.Idx => slabW fh1 2 (by decide) j :=
  funext fun j => (slots_read arg12 fs1 fh1 _ _ _ (slab0_copied c fh1) (slab1_copied c fh1) (slab2_copied c fh1) _).trans (slotW_emb fh1 2 (by decide) _ j)

set_option maxHeartbeats 4000000 in
/-- Every tile the kernel stores into the packed result holds the packed result's own entries. -/
theorem pieces_eq : ∀ p ∈ kernelRun0_A.sl.HS6_27 c arg0 harg0 arg1 harg1 arg2 harg2 arg3 harg3 arg5 harg5 arg7 harg7 arg10 harg10 arg11 harg11 arg12 harg12 arg13 harg13 alloca_r0 halloca_r0 alloca_62_r0 halloca_62_r0 alloca_63_r0 halloca_63_r0 alloca_64_r0 halloca_64_r0 x0 x1 x2 x3 x4 x5 fh0 fh1 fs0 fs1 fs4, ∀ x : p.1.shape.Idx, p.2 x = yRow (codeRows (actOf x0 x1 x4 fh0)) (scaleRows (actOf x0 x1 x4 fh0)) x2 x3 x5 fh1 (p.1.emb x) := by
  intro p hp
  unfold kernelRun0_A.sl.HS6_27 at hp
  simp only [List.mem_cons, List.not_mem_nil, or_false] at hp
  rcases hp with rfl | rfl | rfl | rfl | rfl | rfl | rfl | rfl | rfl | rfl | rfl | rfl | rfl | rfl | rfl | rfl | rfl | rfl | rfl | rfl | rfl | rfl | rfl | rfl | rfl | rfl | rfl
  all_goals
    dsimp only
    intro (y : S32x768.Idx)
    idx_vars y
    try dsimp only [kernelRun0_A.sl.r_17, kernelRun0_A.sl.r_18, kernelRun0_A.sl.r_19, kernelRun0_A.sl.r_20, kernelRun0_A.sl.r_21, kernelRun0_A.sl.r_22, kernelRun0_A.sl.r_23, kernelRun0_A.sl.r_24, kernelRun0_A.sl.r_25, kernelRun0_A.sl.r_26, kernelRun0_A.sl.r_27, kernelRun0_A.sl.r_28, kernelRun0_A.sl.r_29, kernelRun0_A.sl.r_30, kernelRun0_A.sl.r_31, kernelRun0_A.sl.r_32, kernelRun0_A.sl.r_33]
    try simp only [slab0_eq, slab1_eq, slab2_eq, scales_read, codes_read]
    generalize codeRows (actOf x0 x1 x4 fh0) = C
    generalize scaleRows (actOf x0 x1 x4 fh0) = Z
    unfold_payloads
    pointwise [rep_apply, yRow, sampleOf, slabW, emb_norm, Memref.IsWhole.readAt_unread, mod_768, mod_1536]
    try simp only [false_or, select_lt]
    try (split_ifs <;> first | omega | rfl)

/-- The packed result, once every tile is stored. -/
theorem rows_eq (i : S288x2304.Idx) :
    View.read (Elt Ideal) alloca_64_r0.view (alloca_64_r0.view.writes (Elt Ideal) fs6 (kernelRun0_A.sl.HS6_27 c arg0 harg0 arg1 harg1 arg2 harg2 arg3 harg3 arg5 harg5 arg7 harg7 arg10 harg10 arg11 harg11 arg12 harg12 arg13 harg13 alloca_r0 halloca_r0 alloca_62_r0 halloca_62_r0 alloca_63_r0 halloca_63_r0 alloca_64_r0 halloca_64_r0 x0 x1 x2 x3 x4 x5 fh0 fh1 fs0 fs1 fs4)) i = yRow (codeRows (actOf x0 x1 x4 fh0)) (scaleRows (actOf x0 x1 x4 fh0)) x2 x3 x5 fh1 i :=
  View.read_writes_apply_of_pieces alloca_64_r0.view fs6 (yRow (codeRows (actOf x0 x1 x4 fh0)) (scaleRows (actOf x0 x1 x4 fh0)) x2 x3 x5 fh1) _ (pieces_eq c arg0 harg0 arg1 harg1 arg2 harg2 arg3 harg3 arg5 harg5 arg7 harg7 arg10 harg10 arg11 harg11 arg12 harg12 arg13 harg13 alloca_r0 halloca_r0 alloca_62_r0 halloca_62_r0 alloca_63_r0 halloca_63_r0 alloca_64_r0 halloca_64_r0 x0 x1 x2 x3 x4 x5 fh0 fh1 fs0 fs1 fs4) i
    (View.cover_of_tiledL _ ![32, 768] (by unfold kernelRun0_A.sl.HS6_27; sl_kernel_rfl) i)

/-- The rows carried by copy 0 out of the packed result. -/
theorem copy0_eq (r : Fin 128) (l : Fin 2304) : kernelRun0_A.sl.dma137 c arg0 harg0 arg1 harg1 arg2 harg2 arg3 harg3 arg5 harg5 arg7 harg7 arg10 harg10 arg11 harg11 arg12 harg12 arg13 harg13 alloca_r0 halloca_r0 alloca_62_r0 halloca_62_r0 alloca_63_r0 halloca_63_r0 alloca_64_r0 halloca_64_r0 x0 x1 x2 x3 x4 x5 fh0 fh1 fs0 fs1 fs4 fs6 (ix2 r l) = yRow (codeRows (actOf x0 x1 x4 fh0)) (scaleRows (actOf x0 x1 x4 fh0)) x2 x3 x5 fh1 (ix2 ⟨r.val, by omega⟩ l) := by
  simp only [kernelRun0_A.sl.dma137]
  refine (rows_eq c arg0 harg0 arg1 harg1 arg2 harg2 arg3 harg3 arg5 harg5 arg7 harg7 arg10 harg10 arg11 harg11 arg12 harg12 arg13 harg13 alloca_r0 halloca_r0 alloca_62_r0 halloca_62_r0 alloca_63_r0 halloca_63_r0 alloca_64_r0 halloca_64_r0 x0 x1 x2 x3 x4 x5 fh0 fh1 fs0 fs1 fs4 fs6 _).trans (congrArg (yRow (codeRows (actOf x0 x1 x4 fh0)) (scaleRows (actOf x0 x1 x4 fh0)) x2 x3 x5 fh1) (funext fun a => Fin.ext ?_))
  match a with
  | ⟨0, _⟩ => show 0 + 1 * r.val = r.val; omega
  | ⟨1, _⟩ => show 0 + 1 * l.val = l.val; omega

/-- The rows carried by copy 1 out of the packed result. -/
theorem copy1_eq (r : Fin 128) (l : Fin 2304) : kernelRun0_A.sl.dma137_1 c arg0 harg0 arg1 harg1 arg2 harg2 arg3 harg3 arg5 harg5 arg7 harg7 arg10 harg10 arg11 harg11 arg12 harg12 arg13 harg13 alloca_r0 halloca_r0 alloca_62_r0 halloca_62_r0 alloca_63_r0 halloca_63_r0 alloca_64_r0 halloca_64_r0 x0 x1 x2 x3 x4 x5 fh0 fh1 fs0 fs1 fs4 fs6 (ix2 r l) = yRow (codeRows (actOf x0 x1 x4 fh0)) (scaleRows (actOf x0 x1 x4 fh0)) x2 x3 x5 fh1 (ix2 ⟨128 + r.val, by omega⟩ l) := by
  simp only [kernelRun0_A.sl.dma137_1]
  refine (rows_eq c arg0 harg0 arg1 harg1 arg2 harg2 arg3 harg3 arg5 harg5 arg7 harg7 arg10 harg10 arg11 harg11 arg12 harg12 arg13 harg13 alloca_r0 halloca_r0 alloca_62_r0 halloca_62_r0 alloca_63_r0 halloca_63_r0 alloca_64_r0 halloca_64_r0 x0 x1 x2 x3 x4 x5 fh0 fh1 fs0 fs1 fs4 fs6 _).trans (congrArg (yRow (codeRows (actOf x0 x1 x4 fh0)) (scaleRows (actOf x0 x1 x4 fh0)) x2 x3 x5 fh1) (funext fun a => Fin.ext ?_))
  match a with
  | ⟨0, _⟩ => show 128 + 1 * r.val = 128 + r.val; omega
  | ⟨1, _⟩ => show 0 + 1 * l.val = l.val; omega

/-- The rows carried by copy 2 out of the packed result. -/
theorem copy2_eq (r : Fin 16) (l : Fin 2304) : kernelRun0_A.sl.dma137_2 c arg0 harg0 arg1 harg1 arg2 harg2 arg3 harg3 arg5 harg5 arg7 harg7 arg10 harg10 arg11 harg11 arg12 harg12 arg13 harg13 alloca_r0 halloca_r0 alloca_62_r0 halloca_62_r0 alloca_63_r0 halloca_63_r0 alloca_64_r0 halloca_64_r0 x0 x1 x2 x3 x4 x5 fh0 fh1 fs0 fs1 fs4 fs6 (ix2 r l) = yRow (codeRows (actOf x0 x1 x4 fh0)) (scaleRows (actOf x0 x1 x4 fh0)) x2 x3 x5 fh1 (ix2 ⟨256 + r.val, by omega⟩ l) := by
  simp only [kernelRun0_A.sl.dma137_2]
  refine (rows_eq c arg0 harg0 arg1 harg1 arg2 harg2 arg3 harg3 arg5 harg5 arg7 harg7 arg10 harg10 arg11 harg11 arg12 harg12 arg13 harg13 alloca_r0 halloca_r0 alloca_62_r0 halloca_62_r0 alloca_63_r0 halloca_63_r0 alloca_64_r0 halloca_64_r0 x0 x1 x2 x3 x4 x5 fh0 fh1 fs0 fs1 fs4 fs6 _).trans (congrArg (yRow (codeRows (actOf x0 x1 x4 fh0)) (scaleRows (actOf x0 x1 x4 fh0)) x2 x3 x5 fh1) (funext fun a => Fin.ext ?_))
  match a with
  | ⟨0, _⟩ => show 256 + 1 * r.val = 256 + r.val; omega
  | ⟨1, _⟩ => show 0 + 1 * l.val = l.val; omega

/-- The rows carried by copy 3 out of the packed result. -/
theorem copy3_eq (r : Fin 16) (l : Fin 2304) : kernelRun0_A.sl.dma137_3 c arg0 harg0 arg1 harg1 arg2 harg2 arg3 harg3 arg5 harg5 arg7 harg7 arg10 harg10 arg11 harg11 arg12 harg12 arg13 harg13 alloca_r0 halloca_r0 alloca_62_r0 halloca_62_r0 alloca_63_r0 halloca_63_r0 alloca_64_r0 halloca_64_r0 x0 x1 x2 x3 x4 x5 fh0 fh1 fs0 fs1 fs4 fs6 (ix2 r l) = yRow (codeRows (actOf x0 x1 x4 fh0)) (scaleRows (actOf x0 x1 x4 fh0)) x2 x3 x5 fh1 (ix2 ⟨272 + r.val, by omega⟩ l) := by
  simp only [kernelRun0_A.sl.dma137_3]
  refine (rows_eq c arg0 harg0 arg1 harg1 arg2 harg2 arg3 harg3 arg5 harg5 arg7 harg7 arg10 harg10 arg11 harg11 arg12 harg12 arg13 harg13 alloca_r0 halloca_r0 alloca_62_r0 halloca_62_r0 alloca_63_r0 halloca_63_r0 alloca_64_r0 halloca_64_r0 x0 x1 x2 x3 x4 x5 fh0 fh1 fs0 fs1 fs4 fs6 _).trans (congrArg (yRow (codeRows (actOf x0 x1 x4 fh0)) (scaleRows (actOf x0 x1 x4 fh0)) x2 x3 x5 fh1) (funext fun a => Fin.ext ?_))
  match a with
  | ⟨0, _⟩ => show 272 + 1 * r.val = 272 + r.val; omega
  | ⟨1, _⟩ => show 0 + 1 * l.val = l.val; omega

end Cert.KernelIdeal.Dma

end
-- ==== Proof.KernelIdeal.RunV.lean ====
module

public import proofs.«01_k».proof.Proof.KernelIdeal.Out

@[expose] public section

set_option maxRecDepth 16384

noncomputable section

namespace Cert.KernelIdeal.Dma

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Ideal) ℕ (Pipeline.UD sig nD τ) ℕ

variable (m : (ℓ : Loc nD τ sig) → Buf (Elt Ideal) ℓ) (ρ : Dev nD → PrngReg)
/-- A buffer held at contents equal to `g` is held at `g`. -/
theorem hbPt0_of_eq (c : Dev nD) {sp : Space} {S : Shape} {e : EltTy} (M : Memref sig .tc sp S e) (g : HbBuf0 (F := Ideal) c M) :
    (iprop(∃ f, ⌜f = g⌝ ∗ hbPt0 c M f) : sProp 𝕄) ⊢ hbPt0 c M g := by
  iintro ⟨%f, %h, H⟩
  subst h
  iexact H

-- (the run's proof term is large: checking it walks past the default budget)
set_option maxHeartbeats 4000000 in set_option sl_exec.dmaWindow true in set_option sl_exec.dmaWindowSet true in set_option sl_exec.unrollTrips 8 in set_option sl_exec.lendShare "HS4" in set_option sl_exec.rejoinHeartbeats 400000 in
/-- The body's triple: on whole staging memrefs, the inputs' at their contents, the body runs to the continuation
    holding the inputs' as they were, the scratch and the results at some contents. -/
theorem kernelRun0_V (c : Dev nD) (arg0 : Memref sig .tc .vmem S288x2304 .fp8e4m3) (harg0 : arg0.IsWhole) (arg1 : Memref sig .tc .vmem S288x128 .f32) (harg1 : arg1.IsWhole) (arg2 : Memref sig .tc .vmem S288x2304 .f32) (harg2 : arg2.IsWhole) (arg3 : Memref sig .tc .vmem S2x2304 .f32) (harg3 : arg3.IsWhole) (arg5 : Memref sig .tc .vmem S1x12288 .f32) (harg5 : arg5.IsWhole) (arg7 : Memref sig .tc .vmem S1x2304 .f32) (harg7 : arg7.IsWhole) (arg10 : Memref sig .tc .vmem S2x144 .f32) (harg10 : arg10.IsWhole) (arg11 : Memref sig .tc .vmem S10x2304x768 .fp8e4m3) (harg11 : arg11.IsWhole) (arg12 : Memref sig .tc .vmem S3x6144x768 .fp8e4m3) (harg12 : arg12.IsWhole) (arg13 : Memref sig .tc .vmem S288x128 .f32) (harg13 : arg13.IsWhole) (alloca_r0 : Memref sig .tc .vmem S288x6144 .f32) (halloca_r0 : alloca_r0.IsWhole) (alloca_62_r0 : Memref sig .tc .vmem S288x6144 .fp8e4m3) (halloca_62_r0 : alloca_62_r0.IsWhole) (alloca_63_r0 : Memref sig .tc .vmem S288x128 .f32) (halloca_63_r0 : alloca_63_r0.IsWhole) (alloca_64_r0 : Memref sig .tc .vmem S288x2304 .bf16) (halloca_64_r0 : alloca_64_r0.IsWhole)
    (x0 : Vec Ideal S288x2304 .fp8e4m3) (x1 : Vec Ideal S288x128 .f32) (x2 : Vec Ideal S288x2304 .f32) (x3 : Vec Ideal S2x2304 .f32) (x4 : Vec Ideal S1x12288 .f32) (x5 : Vec Ideal S1x2304 .f32) (fh0 : HbBuf0 (F := Ideal) c hbM0_0) (fh1 : HbBuf0 (F := Ideal) c hbM0_1) :
      ∀ (W : Waits sig Unit) (K : PUnit → sProp 𝕄),
        iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg5 fullShare x4 ∗ owns (c : Thread nD τ) arg7 fullShare x5 ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) alloca_r0 fullShare d) ∗ (∃ d, owns (c : Thread nD τ) alloca_62_r0 fullShare d) ∗ (∃ d, owns (c : Thread nD τ) alloca_63_r0 fullShare d) ∗ (∃ d, owns (c : Thread nD τ) alloca_64_r0 fullShare d) ∗ semVal ((c : Thread nD τ), SemLoc.dma 7) 0 ∗ semVal ((c : Thread nD τ), SemLoc.dma 8) 0 ∗ semVal ((c : Thread nD τ), SemLoc.dma 9) 0 ∗ semVal ((c : Thread nD τ), SemLoc.dma 10) 0 ∗ semVal ((c : Thread nD τ), SemLoc.dma 11) 0 ∗ semVal ((c : Thread nD τ), SemLoc.dma 12) 0 ∗ semVal ((c : Thread nD τ), SemLoc.dma 13) 0 ∗ semVal ((c : Thread nD τ), SemLoc.dma 14) 0 ∗ semVal ((c : Thread nD τ), SemLoc.dma 15) 0 ∗ semVal ((c : Thread nD τ), SemLoc.dma 16) 0 ∗ semVal ((c : Thread nD τ), SemLoc.dma 17) 0 ∗ semVal ((c : Thread nD τ), SemLoc.dma 18) 0 ∗ semVal ((c : Thread nD τ), SemLoc.dma 19) 0 ∗ semVal ((c : Thread nD τ), SemLoc.dma 20) 0 ∗ semVal ((c : Thread nD τ), SemLoc.dma 21) 0 ∗ semVal ((c : Thread nD τ), SemLoc.dma 22) 0 ∗ semVal ((c : Thread nD τ), SemLoc.dma 23) 0 ∗ semVal ((c : Thread nD τ), SemLoc.dma 24) 0 ∗ semVal ((c : Thread nD τ), SemLoc.dma 25) 0 ∗ semVal ((c : Thread nD τ), SemLoc.dma 26) 0 ∗ semVal ((c : Thread nD τ), SemLoc.dma 27) 0 ∗ hbPt0 c hbM0_0 fh0 ∗ hbPt0 c hbM0_1 fh1 ∗ (∃ f, hbPt0 c hbM0_2 f) ∗ (∃ f, hbPt0 c hbM0_3 f) ∗ owes (c : Thread nD τ) 0 W
            ∗ (iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg5 fullShare x4 ∗ owns (c : Thread nD τ) arg7 fullShare x5 ∗ owns (c : Thread nD τ) arg10 fullShare (scalesOut (actOf x0 x1 x4 fh0)) ∗ (∃ d, owns (c : Thread nD τ) arg11 fullShare d) ∗ (∃ d, owns (c : Thread nD τ) arg12 fullShare d) ∗ (∃ d, owns (c : Thread nD τ) arg13 fullShare d) ∗ (∃ d, owns (c : Thread nD τ) alloca_r0 fullShare d) ∗ (∃ d, owns (c : Thread nD τ) alloca_62_r0 fullShare d) ∗ (∃ d, owns (c : Thread nD τ) alloca_63_r0 fullShare d) ∗ (∃ d, owns (c : Thread nD τ) alloca_64_r0 fullShare d) ∗ semVal ((c : Thread nD τ), SemLoc.dma 7) 0 ∗ semVal ((c : Thread nD τ), SemLoc.dma 8) 0 ∗ semVal ((c : Thread nD τ), SemLoc.dma 9) 0 ∗ semVal ((c : Thread nD τ), SemLoc.dma 10) 0 ∗ semVal ((c : Thread nD τ), SemLoc.dma 11) 0 ∗ semVal ((c : Thread nD τ), SemLoc.dma 12) 0 ∗ semVal ((c : Thread nD τ), SemLoc.dma 13) 0 ∗ semVal ((c : Thread nD τ), SemLoc.dma 14) 0 ∗ semVal ((c : Thread nD τ), SemLoc.dma 15) 0 ∗ semVal ((c : Thread nD τ), SemLoc.dma 16) 0 ∗ semVal ((c : Thread nD τ), SemLoc.dma 17) 0 ∗ semVal ((c : Thread nD τ), SemLoc.dma 18) 0 ∗ semVal ((c : Thread nD τ), SemLoc.dma 19) 0 ∗ semVal ((c : Thread nD τ), SemLoc.dma 20) 0 ∗ semVal ((c : Thread nD τ), SemLoc.dma 21) 0 ∗ semVal ((c : Thread nD τ), SemLoc.dma 22) 0 ∗ semVal ((c : Thread nD τ), SemLoc.dma 23) 0 ∗ semVal ((c : Thread nD τ), SemLoc.dma 24) 0 ∗ semVal ((c : Thread nD τ), SemLoc.dma 25) 0 ∗ semVal ((c : Thread nD τ), SemLoc.dma 26) 0 ∗ semVal ((c : Thread nD τ), SemLoc.dma 27) 0 ∗ hbPt0 c hbM0_0 fh0 ∗ hbPt0 c hbM0_1 fh1 ∗ hbPt0 c hbM0_2 (yOut (yRow (codeRows (actOf x0 x1 x4 fh0)) (scaleRows (actOf x0 x1 x4 fh0)) x2 x3 x5 fh1)) ∗ hbPt0 c hbM0_3 (codesOut (codeRows (actOf x0 x1 x4 fh0))) ∗ (∃ W', owes (c : Thread nD τ) 0 W')) -∗ K ⟨⟩))
          ⊢ wp frame (wpE (defs₀ (F := Ideal)) Variants.none c none) Set.univ (cc0_ras_step arg0 harg0 arg1 harg1 arg2 harg2 arg3 harg3 (Memref.whole main_arg4) (Memref.isWhole_whole _) arg5 harg5 (Memref.whole main_arg6) (Memref.isWhole_whole _) arg7 harg7 (Memref.whole main_v31_0) (Memref.isWhole_whole _) (Memref.whole main_v31_1) (Memref.isWhole_whole _) arg10 harg10 arg11 harg11 arg12 harg12 arg13 harg13 cc0_scratch3 cc0_scratch4 cc0_scratch5 alloca_r0 halloca_r0 alloca_62_r0 halloca_62_r0 alloca_63_r0 halloca_63_r0 alloca_64_r0 halloca_64_r0) K := by
    intro W K
    simp only [cc0_ras_step_eq_skeleton]; unfold cc0_ras_step_skel
    simp only [k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%ds0, %fs0, -, HS0⟩, ⟨%ds1, %fs1, -, HS1⟩, ⟨%ds2, %fs2, -, HS2⟩, ⟨%ds3, %fs3, -, HS3⟩, ⟨%ds4, %fs4, -, HS4⟩, ⟨%ds5, %fs5, -, HS5⟩, ⟨%ds6, %fs6, -, HS6⟩, Hq0, Hq1, Hq2, Hq3, Hq4, Hq5, Hq6, Hq7, Hq8, Hq9, Hq10, Hq11, Hq12, Hq13, Hq14, Hq15, Hq16, Hq17, Hq18, Hq19, Hq20, Hh0, Hh1, ⟨%fw2, Hh2⟩, ⟨%fw3, Hh3⟩, HW, Hk⟩
    obtain rfl := harg0.eq_unread hf0; obtain rfl := harg1.eq_unread hf1; obtain rfl := harg2.eq_unread hf2; obtain rfl := harg3.eq_unread hf3; obtain rfl := harg5.eq_unread hf4; obtain rfl := harg7.eq_unread hf5
    sl_exec
    sl_step
    iapply Hk
    isplitl [H0]
    · iexists _; isplitr; · ipureintro; exact harg0.read_unread _
      iexact H0
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg5.read_unread _
      iexact H4
    isplitl [H5]
    · iexists _; isplitr; · ipureintro; exact harg7.read_unread _
      iexact H5
    isplitl [H6]
    · iexists _; isplitr; swap; · iexact H6
      ipureintro
      exact funext fun i => scales_out c arg0 harg0 arg1 harg1 arg2 harg2 arg3 harg3 arg5 harg5 arg7 harg7 arg10 harg10 arg11 harg11 arg12 harg12 arg13 harg13 alloca_r0 halloca_r0 alloca_62_r0 halloca_62_r0 alloca_63_r0 halloca_63_r0 alloca_64_r0 halloca_64_r0 x0 x1 x4 fh0 fs0 f6 _ _ _ _ i
    isplitl [HS0]
    · iexists _, _; isplitr; swap; · iexact HS0
      ipureintro; rfl
    isplitl [HS1]
    · iexists _, _; isplitr; swap; · iexact HS1
      ipureintro; rfl
    isplitl [HS2]
    · iexists _, _; isplitr; swap; · iexact HS2
      ipureintro; rfl
    isplitl [HS3]
    · iexists _, _; isplitr; swap; · iexact HS3
      ipureintro; rfl
    isplitl [HS4]
    · iexists _, _; isplitr; swap; · iexact HS4
      ipureintro; rfl
    isplitl [HS5]
    · iexists _, _; isplitr; swap; · iexact HS5
      ipureintro; rfl
    isplitl [HS6]
    · iexists _, _; isplitr; swap; · iexact HS6
      ipureintro; rfl
    isplitl [Hq0]; · iexact Hq0
    isplitl [Hq1]; · iexact Hq1
    isplitl [Hq2]; · iexact Hq2
    isplitl [Hq3]; · iexact Hq3
    isplitl [Hq4]; · iexact Hq4
    isplitl [Hq5]; · iexact Hq5
    isplitl [Hq6]; · iexact Hq6
    isplitl [Hq7]; · iexact Hq7
    isplitl [Hq8]; · iexact Hq8
    isplitl [Hq9]; · iexact Hq9
    isplitl [Hq10]; · iexact Hq10
    isplitl [Hq11]; · iexact Hq11
    isplitl [Hq12]; · iexact Hq12
    isplitl [Hq13]; · iexact Hq13
    isplitl [Hq14]; · iexact Hq14
    isplitl [Hq15]; · iexact Hq15
    isplitl [Hq16]; · iexact Hq16
    isplitl [Hq17]; · iexact Hq17
    isplitl [Hq18]; · iexact Hq18
    isplitl [Hq19]; · iexact Hq19
    isplitl [Hq20]; · iexact Hq20
    isplitl [Hh0]; · iexact Hh0
    isplitl [Hh1]; · iexact Hh1
    isplitl [Hh2]
    · iapply (hbPt0_of_eq c hbM0_2 _)
      iexists _; isplitr; swap; · iexact Hh2
      ipureintro
      exact funext fun i => four_copies (Memref.whole main_v31_0) fw2 (yRow (codeRows (actOf x0 x1 x4 fh0)) (scaleRows (actOf x0 x1 x4 fh0)) x2 x3 x5 fh1) _ _ _ _
        (copy0_eq c arg0 harg0 arg1 harg1 arg2 harg2 arg3 harg3 arg5 harg5 arg7 harg7 arg10 harg10 arg11 harg11 arg12 harg12 arg13 harg13 alloca_r0 halloca_r0 alloca_62_r0 halloca_62_r0 alloca_63_r0 halloca_63_r0 alloca_64_r0 halloca_64_r0 x0 x1 x2 x3 x4 x5 fh0 fh1 fs0 fs1 fs4 fs6) (copy1_eq c arg0 harg0 arg1 harg1 arg2 harg2 arg3 harg3 arg5 harg5 arg7 harg7 arg10 harg10 arg11 harg11 arg12 harg12 arg13 harg13 alloca_r0 halloca_r0 alloca_62_r0 halloca_62_r0 alloca_63_r0 halloca_63_r0 alloca_64_r0 halloca_64_r0 x0 x1 x2 x3 x4 x5 fh0 fh1 fs0 fs1 fs4 fs6) (copy2_eq c arg0 harg0 arg1 harg1 arg2 harg2 arg3 harg3 arg5 harg5 arg7 harg7 arg10 harg10 arg11 harg11 arg12 harg12 arg13 harg13 alloca_r0 halloca_r0 alloca_62_r0 halloca_62_r0 alloca_63_r0 halloca_63_r0 alloca_64_r0 halloca_64_r0 x0 x1 x2 x3 x4 x5 fh0 fh1 fs0 fs1 fs4 fs6) (copy3_eq c arg0 harg0 arg1 harg1 arg2 harg2 arg3 harg3 arg5 harg5 arg7 harg7 arg10 harg10 arg11 harg11 arg12 harg12 arg13 harg13 alloca_r0 halloca_r0 alloca_62_r0 halloca_62_r0 alloca_63_r0 halloca_63_r0 alloca_64_r0 halloca_64_r0 x0 x1 x2 x3 x4 x5 fh0 fh1 fs0 fs1 fs4 fs6) i
    isplitl [Hh3]
    · iapply (hbPt0_of_eq c hbM0_3 _)
      iexists _; isplitr; swap; · iexact Hh3
      ipureintro
      exact funext fun i => four_code_copies (Memref.whole main_v31_1) fw3 (codeRows (actOf x0 x1 x4 fh0)) _ _ _ _
        (code_copy0 c arg0 harg0 arg1 harg1 arg2 harg2 arg3 harg3 arg5 harg5 arg7 harg7 arg10 harg10 arg11 harg11 arg12 harg12 arg13 harg13 alloca_r0 halloca_r0 alloca_62_r0 halloca_62_r0 alloca_63_r0 halloca_63_r0 alloca_64_r0 halloca_64_r0 x0 x1 x4 fh0 fs0 fs4) (code_copy1 c arg0 harg0 arg1 harg1 arg2 harg2 arg3 harg3 arg5 harg5 arg7 harg7 arg10 harg10 arg11 harg11 arg12 harg12 arg13 harg13 alloca_r0 halloca_r0 alloca_62_r0 halloca_62_r0 alloca_63_r0 halloca_63_r0 alloca_64_r0 halloca_64_r0 x0 x1 x4 fh0 fs0 fs4) (code_copy2 c arg0 harg0 arg1 harg1 arg2 harg2 arg3 harg3 arg5 harg5 arg7 harg7 arg10 harg10 arg11 harg11 arg12 harg12 arg13 harg13 alloca_r0 halloca_r0 alloca_62_r0 halloca_62_r0 alloca_63_r0 halloca_63_r0 alloca_64_r0 halloca_64_r0 x0 x1 x4 fh0 fs0 fs4) (code_copy3 c arg0 harg0 arg1 harg1 arg2 harg2 arg3 harg3 arg5 harg5 arg7 harg7 arg10 harg10 arg11 harg11 arg12 harg12 arg13 harg13 alloca_r0 halloca_r0 alloca_62_r0 halloca_62_r0 alloca_63_r0 halloca_63_r0 alloca_64_r0 halloca_64_r0 x0 x1 x4 fh0 fs0 fs4) i
    iexists _; iexact HW

end Cert.KernelIdeal.Dma

end
-- ==== Proof.KernelIdeal.Frame.lean ====
module

public import proofs.«01_k».proof.Proof.KernelIdeal.RunV
public import Idealize.ShloMosaic.Lib.Claim
public import Idealize.ShloMosaic.Lib.Pipeline.FrameValue

@[expose] public section

set_option maxRecDepth 16384

noncomputable section

namespace Cert.KernelIdeal.Dma

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Ideal) ℕ (Pipeline.UD sig nD τ) ℕ

variable (m : (ℓ : Loc nD τ sig) → Buf (Elt Ideal) ℓ) (ρ : Dev nD → PrngReg)
/-! ## What the kernel leaves in its results -/

/-- The one point of the grid. -/
def pt0 : Fin cfg0.N := ⟨0, by decide⟩
theorem eq_pt0 (t : Fin cfg0.N) : t = pt0 := by
  have h : cfg0.N = 1 := by decide
  exact Fin.ext (by have := t.isLt; show t.val = 0; omega)

/-- The activation the run computes, in the kernel's row order. -/
def actV (c : Dev nD) : S288x6144.Idx → EReal := actOf (iblk m c 0 pt0) (iblk m c 1 pt0) (iblk m c 4 pt0) (V m c main_arg4)

/-- What the run leaves in the first result: each packed row at its sample's place. -/
def resultY (c : Dev nD) : HbBuf0 (F := Ideal) c hbM0_2 :=
  yOut (yRow (codeRows (actV m c)) (scaleRows (actV m c)) (iblk m c 2 pt0) (iblk m c 3 pt0) (iblk m c 5 pt0) (V m c main_arg6))

/-- What the run leaves in the second result: the activation's codes, each row at its sample's place. -/
def resultCodes (c : Dev nD) : HbBuf0 (F := Ideal) c hbM0_3 := codesOut (codeRows (actV m c))

/-- The buffers' contents when the region ends: the two results the body copies out at what it left, the others as found. -/
def G (c : Dev nD) : (b : Ref sig .tc) → Buf (Elt Ideal) ((c : Thread nD τ).loc b) :=
  Function.update (Function.update (V m c) main_v31_0 (resultY m c)) main_v31_1 (resultCodes m c)

theorem G_codes (c : Dev nD) : G m c main_v31_1 = resultCodes m c := by unfold G; rw [Function.update_self]
theorem G_y (c : Dev nD) : G m c main_v31_0 = resultY m c := by
  unfold G; rw [Function.update_of_ne (by decide), Function.update_self]

/-- The two results' points-to, listed. -/
theorem routedG_eq (c : Dev nD) : (Pipeline.routed R0 c (G m c) : sProp 𝕄) = iprop(hbPt0 c hbM0_2 (resultY m c) ∗ hbPt0 c hbM0_3 (resultCodes m c)) := by
  unfold Pipeline.routed; rw [BI.bigSep_eq_bigSepL_of_eq [main_v31_0, main_v31_1] (by decide) (by decide)]
  rw [BI.bigSepL_cons, BI.bigSepL_singleton, G_y, G_codes]
  rfl

/-- The invariant before the point and after it: the written results as found, then at what the kernel left. -/
def Phi (c : Dev nD) (i : Fin (cfg0.N + 1)) : sProp 𝕄 := Pipeline.ΦDRG osem0 spec0 H0 R0 (V m) (if i.val = 0 then V m else G m) c

/-! ## The pipeline's proof data -/

/-- The proof data of the one pipeline on core `c`: the arrays as the region finds them (`V`); after the body at
    point `t` each input's buffer at its block, the output's at the scales; the invariant of a body with transfers of its own; nothing owed; full shares. -/
def dats (_ : Fin 1) (c : Dev nD) : Dat τ (Elt Ideal) Unit ℕ (Pipeline.UD sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => scalesOut (actV m c)
  Φ i := Phi m c i
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = scalesOut (actV m c) := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d)))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t))

/-- Before the point: the conjuncts, the results at some contents. -/
theorem ΦV_entails (c : Dev nD) : (Pipeline.ΦDRG osem0 spec0 H0 R0 (V m) (V m) c : sProp 𝕄) ⊢ iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d) ∗ (∃ d, owns (c : Thread nD τ) scM0_4 fullShare d) ∗ (∃ d, owns (c : Thread nD τ) scM0_5 fullShare d) ∗ (∃ d, owns (c : Thread nD τ) scM0_6 fullShare d)) ∗ (∃ r, prngReg c r) ∗ iprop(semVal ((c : Thread nD τ), SemLoc.dma 7) 0 ∗ semVal ((c : Thread nD τ), SemLoc.dma 8) 0 ∗ semVal ((c : Thread nD τ), SemLoc.dma 9) 0 ∗ semVal ((c : Thread nD τ), SemLoc.dma 10) 0 ∗ semVal ((c : Thread nD τ), SemLoc.dma 11) 0 ∗ semVal ((c : Thread nD τ), SemLoc.dma 12) 0 ∗ semVal ((c : Thread nD τ), SemLoc.dma 13) 0 ∗ semVal ((c : Thread nD τ), SemLoc.dma 14) 0 ∗ semVal ((c : Thread nD τ), SemLoc.dma 15) 0 ∗ semVal ((c : Thread nD τ), SemLoc.dma 16) 0 ∗ semVal ((c : Thread nD τ), SemLoc.dma 17) 0 ∗ semVal ((c : Thread nD τ), SemLoc.dma 18) 0 ∗ semVal ((c : Thread nD τ), SemLoc.dma 19) 0 ∗ semVal ((c : Thread nD τ), SemLoc.dma 20) 0 ∗ semVal ((c : Thread nD τ), SemLoc.dma 21) 0 ∗ semVal ((c : Thread nD τ), SemLoc.dma 22) 0 ∗ semVal ((c : Thread nD τ), SemLoc.dma 23) 0 ∗ semVal ((c : Thread nD τ), SemLoc.dma 24) 0 ∗ semVal ((c : Thread nD τ), SemLoc.dma 25) 0 ∗ semVal ((c : Thread nD τ), SemLoc.dma 26) 0 ∗ semVal ((c : Thread nD τ), SemLoc.dma 27) 0) ∗ iprop(hbPt0 c hbM0_0 (V m c main_arg4) ∗ hbPt0 c hbM0_1 (V m c main_arg6)) ∗ iprop((∃ f, hbPt0 c hbM0_2 f) ∗ (∃ f, hbPt0 c hbM0_3 f))) :=
  (Pipeline.ΦDRG_ΦDR osem0 spec0 H0 R0 (V m) (V m) c).trans (by rw [PhiDR0_eq])

/-- After the point: the conjuncts, the results at what the kernel left. -/
theorem ΦG_eq (c : Dev nD) : (Pipeline.ΦDRG osem0 spec0 H0 R0 (V m) (G m) c : sProp 𝕄) = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d) ∗ (∃ d, owns (c : Thread nD τ) scM0_4 fullShare d) ∗ (∃ d, owns (c : Thread nD τ) scM0_5 fullShare d) ∗ (∃ d, owns (c : Thread nD τ) scM0_6 fullShare d)) ∗ (∃ r, prngReg c r) ∗ iprop(semVal ((c : Thread nD τ), SemLoc.dma 7) 0 ∗ semVal ((c : Thread nD τ), SemLoc.dma 8) 0 ∗ semVal ((c : Thread nD τ), SemLoc.dma 9) 0 ∗ semVal ((c : Thread nD τ), SemLoc.dma 10) 0 ∗ semVal ((c : Thread nD τ), SemLoc.dma 11) 0 ∗ semVal ((c : Thread nD τ), SemLoc.dma 12) 0 ∗ semVal ((c : Thread nD τ), SemLoc.dma 13) 0 ∗ semVal ((c : Thread nD τ), SemLoc.dma 14) 0 ∗ semVal ((c : Thread nD τ), SemLoc.dma 15) 0 ∗ semVal ((c : Thread nD τ), SemLoc.dma 16) 0 ∗ semVal ((c : Thread nD τ), SemLoc.dma 17) 0 ∗ semVal ((c : Thread nD τ), SemLoc.dma 18) 0 ∗ semVal ((c : Thread nD τ), SemLoc.dma 19) 0 ∗ semVal ((c : Thread nD τ), SemLoc.dma 20) 0 ∗ semVal ((c : Thread nD τ), SemLoc.dma 21) 0 ∗ semVal ((c : Thread nD τ), SemLoc.dma 22) 0 ∗ semVal ((c : Thread nD τ), SemLoc.dma 23) 0 ∗ semVal ((c : Thread nD τ), SemLoc.dma 24) 0 ∗ semVal ((c : Thread nD τ), SemLoc.dma 25) 0 ∗ semVal ((c : Thread nD τ), SemLoc.dma 26) 0 ∗ semVal ((c : Thread nD τ), SemLoc.dma 27) 0) ∗ iprop(hbPt0 c hbM0_0 (V m c main_arg4) ∗ hbPt0 c hbM0_1 (V m c main_arg6)) ∗ iprop(hbPt0 c hbM0_2 (resultY m c) ∗ hbPt0 c hbM0_3 (resultCodes m c))) := by
  rw [Pipeline.ΦDRG_eq, scopedRest0_eq, ownSems00_eq, hbmPts0_eq, routedG_eq]; simp only [scM0_0, scM0_1, scM0_2, scM0_3, scM0_4, scM0_5, scM0_6, owns_whole]; try rfl

set_option maxHeartbeats 1200000 in
/-- The body at any point: the inputs' memrefs hold their blocks, so the run applies; the invariant hands the body its scratch, its cells and the HBM operands, and takes them back, the two results at what the kernel left. -/
theorem sound_body (c : Dev nD) (t : Fin cfg0.N) :
    bodyPre m c t ⊢ wp frame (wpE (defs₀ (F := Ideal)) Variants.none c none) Set.univ (bodyAt0 t) (fun _ => bodyPost m c t) := by
  unfold bodyPre bodyPost bodyAt0
  simp only [before0_0, before0_1, before0_2, before0_3, before0_4, before0_5]
  rw [after0_0, after0_1, after0_2, after0_3, after0_4, after0_5, after0_6]
  obtain rfl := eq_pt0 t
  rw [show (dats m 0 c).Φ pt0.castSucc = Pipeline.ΦDRG osem0 spec0 H0 R0 (V m) (V m) c from rfl, show (dats m 0 c).Φ pt0.succ = Pipeline.ΦDRG osem0 spec0 H0 R0 (V m) (G m) c from rfl, ΦG_eq]
  unfold Dat.owesAt Pipeline.owesWithin
  rw [show (dats m 0 c).owed pt0.castSucc = 0 from rfl, show (dats m 0 c).owed pt0.succ = 0 from rfl]
  iintro ⟨HΦ, ⟨%W, -, HW⟩, ⟨%d0, H0⟩, ⟨%d1, H1⟩, ⟨%d2, H2⟩, ⟨%d3, H3⟩, ⟨%d4, H4⟩, ⟨%d5, H5⟩, ⟨%d6, H6⟩⟩
  ihave HΦ := (ΦV_entails m c) $$ HΦ
  icases HΦ with ⟨⟨HS0, HS1, HS2, HS3, HS4, HS5, HS6⟩, Hg, ⟨Hq0, Hq1, Hq2, Hq3, Hq4, Hq5, Hq6, Hq7, Hq8, Hq9, Hq10, Hq11, Hq12, Hq13, Hq14, Hq15, Hq16, Hq17, Hq18, Hq19, Hq20⟩, ⟨Hh0, Hh1⟩, ⟨Hh2, Hh3⟩⟩
  iapply ((kernelRun0_V c (ms0_0 pt0) (hs0_0 pt0) (ms0_1 pt0) (hs0_1 pt0) (ms0_2 pt0) (hs0_2 pt0) (ms0_3 pt0) (hs0_3 pt0) (ms0_4 pt0) (hs0_4 pt0) (ms0_5 pt0) (hs0_5 pt0) (ms0_6 pt0) (hs0_6 pt0) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) (iblk m c 0 pt0) (iblk m c 1 pt0) (iblk m c 2 pt0) (iblk m c 3 pt0) (iblk m c 4 pt0) (iblk m c 5 pt0) (V m c main_arg4) (V m c main_arg6)) W _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [HS0]; · iexact HS0
  isplitl [HS1]; · iexact HS1
  isplitl [HS2]; · iexact HS2
  isplitl [HS3]; · iexact HS3
  isplitl [HS4]; · iexact HS4
  isplitl [HS5]; · iexact HS5
  isplitl [HS6]; · iexact HS6
  isplitl [Hq0]; · iexact Hq0
  isplitl [Hq1]; · iexact Hq1
  isplitl [Hq2]; · iexact Hq2
  isplitl [Hq3]; · iexact Hq3
  isplitl [Hq4]; · iexact Hq4
  isplitl [Hq5]; · iexact Hq5
  isplitl [Hq6]; · iexact Hq6
  isplitl [Hq7]; · iexact Hq7
  isplitl [Hq8]; · iexact Hq8
  isplitl [Hq9]; · iexact Hq9
  isplitl [Hq10]; · iexact Hq10
  isplitl [Hq11]; · iexact Hq11
  isplitl [Hq12]; · iexact Hq12
  isplitl [Hq13]; · iexact Hq13
  isplitl [Hq14]; · iexact Hq14
  isplitl [Hq15]; · iexact Hq15
  isplitl [Hq16]; · iexact Hq16
  isplitl [Hq17]; · iexact Hq17
  isplitl [Hq18]; · iexact Hq18
  isplitl [Hq19]; · iexact Hq19
  isplitl [Hq20]; · iexact Hq20
  isplitl [Hh0]; · iexact Hh0
  isplitl [Hh1]; · iexact Hh1
  isplitl [Hh2]; · iexact Hh2
  isplitl [Hh3]; · iexact Hh3
  isplitl [HW]; · iexact HW
  iintro ⟨H0, H1, H2, H3, H4, H5, H6, HS0, HS1, HS2, HS3, HS4, HS5, HS6, Hq0, Hq1, Hq2, Hq3, Hq4, Hq5, Hq6, Hq7, Hq8, Hq9, Hq10, Hq11, Hq12, Hq13, Hq14, Hq15, Hq16, Hq17, Hq18, Hq19, Hq20, Hh0, Hh1, Hh2, Hh3, ⟨%W', HW'⟩⟩
  isplitl [HS0 HS1 HS2 HS3 HS4 HS5 HS6 Hg Hq0 Hq1 Hq2 Hq3 Hq4 Hq5 Hq6 Hq7 Hq8 Hq9 Hq10 Hq11 Hq12 Hq13 Hq14 Hq15 Hq16 Hq17 Hq18 Hq19 Hq20 Hh0 Hh1 Hh2 Hh3]
  · isplitl [HS0 HS1 HS2 HS3 HS4 HS5 HS6]
    · isplitl [HS0]; · iexact HS0
      isplitl [HS1]; · iexact HS1
      isplitl [HS2]; · iexact HS2
      isplitl [HS3]; · iexact HS3
      isplitl [HS4]; · iexact HS4
      isplitl [HS5]; · iexact HS5
      iexact HS6
    isplitl [Hg]
    · iexact Hg
    isplitl [Hq0 Hq1 Hq2 Hq3 Hq4 Hq5 Hq6 Hq7 Hq8 Hq9 Hq10 Hq11 Hq12 Hq13 Hq14 Hq15 Hq16 Hq17 Hq18 Hq19 Hq20]
    · isplitl [Hq0]; · iexact Hq0
      isplitl [Hq1]; · iexact Hq1
      isplitl [Hq2]; · iexact Hq2
      isplitl [Hq3]; · iexact Hq3
      isplitl [Hq4]; · iexact Hq4
      isplitl [Hq5]; · iexact Hq5
      isplitl [Hq6]; · iexact Hq6
      isplitl [Hq7]; · iexact Hq7
      isplitl [Hq8]; · iexact Hq8
      isplitl [Hq9]; · iexact Hq9
      isplitl [Hq10]; · iexact Hq10
      isplitl [Hq11]; · iexact Hq11
      isplitl [Hq12]; · iexact Hq12
      isplitl [Hq13]; · iexact Hq13
      isplitl [Hq14]; · iexact Hq14
      isplitl [Hq15]; · iexact Hq15
      isplitl [Hq16]; · iexact Hq16
      isplitl [Hq17]; · iexact Hq17
      isplitl [Hq18]; · iexact Hq18
      isplitl [Hq19]; · iexact Hq19
      iexact Hq20
    isplitl [Hh0 Hh1]
    · isplitl [Hh0]; · iexact Hh0
      iexact Hh1
    isplitl [Hh2]; · iexact Hh2
    iexact Hh3
  isplitl [HW']
  · iexists W'; isplitr; · ipureintro; exact fun _ _ => Or.inl trivial
    iexact HW'
  isplitl [H0]; · iexact H0
  isplitl [H1]; · iexact H1
  isplitl [H2]; · iexact H2
  isplitl [H3]; · iexact H3
  isplitl [H4]; · iexact H4
  isplitl [H5]; · iexact H5
  iexact H6

/-- The body table's row at point `t`'s slots is the body as `bodyAt0` spells it. -/
theorem defs₀_row (t : Fin cfg0.N) :
    defs₀ (F := Ideal) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats m 0 c) (defs₀ (F := Ideal)) Variants.none () Set.univ := fun t => by
  rw [bigSep_W0, bigSep_W0, defs₀_row]
  exact triple_restated (sound_body m c t) rfl .rfl fun _ => .rfl

/-! ## The run and the frame -/

-- `θ_run_frame_dmaRG`'s implicit arguments are found by unifying its conclusion with this one, which takes unfolding plain
-- definitions in a metavariable's type
set_option backward.isDefEq.respectTransparency.types false in
/-- The launch: the run ends with every array at what the proof data say and every semaphore counter at zero. -/
theorem run_main_quiescent : θ_run defs (onTc (τ := τ) (main (F := Ideal))) (s₀ m ρ) (fun r => (Pipeline.FramePostRG cfgs (dats m) 0 R0 (V m) (G m)) r ∧ r.2.sem = fun _ => 0) :=
  Pipeline.θ_run_frame_dmaRG (Q' := _) cfgs (dats m) (0 : Fin 1) launch0 osem0 defs₀ Variants.none ownSemFacts0 H0 R0 H0_sub R0_sub m ρ main
    (hbody := fun c => (body_obligation m c).loose) (hshare := fun c => (dats m 0 c).share_full fun _ => rfl)
    (howed := fun _ _ => rfl) (V := V m) (hmain := hmain m Variants.none) (hA := A_eq m)
    (G := G m) (hin := fun _ => .rfl) (hout := fun _ => .rfl)

/-- The run ends with every array of the pipeline at what the proof data say, the two results at what the kernel left, and every other unscoped buffer at its region-entry contents. -/
theorem run_main : θ_run defs (onTc (τ := τ) (main (F := Ideal))) (s₀ m ρ) (Pipeline.FramePostRG cfgs (dats m) 0 R0 (V m) (G m)) :=
  (θ_run defs _ _).mono (fun _ h => h.1) (run_main_quiescent m ρ)

/-- `frame` without the counters: the argument arrays end unchanged. -/
theorem unchanged : θ_run defs (onTc (τ := τ) (main (F := Ideal))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  frame_of m ρ (dats m) (A_eq m) ((θ_run defs _ _).mono (fun _ h => h.toR) (run_main m ρ))

/-- THE FRAME: every weakly fair execution ends with the argument arrays unchanged and every semaphore at zero. -/
theorem frame : θ_run defs (onTc (τ := τ) (main (F := Ideal))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7))
      ∧ r.2.sem = fun _ => 0) :=
  θ_run_and (unchanged m ρ) ((θ_run defs _ _).mono (fun _ h => h.2) (run_main_quiescent m ρ))

end Cert.KernelIdeal.Dma

end
-- ==== Proof.KernelIdeal.Value.lean ====
module

public import proofs.«01_k».proof.Proof.KernelIdeal.Frame
public import Idealize.ShloMosaic.Lib.Pipeline.Value
public import Idealize.ShloMosaic.Lib.Pointwise
public import Idealize.ShloMosaic.Lib.Claim
public import Idealize.ShloMosaic.Lib.StableHlo.ReadAt

@[expose] public section

set_option maxRecDepth 16384

noncomputable section

namespace Cert.KernelIdeal.Dma

open Cert.KernelIdeal Cert.KernelIdeal.Gen
open Idealize.ShloMosaic Idealize.ShloMosaic.TcCoe
open Idealize.SL.Sem

variable (m : (ℓ : Loc nD τ sig) → Buf (Elt Ideal) ℓ) (ρ : Dev nD → PrngReg)

/-- The token a packed row belongs to. -/
def tokenOf (r : Fin 288) : Fin 144 :=
  if h0 : r.val < 128 then ⟨r.val, by omega⟩ else if h1 : r.val < 272 then ⟨r.val - 128, by omega⟩ else ⟨r.val - 144, by omega⟩

theorem sampleOf_packed (b : Fin 2) (t : Fin 144) : sampleOf (packed b t) = b := by
  have h := packed_val b t
  have hb := b.isLt
  have ht := t.isLt
  apply Fin.ext
  unfold sampleOf
  split_ifs at h ⊢ <;> show _ = b.val <;> first | (show 0 = b.val; omega) | (show 1 = b.val; omega)

theorem tokenOf_packed (b : Fin 2) (t : Fin 144) : tokenOf (packed b t) = t := by
  have h := packed_val b t
  have hb := b.isLt
  have ht := t.isLt
  apply Fin.ext
  unfold tokenOf
  split_ifs at h ⊢ <;> dsimp only <;> omega

theorem tokenOf_val (r : Fin 288) : (tokenOf r).val = if r.val < 128 then r.val else if r.val < 272 then r.val - 128 else r.val - 144 := by
  unfold tokenOf; split_ifs <;> rfl

/-- Two places with the same sample and token are one. -/
theorem ix3_place {n : ℕ} (r : Fin 288) (b : Fin 2) (t : Fin 144) (k : Fin n) (hb : b = sampleOf r) (ht : t.val = (tokenOf r).val) :
    ix3 b t k = ix3 (sampleOf r) (tokenOf r) k := by
  obtain rfl := hb
  obtain rfl := Fin.ext ht
  rfl

/-- Two places with the same sample and token are one. -/
theorem ix2_place (r : Fin 288) (b : Fin 2) (t : Fin 144) (hb : b = sampleOf r) (ht : t.val = (tokenOf r).val) :
    ix2 b t = ix2 (sampleOf r) (tokenOf r) := by
  obtain rfl := hb
  obtain rfl := Fin.ext ht
  rfl

set_option maxHeartbeats 1000000 in
/-- The packed codes: row `r` is its token's row of its sample's codes. -/
theorem codes_entry (c : Dev nD) (r : Fin 288) (k : Fin 2304) :
    V m c main_v8 (ix2 r k) = m ((c : Thread nD τ).loc main_arg0) (ix3 (sampleOf r) (tokenOf r) k) := by
  unfold V
  after_reads_at
  split_ifs <;> after_reads_at
  all_goals
    congr 1
    first
    | exact ix3_place r _ _ _ (by unfold sampleOf; split_ifs <;> first | rfl | omega) (by rw [tokenOf_val]; (repeat' split) <;> dsimp only <;> omega)
    | (rename_i h; exact absurd rfl h)

set_option maxHeartbeats 1000000 in
/-- The packed scales: every lane of row `r` is its token's scale. -/
theorem scales_entry (c : Dev nD) (r : Fin 288) (l : Fin 128) :
    V m c main_v19 (ix2 r l) = m ((c : Thread nD τ).loc main_arg1) (ix2 (sampleOf r) (tokenOf r)) := by
  unfold V
  after_reads_at
  split_ifs <;> generalize_proofs <;> after_reads_at
  all_goals
    first
    | exact congrArg (m ((c : Thread nD τ).loc main_arg1)) <| ix2_place r _ _ (by unfold sampleOf; split_ifs <;> first | rfl | omega) (by rw [tokenOf_val]; (repeat' split) <;> dsimp only <;> omega)
    | exact absurd rfl ‹¬ _ = _›

set_option maxHeartbeats 1000000 in
/-- The packed residual rows. -/
theorem rows_entry (c : Dev nD) (r : Fin 288) (k : Fin 2304) :
    V m c main_v28 (ix2 r k) = m ((c : Thread nD τ).loc main_arg2) (ix3 (sampleOf r) (tokenOf r) k) := by
  unfold V
  after_reads_at
  split_ifs <;> after_reads_at
  all_goals
    congr 1
    first
    | exact ix3_place r _ _ _ (by unfold sampleOf; split_ifs <;> first | rfl | omega) (by rw [tokenOf_val]; (repeat' split) <;> dsimp only <;> omega)
    | (rename_i h; exact absurd rfl h)

/-- The weights' column scales as one row. -/
theorem sgu_entry (c : Dev nD) (l : Fin 12288) : V m c main_v29 (ix2 0 l) = m ((c : Thread nD τ).loc main_arg5) (ix1 l) := by
  unfold V
  after_reads_at

theorem sdown_entry (c : Dev nD) (l : Fin 2304) : V m c main_v30 (ix2 0 l) = m ((c : Thread nD τ).loc main_arg7) (ix1 l) := by
  unfold V
  after_reads_at

/-! ## The windows' blocks are the whole operands -/

theorem blk0 (c : Dev nD) : iblk m c 0 pt0 = V m c main_v8 := by
  have hz : (fun a => (win0_0.index pt0) a * main_v8.ty.shape.size a) = fun _ => 0 := funext fun a => by fin_cases a <;> decide
  unfold iblk
  exact Memref.read_access_unit_zero (Elt Ideal) main_v8 hz (fun a => by fin_cases a <;> decide) _

theorem blk1 (c : Dev nD) : iblk m c 1 pt0 = V m c main_v19 := by
  have hz : (fun a => (win0_1.index pt0) a * main_v19.ty.shape.size a) = fun _ => 0 := funext fun a => by fin_cases a <;> decide
  unfold iblk
  exact Memref.read_access_unit_zero (Elt Ideal) main_v19 hz (fun a => by fin_cases a <;> decide) _

theorem blk2 (c : Dev nD) : iblk m c 2 pt0 = V m c main_v28 := by
  have hz : (fun a => (win0_2.index pt0) a * main_v28.ty.shape.size a) = fun _ => 0 := funext fun a => by fin_cases a <;> decide
  unfold iblk
  exact Memref.read_access_unit_zero (Elt Ideal) main_v28 hz (fun a => by fin_cases a <;> decide) _

theorem blk3 (c : Dev nD) : iblk m c 3 pt0 = m ((c : Thread nD τ).loc main_arg3) := by
  have hz : (fun a => (win0_3.index pt0) a * main_arg3.ty.shape.size a) = fun _ => 0 := funext fun a => by fin_cases a <;> decide
  unfold iblk
  exact (Memref.read_access_unit_zero (Elt Ideal) main_arg3 hz (fun a => by fin_cases a <;> decide) _).trans (V_main_arg3 m c)

theorem blk4 (c : Dev nD) : iblk m c 4 pt0 = V m c main_v29 := by
  have hz : (fun a => (win0_4.index pt0) a * main_v29.ty.shape.size a) = fun _ => 0 := funext fun a => by fin_cases a <;> decide
  unfold iblk
  exact Memref.read_access_unit_zero (Elt Ideal) main_v29 hz (fun a => by fin_cases a <;> decide) _

theorem blk5 (c : Dev nD) : iblk m c 5 pt0 = V m c main_v30 := by
  have hz : (fun a => (win0_5.index pt0) a * main_v30.ty.shape.size a) = fun _ => 0 := funext fun a => by fin_cases a <;> decide
  unfold iblk
  exact Memref.read_access_unit_zero (Elt Ideal) main_v30 hz (fun a => by fin_cases a <;> decide) _

/-! ## The layer, entry by entry, from the two code arrays, their scales, the weights and the residual -/

section
variable (a0 : S2x144x2304.Idx → EReal) (a1 : S2x144.Idx → EReal) (a4 : S2304x12288.Idx → EReal) (s5 : Fin 12288 → EReal)

/-- The gate and up projections of sample `b`'s token `t` at column `l`. -/
def proj (b : Fin 2) (t : Fin 144) (l : Fin 12288) : EReal := (∑ k : Fin 2304, a0 (ix3 b t k) * a4 (ix2 k l)) * a1 (ix2 b t) * s5 l

/-- The activation of sample `b`'s token `t` at column `k`. -/
def act (b : Fin 2) (t : Fin 144) (k : Fin 6144) : EReal :=
  glu (proj a0 a1 a4 s5 b t ⟨k.val, by omega⟩) (proj a0 a1 a4 s5 b t ⟨6144 + k.val, by omega⟩)

/-- The token's scale. -/
def scaleAt (b : Fin 2) (t : Fin 144) : EReal :=
  scaleOf (Finset.fold max (Ideal.ofBits FTy.f32 4286578688#32) (fun k : Fin 6144 => max (act a0 a1 a4 s5 b t k) (-(act a0 a1 a4 s5 b t k))) Finset.univ)

/-- The code of the activation's entry. -/
def code (b : Fin 2) (t : Fin 144) (k : Fin 6144) : EReal :=
  min (Ideal.ofBits FTy.f32 1138753536#32) (max (Ideal.ofBits FTy.f32 3286237184#32) (Ideal.div (act a0 a1 a4 s5 b t k) (scaleAt a0 a1 a4 s5 b t)))

/-- The second result: the codes. -/
def codesOf (i : S2x144x6144.Idx) : EReal := code a0 a1 a4 s5 (i 0) (i 1) (i 2)

/-- The third result: the scales. -/
def scalesOf (i : S2x144.Idx) : EReal := scaleAt a0 a1 a4 s5 (i 0) (i 1)

/-- The first result: the residual plus the sample's gate times the product of the codes with the weight column, scaled by
    the token's scale and the column's. -/
def layer (a2 : S2x144x2304.Idx → EReal) (a3 : S2x2304.Idx → EReal) (a6 : S6144x2304.Idx → EReal) (s7 : Fin 2304 → EReal) (i : S2x144x2304.Idx) : EReal :=
  a2 i + a3 (ix2 (i 0) (i 2)) * ((∑ k : Fin 6144, code a0 a1 a4 s5 (i 0) (i 1) k * a6 (ix2 k (i 2))) * scaleAt a0 a1 a4 s5 (i 0) (i 1) * s7 (i 2))
end

/-! ## The packed rows are the layer's -/

section
variable (A : S288x6144.Idx → EReal) (a0 : S2x144x2304.Idx → EReal) (a1 : S2x144.Idx → EReal) (a4 : S2304x12288.Idx → EReal) (s5 : Fin 12288 → EReal)

/-- The packed activation, from packed operands. -/
theorem actOf_act (x0 : S288x2304.Idx → EReal) (x1 : S288x128.Idx → EReal) (x4 : S1x12288.Idx → EReal)
    (h0 : ∀ (r : Fin 288) (k : Fin 2304), x0 (ix2 r k) = a0 (ix3 (sampleOf r) (tokenOf r) k))
    (h1 : ∀ (r : Fin 288) (l : Fin 128), x1 (ix2 r l) = a1 (ix2 (sampleOf r) (tokenOf r)))
    (h4 : ∀ l : Fin 12288, x4 (ix2 0 l) = s5 l) (r : Fin 288) (k : Fin 6144) :
    actOf x0 x1 x4 a4 (ix2 r k) = act a0 a1 a4 s5 (sampleOf r) (tokenOf r) k := by
  change glu ((∑ j : Fin 2304, x0 (ix2 r j) * a4 (ix2 j ⟨k.val, _⟩)) * x1 (ix2 r ⟨k.val % 128, _⟩) * x4 (ix2 0 ⟨k.val, _⟩))
    ((∑ j : Fin 2304, x0 (ix2 r j) * a4 (ix2 j ⟨6144 + k.val, _⟩)) * x1 (ix2 r ⟨k.val % 128, _⟩) * x4 (ix2 0 ⟨6144 + k.val, _⟩)) = _
  simp only [h0, h1, h4]
  rfl

variable (hA : ∀ (r : Fin 288) (k : Fin 6144), A (ix2 r k) = act a0 a1 a4 s5 (sampleOf r) (tokenOf r) k)
include hA

theorem scale_row (r : Fin 288) : scaleOf (rowMax A r) = scaleAt a0 a1 a4 s5 (sampleOf r) (tokenOf r) := by
  unfold rowMax
  simp only [hA]
  rfl

theorem code_row (r : Fin 288) (k : Fin 6144) : codeRows A (ix2 r k) = code a0 a1 a4 s5 (sampleOf r) (tokenOf r) k := by
  change min (Ideal.ofBits FTy.f32 1138753536#32) (max (Ideal.ofBits FTy.f32 3286237184#32) (Ideal.div (A (ix2 r k)) (scaleOf (rowMax A r)))) = _
  rw [hA, scale_row A a0 a1 a4 s5 hA]
  rfl

theorem scales_layer : scalesOut A = scalesOf a0 a1 a4 s5 := by
  funext i
  idx_vars i
  change scaleOf (rowMax A (packed i0 i1)) = _
  rw [scale_row A a0 a1 a4 s5 hA, sampleOf_packed, tokenOf_packed]
  rfl

theorem codes_layer : codesOut (codeRows A) = codesOf a0 a1 a4 s5 := by
  funext i
  idx_vars i
  change codeRows A (ix2 (packed i0 i1) i2) = _
  rw [code_row A a0 a1 a4 s5 hA, sampleOf_packed, tokenOf_packed]
  rfl

theorem y_layer (x2 : S288x2304.Idx → EReal) (x3 : S2x2304.Idx → EReal) (x5 : S1x2304.Idx → EReal) (w : S6144x2304.Idx → EReal)
    (a2 : S2x144x2304.Idx → EReal) (s7 : Fin 2304 → EReal)
    (h2 : ∀ (r : Fin 288) (k : Fin 2304), x2 (ix2 r k) = a2 (ix3 (sampleOf r) (tokenOf r) k)) (h5 : ∀ l : Fin 2304, x5 (ix2 0 l) = s7 l) :
    yOut (yRow (codeRows A) (scaleRows A) x2 x3 x5 w) = layer a0 a1 a4 s5 a2 x3 w s7 := by
  funext i
  idx_vars i
  change x2 (ix2 (packed i0 i1) i2) + x3 (ix2 (sampleOf (packed i0 i1)) i2)
      * ((∑ k : Fin 6144, codeRows A (ix2 (packed i0 i1) k) * w (ix2 k i2)) * scaleOf (rowMax A (packed i0 i1)) * x5 (ix2 0 i2)) = _
  rw [scale_row A a0 a1 a4 s5 hA]
  simp only [code_row A a0 a1 a4 s5 hA, h2, h5, sampleOf_packed, tokenOf_packed]
  rfl
end

/-! ## The results, of the arguments as launched -/

/-- The layer's rows, of the arguments. -/
def resY (c : Dev nD) : S2x144x2304.Idx → EReal := layer (m ((c : Thread nD τ).loc main_arg0)) (m ((c : Thread nD τ).loc main_arg1)) (m ((c : Thread nD τ).loc main_arg4)) (fun l => m ((c : Thread nD τ).loc main_arg5) (ix1 l)) (m ((c : Thread nD τ).loc main_arg2)) (m ((c : Thread nD τ).loc main_arg3)) (m ((c : Thread nD τ).loc main_arg6)) (fun l => m ((c : Thread nD τ).loc main_arg7) (ix1 l))

/-- The codes, of the arguments. -/
def resCodes (c : Dev nD) : S2x144x6144.Idx → EReal := codesOf (m ((c : Thread nD τ).loc main_arg0)) (m ((c : Thread nD τ).loc main_arg1)) (m ((c : Thread nD τ).loc main_arg4)) (fun l => m ((c : Thread nD τ).loc main_arg5) (ix1 l))

/-- The scales, of the arguments. -/
def resScales (c : Dev nD) : S2x144.Idx → EReal := scalesOf (m ((c : Thread nD τ).loc main_arg0)) (m ((c : Thread nD τ).loc main_arg1)) (m ((c : Thread nD τ).loc main_arg4)) (fun l => m ((c : Thread nD τ).loc main_arg5) (ix1 l))

/-- The run's activation is the layer's. -/
theorem actV_act (c : Dev nD) (r : Fin 288) (k : Fin 6144) :
    actV m c (ix2 r k) = act (m ((c : Thread nD τ).loc main_arg0)) (m ((c : Thread nD τ).loc main_arg1)) (m ((c : Thread nD τ).loc main_arg4)) (fun l => m ((c : Thread nD τ).loc main_arg5) (ix1 l)) (sampleOf r) (tokenOf r) k := by
  unfold actV
  rw [blk0, blk1, blk4, V_main_arg4]
  exact actOf_act _ _ _ _ _ _ _ (codes_entry m c) (scales_entry m c) (sgu_entry m c) r k

theorem resultCodes_eq (c : Dev nD) : resultCodes m c = resCodes m c := codes_layer _ _ _ _ _ (actV_act m c)

theorem resultY_eq (c : Dev nD) : resultY m c = resY m c := by
  unfold resultY
  rw [blk2, blk3, blk5, V_main_arg6]
  exact y_layer _ _ _ _ _ (actV_act m c) _ _ _ _ _ _ (rows_entry m c) (sdown_entry m c)

theorem final6 (c : Dev nD) : (dats m 0 c).arrAt (6 : Fin 7) cfg0.N = resScales m c := by
  have ho : ((cfg0.win (6 : Fin 7)).blk pt0).view.read (Elt Ideal) ((dats m 0 c).arrAt (6 : Fin 7) cfg0.N) = (dats m 0 c).flushed (6 : Fin 7) pt0 := by
    rw [show cfg0.N = (pt0 : Fin cfg0.N).val + 1 from rfl, (dats m 0 c).arrAt_succ (6 : Fin 7) pt0]
    rw [show (cfg0.win (6 : Fin 7)).flush pt0 = true from by decide, if_pos rfl]
    exact View.read_write_univ _ _
  have hz : (fun a => (win0_6.index pt0) a * main_v31_2.ty.shape.size a) = fun _ => 0 := funext fun a => by fin_cases a <;> decide
  have hr := fun f => Memref.read_access_unit_zero (Elt Ideal) main_v31_2 hz (fun a => by fin_cases a <;> decide) f
  rw [hr] at ho
  rw [ho]
  show (cfg0.win (6 : Fin 7)).cut _ ((dats m 0 c).after 6 pt0) = _
  rw [after0_6, scales_layer _ _ _ _ _ (actV_act m c)]
  rfl

/-- The run: the results are the layer's of the arguments, and the arguments end unchanged. -/
theorem run : θ_run defs (onTc (τ := τ) (main (F := Ideal))) ⟨m, fun _ => 0, ρ⟩ (fun r => ∀ c : Dev nD,
    r.2.mem ((c.tc : Thread nD τ).loc main_v31_0) = resY m c
      ∧ r.2.mem ((c.tc : Thread nD τ).loc main_v31_1) = resCodes m c
      ∧ r.2.mem ((c.tc : Thread nD τ).loc main_v31_2) = resScales m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun r h c => ⟨(h.1.written c (by decide)).trans ((G_y m c).trans (resultY_eq m c)),
      (h.1.written c (by decide)).trans ((G_codes m c).trans (resultCodes_eq m c)), ((h.1.1 c).1 6).trans (final6 m c), h.2 c⟩)
    (θ_run_and (run_main m ρ) (unchanged m ρ))

end Cert.KernelIdeal.Dma

end
-- ==== Proof.ReferenceIdeal.Layer.lean ====
module

public import proofs.«01_k».proof.Proof.Gen.ReferenceIdeal.Frame
public import Idealize.ShloMosaic.Lib.Pipeline.Value
public import Idealize.ShloMosaic.Lib.Affine
public import Idealize.ShloMosaic.Lib.Pointwise
public import Idealize.ShloMosaic.Lib.Claim
public import Idealize.ShloMosaic.Lib.StableHlo.ReadAt

@[expose] public section

set_option maxRecDepth 16384

noncomputable section

namespace Cert.ReferenceIdeal.Dma

open Cert.ReferenceIdeal Cert.ReferenceIdeal.Gen
open Idealize.ShloMosaic Idealize.ShloMosaic.TcCoe
open Idealize.SL.Sem

/-! ## The layer, entry by entry, from the two code arrays, their scales, the weights and the residual -/

/-- A gated unit. -/
def glu (g u : EReal) : EReal := g * Ideal.logistic g * u

/-- The scale of a row whose largest magnitude is `a`. -/
def scaleOf (a : EReal) : EReal := if a = 0 then 1 else Ideal.div a (Ideal.ofBits FTy.f32 1138753536#32)

section
variable (a0 : S2x144x2304.Idx → EReal) (a1 : S2x144.Idx → EReal) (a4 : S2304x12288.Idx → EReal) (s5 : Fin 12288 → EReal)

/-- The gate and up projections of sample `b`'s token `t` at column `l`. -/
def proj (b : Fin 2) (t : Fin 144) (l : Fin 12288) : EReal := (∑ k : Fin 2304, a0 (ix3 b t k) * a4 (ix2 k l)) * a1 (ix2 b t) * s5 l

/-- The activation of sample `b`'s token `t` at column `k`. -/
def act (b : Fin 2) (t : Fin 144) (k : Fin 6144) : EReal :=
  glu (proj a0 a1 a4 s5 b t ⟨k.val, by omega⟩) (proj a0 a1 a4 s5 b t ⟨6144 + k.val, by omega⟩)

/-- The token's scale. -/
def scaleAt (b : Fin 2) (t : Fin 144) : EReal :=
  scaleOf (Finset.fold max (Ideal.ofBits FTy.f32 4286578688#32) (fun k : Fin 6144 => max (act a0 a1 a4 s5 b t k) (-(act a0 a1 a4 s5 b t k))) Finset.univ)

/-- The code of the activation's entry. -/
def code (b : Fin 2) (t : Fin 144) (k : Fin 6144) : EReal :=
  min (Ideal.ofBits FTy.f32 1138753536#32) (max (Ideal.ofBits FTy.f32 3286237184#32) (Ideal.div (act a0 a1 a4 s5 b t k) (scaleAt a0 a1 a4 s5 b t)))

/-- The second result: the codes. -/
def codesOf (i : S2x144x6144.Idx) : EReal := code a0 a1 a4 s5 (i 0) (i 1) (i 2)

/-- The third result: the scales. -/
def scalesOf (i : S2x144.Idx) : EReal := scaleAt a0 a1 a4 s5 (i 0) (i 1)

/-- The first result: the residual plus the sample's gate times the product of the codes with the weight column, scaled by
    the token's scale and the column's. -/
def layer (a2 : S2x144x2304.Idx → EReal) (a3 : S2x2304.Idx → EReal) (a6 : S6144x2304.Idx → EReal) (s7 : Fin 2304 → EReal) (i : S2x144x2304.Idx) : EReal :=
  a2 i + a3 (ix2 (i 0) (i 2)) * ((∑ k : Fin 6144, code a0 a1 a4 s5 (i 0) (i 1) k * a6 (ix2 k (i 2))) * scaleAt a0 a1 a4 s5 (i 0) (i 1) * s7 (i 2))
end

/-! ## The stages on any block -/

/-- A value per token along the columns. -/
theorem col_apply (s : FVec Ideal S144 .f32) (t : Fin 144) (k : Fin 6144) :
    broadcastTo S144x6144 (shapeCast S144x1 s shapeCasts_S144_S144x1) broadcasts_S144x1_S144x6144 (ix2 t k) = s (ix1 t) := by
  pointwise []

/-- The largest magnitude of each row. -/
theorem max_apply (A : FVec Ideal S144x6144 .f32) (t : Fin 144) :
    multiReduction (F := Ideal) .maximumf [1] S144 (absf A) 0xFF800000#32 reduces_S144x6144_S144 (.inl rfl) rfl (ix1 t)
      = Finset.fold max (Ideal.ofBits FTy.f32 4286578688#32) (fun k : Fin 6144 => max (A (ix2 t k)) (-(A (ix2 t k)))) Finset.univ := by
  pointwise []
  simp only [Ideal.absf_def]

/-- The scale picked from the largest magnitude. -/
theorem pick_apply (v : FVec Ideal S144 .f32) (t : Fin 144) :
    select (cmpf .oeq v (broadcast S144 (Scalar.ofBits .f32 0x00000000#32))) (broadcast S144 (Scalar.ofBits .f32 0x3F800000#32)) (divf v (broadcast S144 (Scalar.ofBits .f32 0x43E00000#32))) (ix1 t) = scaleOf (v (ix1 t)) := by
  pointwise [scaleOf]

/-- A quotient clipped to the code range. -/
theorem clip_apply (A N : FVec Ideal S144x6144 .f32) (t : Fin 144) (k : Fin 6144) :
    truncf .fp8e4m3 (minimumf (broadcast S144x6144 (Scalar.ofBits .f32 0x43E00000#32)) (maximumf (broadcast S144x6144 (Scalar.ofBits .f32 0xC3E00000#32)) (divf A N))) bitsLt_fp8e4m3_f32 (ix2 t k)
      = min (Ideal.ofBits FTy.f32 1138753536#32) (max (Ideal.ofBits FTy.f32 3286237184#32) (Ideal.div (A (ix2 t k)) (N (ix2 t k)))) := by
  pointwise []

/-! ## One sample's block of each stage -/

section
variable (v0 : Vec Ideal S1x144x2304 .fp8e4m3) (v2 : Vec Ideal S2304x12288 .fp8e4m3) (v4 : Vec Ideal S1x144 .f32) (v9 : Vec Ideal S1x12288 .f32)

/-- The second sample's stages are the first's. -/
theorem pay10_eq : k0_pay10 (F := Ideal) (k0_pay8 v0 v2 v4 v9) (k0_pay9 v0 v2 v4 v9) = k0_pay2 v0 v2 v4 v9 := by
  unfold k0_pay10 k0_pay9 k0_pay8 k0_pay2; rfl
theorem pay11_eq : k0_pay11 (F := Ideal) (k0_pay8 v0 v2 v4 v9) (k0_pay9 v0 v2 v4 v9) = k0_pay3 v0 v2 v4 v9 := by
  unfold k0_pay11 k0_pay3; rw [pay10_eq]
theorem pay13_eq : k0_pay13 (F := Ideal) (k0_pay8 v0 v2 v4 v9) (k0_pay9 v0 v2 v4 v9) = k0_pay5 v0 v2 v4 v9 := by
  unfold k0_pay13 k0_pay5; rw [pay10_eq, pay11_eq]
theorem pay15_eq (w : Vec Ideal S6144x2304 .fp8e4m3) (sd : Vec Ideal S1x2304 .f32) (x : Vec Ideal S1x144x2304 .f32) (g : Vec Ideal S1x2304 .f32) :
    k0_pay1 (F := Ideal) (k0_pay15 (k0_pay8 v0 v2 v4 v9) (k0_pay9 v0 v2 v4 v9) w sd) (k0_pay16 x) g = k0_pay7 (k0_pay3 v0 v2 v4 v9) (k0_pay5 v0 v2 v4 v9) w sd x g := by
  unfold k0_pay1 k0_pay15 k0_pay16 k0_pay7; rw [pay11_eq, pay13_eq]

theorem act_block (t : Fin 144) (k : Fin 6144) :
    k0_pay2 (F := Ideal) v0 v2 v4 v9 (ix2 t k)
      = glu ((∑ j : Fin 2304, v0 (ix3 0 t j) * v2 (ix2 j ⟨k.val, by omega⟩)) * v4 (ix2 0 t) * v9 (ix2 0 ⟨k.val, by omega⟩))
          ((∑ j : Fin 2304, v0 (ix3 0 t j) * v2 (ix2 j ⟨6144 + k.val, by omega⟩)) * v4 (ix2 0 t) * v9 (ix2 0 ⟨6144 + k.val, by omega⟩)) := by
  unfold_payloads
  pointwise [glu]

theorem scale_block (t : Fin 144) :
    k0_pay3 (F := Ideal) v0 v2 v4 v9 (ix1 t)
      = scaleOf (Finset.fold max (Ideal.ofBits FTy.f32 4286578688#32) (fun k : Fin 6144 => max (k0_pay2 (F := Ideal) v0 v2 v4 v9 (ix2 t k)) (-(k0_pay2 (F := Ideal) v0 v2 v4 v9 (ix2 t k)))) Finset.univ) := by
  unfold k0_pay3
  generalize k0_pay2 (F := Ideal) v0 v2 v4 v9 = A
  exact (pick_apply _ t).trans (congrArg scaleOf (max_apply A t))

theorem code_block (t : Fin 144) (k : Fin 6144) :
    k0_pay5 (F := Ideal) v0 v2 v4 v9 (ix2 t k)
      = min (Ideal.ofBits FTy.f32 1138753536#32) (max (Ideal.ofBits FTy.f32 3286237184#32) (Ideal.div (k0_pay2 (F := Ideal) v0 v2 v4 v9 (ix2 t k)) (k0_pay3 (F := Ideal) v0 v2 v4 v9 (ix1 t)))) := by
  unfold k0_pay5
  generalize k0_pay2 (F := Ideal) v0 v2 v4 v9 = A
  generalize k0_pay3 (F := Ideal) v0 v2 v4 v9 = s
  refine (clip_apply A _ t k).trans ?_
  rw [col_apply]
end

theorem y_block (s : Vec Ideal S144 .f32) (q : Vec Ideal S144x6144 .fp8e4m3) (w : Vec Ideal S6144x2304 .fp8e4m3) (sd : Vec Ideal S1x2304 .f32)
    (x : Vec Ideal S1x144x2304 .f32) (g : Vec Ideal S1x2304 .f32) (t : Fin 144) (l : Fin 2304) :
    k0_pay7 (F := Ideal) s q w sd x g (ix3 0 t l)
      = x (ix3 0 t l) + g (ix2 0 l) * ((∑ k : Fin 6144, q (ix2 t k) * w (ix2 k l)) * s (ix1 t) * sd (ix2 0 l)) := by
  unfold k0_pay7
  pointwise []

/-! ## One sample's results from its block -/

section
variable (a0 : S2x144x2304.Idx → EReal) (a1 : S2x144.Idx → EReal) (a4 : S2304x12288.Idx → EReal) (x5 : S1x12288.Idx → EReal)
variable (v0 : Vec Ideal S1x144x2304 .fp8e4m3) (v4 : Vec Ideal S1x144 .f32) (b : Fin 2)
  (h0 : ∀ (t : Fin 144) (k : Fin 2304), v0 (ix3 0 t k) = a0 (ix3 b t k)) (h4 : ∀ t : Fin 144, v4 (ix2 0 t) = a1 (ix2 b t))
include h0 h4

theorem act_sample (t : Fin 144) (k : Fin 6144) : k0_pay2 (F := Ideal) v0 a4 v4 x5 (ix2 t k) = act a0 a1 a4 (fun l => x5 (ix2 0 l)) b t k := by
  rw [act_block]
  simp only [h0, h4]
  rfl

theorem scale_sample (t : Fin 144) : k0_pay3 (F := Ideal) v0 a4 v4 x5 (ix1 t) = scaleAt a0 a1 a4 (fun l => x5 (ix2 0 l)) b t := by
  rw [scale_block]
  simp only [act_sample a0 a1 a4 x5 v0 v4 b h0 h4]
  rfl

theorem code_sample (t : Fin 144) (k : Fin 6144) : k0_pay5 (F := Ideal) v0 a4 v4 x5 (ix2 t k) = code a0 a1 a4 (fun l => x5 (ix2 0 l)) b t k := by
  rw [code_block, act_sample a0 a1 a4 x5 v0 v4 b h0 h4, scale_sample a0 a1 a4 x5 v0 v4 b h0 h4]
  rfl

theorem y_sample (w : Vec Ideal S6144x2304 .fp8e4m3) (sd : Vec Ideal S1x2304 .f32) (x : Vec Ideal S1x144x2304 .f32) (g : Vec Ideal S1x2304 .f32) (t : Fin 144) (l : Fin 2304) :
    k0_pay7 (F := Ideal) (k0_pay3 v0 a4 v4 x5) (k0_pay5 v0 a4 v4 x5) w sd x g (ix3 0 t l)
      = x (ix3 0 t l) + g (ix2 0 l) * ((∑ k : Fin 6144, code a0 a1 a4 (fun l => x5 (ix2 0 l)) b t k * w (ix2 k l)) * scaleAt a0 a1 a4 (fun l => x5 (ix2 0 l)) b t * sd (ix2 0 l)) := by
  rw [y_block]
  simp only [code_sample a0 a1 a4 x5 v0 v4 b h0 h4, scale_sample a0 a1 a4 x5 v0 v4 b h0 h4]
end

end Cert.ReferenceIdeal.Dma

end
-- ==== Proof.ReferenceIdeal.Value.lean ====
module

public import proofs.«01_k».proof.Proof.ReferenceIdeal.Layer
public import Idealize.ShloMosaic.Lib.Pipeline.Value
public import Idealize.ShloMosaic.Lib.Affine
public import Idealize.ShloMosaic.Lib.Pointwise
public import Idealize.ShloMosaic.Lib.Claim
public import Idealize.ShloMosaic.Lib.StableHlo.ReadAt

@[expose] public section

set_option maxRecDepth 16384

noncomputable section

namespace Cert.ReferenceIdeal.Dma

open Cert.ReferenceIdeal Cert.ReferenceIdeal.Gen
open Idealize.ShloMosaic Idealize.ShloMosaic.TcCoe
open Idealize.SL.Sem

variable (m : (ℓ : Loc nD τ sig) → Buf (Elt Ideal) ℓ) (ρ : Dev nD → PrngReg)

theorem ld_apply {Val : EltTy → Type} {s : Shape} {e : EltTy} (x : s.Idx → Val e) (r : Rect s) (y : r.shape.Idx) : View.ld x r y = x (r.emb y) := rfl

/-! ## Where the loads and stores of each sample land -/

theorem emb_r0_0 (t : Fin 144) (l : Fin 2304) : (r0_0).emb (ix3 0 t l) = ix3 0 t l := by
  refine funext fun a => Fin.ext ?_
  match a with
  | ⟨0, _⟩ => rfl
  | ⟨1, _⟩ => show 0 + 1 * t.val = t.val; omega
  | ⟨2, _⟩ => show 0 + 1 * l.val = l.val; omega

theorem emb_r0_8 (t : Fin 144) (l : Fin 2304) : (r0_8).emb (ix3 0 t l) = ix3 1 t l := by
  refine funext fun a => Fin.ext ?_
  match a with
  | ⟨0, _⟩ => rfl
  | ⟨1, _⟩ => show 0 + 1 * t.val = t.val; omega
  | ⟨2, _⟩ => show 0 + 1 * l.val = l.val; omega

theorem emb_r0_4 (t : Fin 144) (l : Fin 6144) : (r0_4).emb (ix3 0 t l) = ix3 0 t l := by
  refine funext fun a => Fin.ext ?_
  match a with
  | ⟨0, _⟩ => rfl
  | ⟨1, _⟩ => show 0 + 1 * t.val = t.val; omega
  | ⟨2, _⟩ => show 0 + 1 * l.val = l.val; omega

theorem emb_r0_10 (t : Fin 144) (l : Fin 6144) : (r0_10).emb (ix3 0 t l) = ix3 1 t l := by
  refine funext fun a => Fin.ext ?_
  match a with
  | ⟨0, _⟩ => rfl
  | ⟨1, _⟩ => show 0 + 1 * t.val = t.val; omega
  | ⟨2, _⟩ => show 0 + 1 * l.val = l.val; omega

theorem emb_r0_2 (l : Fin 144) : (r0_2).emb (ix2 0 l) = ix2 0 l := by
  refine funext fun a => Fin.ext ?_
  match a with
  | ⟨0, _⟩ => rfl
  | ⟨1, _⟩ => show 0 + 1 * l.val = l.val; omega

theorem emb_r0_9 (l : Fin 144) : (r0_9).emb (ix2 0 l) = ix2 1 l := by
  refine funext fun a => Fin.ext ?_
  match a with
  | ⟨0, _⟩ => rfl
  | ⟨1, _⟩ => show 0 + 1 * l.val = l.val; omega

theorem emb_r0_7 (l : Fin 2304) : (r0_7).emb (ix2 0 l) = ix2 0 l := by
  refine funext fun a => Fin.ext ?_
  match a with
  | ⟨0, _⟩ => rfl
  | ⟨1, _⟩ => show 0 + 1 * l.val = l.val; omega

theorem emb_r0_11 (l : Fin 2304) : (r0_11).emb (ix2 0 l) = ix2 1 l := by
  refine funext fun a => Fin.ext ?_
  match a with
  | ⟨0, _⟩ => rfl
  | ⟨1, _⟩ => show 0 + 1 * l.val = l.val; omega

theorem ld_r0_1 {e : EltTy} (x : S2304x12288.Idx → Elt Ideal e) : View.ld (Val := Elt Ideal) x r0_1 = x := by
  refine funext fun y => congrArg x (funext fun a => Fin.ext ?_)
  match a with
  | ⟨0, _⟩ => show 0 + 1 * (y 0).val = (y 0).val; omega
  | ⟨1, _⟩ => show 0 + 1 * (y 1).val = (y 1).val; omega

theorem ld_r0_3 {e : EltTy} (x : S1x12288.Idx → Elt Ideal e) : View.ld (Val := Elt Ideal) x r0_3 = x := by
  refine funext fun y => congrArg x (funext fun a => Fin.ext ?_)
  match a with
  | ⟨0, _⟩ => show 0 + 1 * (y 0).val = (y 0).val; omega
  | ⟨1, _⟩ => show 0 + 1 * (y 1).val = (y 1).val; omega

theorem ld_r0_5 {e : EltTy} (x : S6144x2304.Idx → Elt Ideal e) : View.ld (Val := Elt Ideal) x r0_5 = x := by
  refine funext fun y => congrArg x (funext fun a => Fin.ext ?_)
  match a with
  | ⟨0, _⟩ => show 0 + 1 * (y 0).val = (y 0).val; omega
  | ⟨1, _⟩ => show 0 + 1 * (y 1).val = (y 1).val; omega

theorem ld_r0_6 {e : EltTy} (x : S1x2304.Idx → Elt Ideal e) : View.ld (Val := Elt Ideal) x r0_6 = x := by
  refine funext fun y => congrArg x (funext fun a => Fin.ext ?_)
  match a with
  | ⟨0, _⟩ => show 0 + 1 * (y 0).val = (y 0).val; omega
  | ⟨1, _⟩ => show 0 + 1 * (y 1).val = (y 1).val; omega

/-! ## What the stores leave -/

section
variable (x0 : Vec Ideal S2x144x2304 .fp8e4m3) (x1 : Vec Ideal S2x144 .f32) (x2 : Vec Ideal S2x144x2304 .f32) (x3 : Vec Ideal S2x2304 .f32)
  (x4 : Vec Ideal S2304x12288 .fp8e4m3) (x5 : Vec Ideal S1x12288 .f32) (x6 : Vec Ideal S6144x2304 .fp8e4m3) (x7 : Vec Ideal S1x2304 .f32)

theorem codes0 (t : Fin 144) (k : Fin 2304) : View.ld (Val := Elt Ideal) (e' := .fp8e4m3) x0 r0_0 (ix3 0 t k) = x0 (ix3 0 t k) := congrArg x0 (emb_r0_0 t k)
theorem codes1 (t : Fin 144) (k : Fin 2304) : View.ld (Val := Elt Ideal) (e' := .fp8e4m3) x0 r0_8 (ix3 0 t k) = x0 (ix3 1 t k) := congrArg x0 (emb_r0_8 t k)
theorem scales0 (t : Fin 144) : View.ld (Val := Elt Ideal) (e' := .f32) x1 r0_2 (ix2 0 t) = x1 (ix2 0 t) := congrArg x1 (emb_r0_2 t)
theorem scales1 (t : Fin 144) : View.ld (Val := Elt Ideal) (e' := .f32) x1 r0_9 (ix2 0 t) = x1 (ix2 1 t) := congrArg x1 (emb_r0_9 t)

/-- The third result's two stores leave the scales. -/
theorem out_scales : out0_10 x0 x1 x2 x3 x4 x5 x6 x7 = scalesOf x0 x1 x4 (fun l => x5 (ix2 0 l)) := by
  funext i
  unfold out0_10 k0_pay18 k0_pay19
  rw [ld_r0_1, ld_r0_3]
  refine View.canon_apply_of_pieces (Val := Elt Ideal) (scalesOf x0 x1 x4 (fun l => x5 (ix2 0 l))) _ ?_ i (cover0_10 _ _ i)
  intro p hp
  simp only [List.mem_cons, List.not_mem_nil, or_false] at hp
  rcases hp with rfl | rfl
  · dsimp only
    intro (y : S1x144.Idx)
    idx_vars y
    obtain rfl : y0 = 0 := Subsingleton.elim _ _
    rw [emb_r0_9]
    unfold k0_pay12
    rw [pay11_eq]
    refine Eq.trans ?_ (scale_sample x0 x1 x4 x5 _ _ 1 (codes1 x0) (scales1 x1) y1)
    pointwise []
  · dsimp only
    intro (y : S1x144.Idx)
    idx_vars y
    obtain rfl : y0 = 0 := Subsingleton.elim _ _
    rw [emb_r0_2]
    unfold k0_pay4
    refine Eq.trans ?_ (scale_sample x0 x1 x4 x5 _ _ 0 (codes0 x0) (scales0 x1) y1)
    pointwise []

/-- The second result's two stores leave the codes. -/
theorem out_codes : out0_9 x0 x1 x2 x3 x4 x5 x6 x7 = codesOf x0 x1 x4 (fun l => x5 (ix2 0 l)) := by
  funext i
  unfold out0_9 k0_pay17 k0_pay18 k0_pay19
  rw [ld_r0_1, ld_r0_3]
  refine View.canon_apply_of_pieces (Val := Elt Ideal) (codesOf x0 x1 x4 (fun l => x5 (ix2 0 l))) _ ?_ i (cover0_9 _ _ i)
  intro p hp
  simp only [List.mem_cons, List.not_mem_nil, or_false] at hp
  rcases hp with rfl | rfl
  · dsimp only
    intro (y : S1x144x6144.Idx)
    idx_vars y
    obtain rfl : y0 = 0 := Subsingleton.elim _ _
    rw [emb_r0_10]
    unfold k0_pay14
    rw [pay13_eq]
    refine Eq.trans ?_ (code_sample x0 x1 x4 x5 _ _ 1 (codes1 x0) (scales1 x1) y1 y2)
    pointwise []
  · dsimp only
    intro (y : S1x144x6144.Idx)
    idx_vars y
    obtain rfl : y0 = 0 := Subsingleton.elim _ _
    rw [emb_r0_4]
    unfold k0_pay6
    refine Eq.trans ?_ (code_sample x0 x1 x4 x5 _ _ 0 (codes0 x0) (scales0 x1) y1 y2)
    pointwise []

/-- The first result's two stores leave the layer's rows. -/
theorem out_y : out0_8 x0 x1 x2 x3 x4 x5 x6 x7 = layer x0 x1 x4 (fun l => x5 (ix2 0 l)) x2 x3 x6 (fun l => x7 (ix2 0 l)) := by
  funext i
  unfold out0_8 k0_pay17 k0_pay18 k0_pay19
  rw [ld_r0_1, ld_r0_3, ld_r0_5, ld_r0_6]
  refine View.canon_apply_of_pieces (Val := Elt Ideal) (layer x0 x1 x4 (fun l => x5 (ix2 0 l)) x2 x3 x6 (fun l => x7 (ix2 0 l))) _ ?_ i (cover0_8 _ _ i)
  intro p hp
  simp only [List.mem_cons, List.not_mem_nil, or_false] at hp
  rcases hp with rfl | rfl
  · dsimp only
    intro (y : S1x144x2304.Idx)
    idx_vars y
    obtain rfl : y0 = 0 := Subsingleton.elim _ _
    rw [emb_r0_8, pay15_eq, y_sample x0 x1 x4 x5 _ _ 1 (codes1 x0) (scales1 x1)]
    rw [ld_apply, ld_apply, emb_r0_8, emb_r0_11]
    rfl
  · dsimp only
    intro (y : S1x144x2304.Idx)
    idx_vars y
    obtain rfl : y0 = 0 := Subsingleton.elim _ _
    rw [emb_r0_0, y_sample x0 x1 x4 x5 _ _ 0 (codes0 x0) (scales0 x1)]
    rw [ld_apply, ld_apply, emb_r0_0, emb_r0_7]
    rfl
end

/-- The one point of the grid. -/
def pt0 : Fin cfg0.N := ⟨0, by decide⟩

/-! ## The windows' blocks are the whole operands -/

theorem blk0 (c : Dev nD) : iblk m c 0 pt0 = m ((c : Thread nD τ).loc main_arg0) := by
  have hz : (fun a => (win0_0.index pt0) a * main_arg0.ty.shape.size a) = fun _ => 0 := funext fun a => by fin_cases a <;> decide
  unfold iblk
  exact (Memref.read_access_unit_zero (Elt Ideal) main_arg0 hz (fun a => by fin_cases a <;> decide) _).trans (V_main_arg0 m c)

theorem blk1 (c : Dev nD) : iblk m c 1 pt0 = m ((c : Thread nD τ).loc main_arg1) := by
  have hz : (fun a => (win0_1.index pt0) a * main_arg1.ty.shape.size a) = fun _ => 0 := funext fun a => by fin_cases a <;> decide
  unfold iblk
  exact (Memref.read_access_unit_zero (Elt Ideal) main_arg1 hz (fun a => by fin_cases a <;> decide) _).trans (V_main_arg1 m c)

theorem blk2 (c : Dev nD) : iblk m c 2 pt0 = m ((c : Thread nD τ).loc main_arg2) := by
  have hz : (fun a => (win0_2.index pt0) a * main_arg2.ty.shape.size a) = fun _ => 0 := funext fun a => by fin_cases a <;> decide
  unfold iblk
  exact (Memref.read_access_unit_zero (Elt Ideal) main_arg2 hz (fun a => by fin_cases a <;> decide) _).trans (V_main_arg2 m c)

theorem blk3 (c : Dev nD) : iblk m c 3 pt0 = m ((c : Thread nD τ).loc main_arg3) := by
  have hz : (fun a => (win0_3.index pt0) a * main_arg3.ty.shape.size a) = fun _ => 0 := funext fun a => by fin_cases a <;> decide
  unfold iblk
  exact (Memref.read_access_unit_zero (Elt Ideal) main_arg3 hz (fun a => by fin_cases a <;> decide) _).trans (V_main_arg3 m c)

theorem blk4 (c : Dev nD) : iblk m c 4 pt0 = m ((c : Thread nD τ).loc main_arg4) := by
  have hz : (fun a => (win0_4.index pt0) a * main_arg4.ty.shape.size a) = fun _ => 0 := funext fun a => by fin_cases a <;> decide
  unfold iblk
  exact (Memref.read_access_unit_zero (Elt Ideal) main_arg4 hz (fun a => by fin_cases a <;> decide) _).trans (V_main_arg4 m c)

theorem blk5 (c : Dev nD) : iblk m c 5 pt0 = V m c main_v0 := by
  have hz : (fun a => (win0_5.index pt0) a * main_v0.ty.shape.size a) = fun _ => 0 := funext fun a => by fin_cases a <;> decide
  unfold iblk
  exact Memref.read_access_unit_zero (Elt Ideal) main_v0 hz (fun a => by fin_cases a <;> decide) _

theorem blk6 (c : Dev nD) : iblk m c 6 pt0 = m ((c : Thread nD τ).loc main_arg6) := by
  have hz : (fun a => (win0_6.index pt0) a * main_arg6.ty.shape.size a) = fun _ => 0 := funext fun a => by fin_cases a <;> decide
  unfold iblk
  exact (Memref.read_access_unit_zero (Elt Ideal) main_arg6 hz (fun a => by fin_cases a <;> decide) _).trans (V_main_arg6 m c)

theorem blk7 (c : Dev nD) : iblk m c 7 pt0 = V m c main_v1 := by
  have hz : (fun a => (win0_7.index pt0) a * main_v1.ty.shape.size a) = fun _ => 0 := funext fun a => by fin_cases a <;> decide
  unfold iblk
  exact Memref.read_access_unit_zero (Elt Ideal) main_v1 hz (fun a => by fin_cases a <;> decide) _

/-- The weights' column scales as one row. -/
theorem sgu_entry (c : Dev nD) (l : Fin 12288) : V m c main_v0 (ix2 0 l) = m ((c : Thread nD τ).loc main_arg5) (ix1 l) := by
  unfold V
  after_reads_at

theorem sdown_entry (c : Dev nD) (l : Fin 2304) : V m c main_v1 (ix2 0 l) = m ((c : Thread nD τ).loc main_arg7) (ix1 l) := by
  unfold V
  after_reads_at

theorem sgu_row (c : Dev nD) : (fun l : Fin 12288 => V m c main_v0 (ix2 0 l)) = fun l => m ((c : Thread nD τ).loc main_arg5) (ix1 l) := funext (sgu_entry m c)
theorem sdown_row (c : Dev nD) : (fun l : Fin 2304 => V m c main_v1 (ix2 0 l)) = fun l => m ((c : Thread nD τ).loc main_arg7) (ix1 l) := funext (sdown_entry m c)

/-! ## The results, of the arguments as launched -/

/-- The layer's rows, of the arguments. -/
def resY (c : Dev nD) : S2x144x2304.Idx → EReal := layer (m ((c : Thread nD τ).loc main_arg0)) (m ((c : Thread nD τ).loc main_arg1)) (m ((c : Thread nD τ).loc main_arg4)) (fun l => m ((c : Thread nD τ).loc main_arg5) (ix1 l)) (m ((c : Thread nD τ).loc main_arg2)) (m ((c : Thread nD τ).loc main_arg3)) (m ((c : Thread nD τ).loc main_arg6)) (fun l => m ((c : Thread nD τ).loc main_arg7) (ix1 l))

/-- The codes, of the arguments. -/
def resCodes (c : Dev nD) : S2x144x6144.Idx → EReal := codesOf (m ((c : Thread nD τ).loc main_arg0)) (m ((c : Thread nD τ).loc main_arg1)) (m ((c : Thread nD τ).loc main_arg4)) (fun l => m ((c : Thread nD τ).loc main_arg5) (ix1 l))

/-- The scales, of the arguments. -/
def resScales (c : Dev nD) : S2x144.Idx → EReal := scalesOf (m ((c : Thread nD τ).loc main_arg0)) (m ((c : Thread nD τ).loc main_arg1)) (m ((c : Thread nD τ).loc main_arg4)) (fun l => m ((c : Thread nD τ).loc main_arg5) (ix1 l))

theorem final8 (c : Dev nD) : (dats m 0 c).arrAt (8 : Fin 11) cfg0.N = resY m c := by
  have ho : ((cfg0.win (8 : Fin 11)).blk pt0).view.read (Elt Ideal) ((dats m 0 c).arrAt (8 : Fin 11) cfg0.N) = (dats m 0 c).flushed (8 : Fin 11) pt0 := by
    rw [show cfg0.N = (pt0 : Fin cfg0.N).val + 1 from rfl, (dats m 0 c).arrAt_succ (8 : Fin 11) pt0]
    rw [show (cfg0.win (8 : Fin 11)).flush pt0 = true from by decide, if_pos rfl]
    exact View.read_write_univ _ _
  have hz : (fun a => (win0_8.index pt0) a * main_v2_0.ty.shape.size a) = fun _ => 0 := funext fun a => by fin_cases a <;> decide
  have hr := fun f => Memref.read_access_unit_zero (Elt Ideal) main_v2_0 hz (fun a => by fin_cases a <;> decide) f
  rw [hr] at ho
  rw [ho]
  show (cfg0.win (8 : Fin 11)).cut _ ((dats m 0 c).after 8 pt0) = _
  rw [after0_8, out_y, blk0, blk1, blk2, blk3, blk4, blk5, blk6, blk7, sgu_row, sdown_row]
  rfl

theorem final9 (c : Dev nD) : (dats m 0 c).arrAt (9 : Fin 11) cfg0.N = resCodes m c := by
  have ho : ((cfg0.win (9 : Fin 11)).blk pt0).view.read (Elt Ideal) ((dats m 0 c).arrAt (9 : Fin 11) cfg0.N) = (dats m 0 c).flushed (9 : Fin 11) pt0 := by
    rw [show cfg0.N = (pt0 : Fin cfg0.N).val + 1 from rfl, (dats m 0 c).arrAt_succ (9 : Fin 11) pt0]
    rw [show (cfg0.win (9 : Fin 11)).flush pt0 = true from by decide, if_pos rfl]
    exact View.read_write_univ _ _
  have hz : (fun a => (win0_9.index pt0) a * main_v2_1.ty.shape.size a) = fun _ => 0 := funext fun a => by fin_cases a <;> decide
  have hr := fun f => Memref.read_access_unit_zero (Elt Ideal) main_v2_1 hz (fun a => by fin_cases a <;> decide) f
  rw [hr] at ho
  rw [ho]
  show (cfg0.win (9 : Fin 11)).cut _ ((dats m 0 c).after 9 pt0) = _
  rw [after0_9, out_codes, blk0, blk1, blk4, blk5, sgu_row]
  rfl

theorem final10 (c : Dev nD) : (dats m 0 c).arrAt (10 : Fin 11) cfg0.N = resScales m c := by
  have ho : ((cfg0.win (10 : Fin 11)).blk pt0).view.read (Elt Ideal) ((dats m 0 c).arrAt (10 : Fin 11) cfg0.N) = (dats m 0 c).flushed (10 : Fin 11) pt0 := by
    rw [show cfg0.N = (pt0 : Fin cfg0.N).val + 1 from rfl, (dats m 0 c).arrAt_succ (10 : Fin 11) pt0]
    rw [show (cfg0.win (10 : Fin 11)).flush pt0 = true from by decide, if_pos rfl]
    exact View.read_write_univ _ _
  have hz : (fun a => (win0_10.index pt0) a * main_v2_2.ty.shape.size a) = fun _ => 0 := funext fun a => by fin_cases a <;> decide
  have hr := fun f => Memref.read_access_unit_zero (Elt Ideal) main_v2_2 hz (fun a => by fin_cases a <;> decide) f
  rw [hr] at ho
  rw [ho]
  show (cfg0.win (10 : Fin 11)).cut _ ((dats m 0 c).after 10 pt0) = _
  rw [after0_10, out_scales, blk0, blk1, blk4, blk5, sgu_row]
  rfl

/-- The run: the results are the layer's of the arguments, and the arguments end unchanged. -/
theorem run : θ_run defs (onTc (τ := τ) (main (F := Ideal))) ⟨m, fun _ => 0, ρ⟩ (fun r => ∀ c : Dev nD,
    r.2.mem ((c.tc : Thread nD τ).loc main_v2_0) = resY m c
      ∧ r.2.mem ((c.tc : Thread nD τ).loc main_v2_1) = resCodes m c
      ∧ r.2.mem ((c.tc : Thread nD τ).loc main_v2_2) = resScales m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun r h c => ⟨((h.1 c).1 8).trans (final8 m c), ((h.1 c).1 9).trans (final9 m c), ((h.1 c).1 10).trans (final10 m c), h.2 c⟩)
    (θ_run_and (run_main m ρ) (unchanged m ρ))

end Cert.ReferenceIdeal.Dma

end
-- ==== Proof.lean ====
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Kernel.Frame
public import proofs.«01_k».proof.Proof.KernelIdeal.Value
public import proofs.«01_k».proof.Proof.ReferenceIdeal.Value
public import Idealize.ShloMosaic.Adequacy
public import Idealize.ShloMosaic.Init

@[expose] public section

noncomputable section

namespace Cert.Proof

open Idealize.ShloMosaic Idealize.SL.Sem Cert.Kernel

/-- The idealized kernel and the idealized reference, from equal arguments, end with the same results: the
    codes and scales of the gated activation, and its down projection added to the residual. -/
theorem algebraic [hKernelIdeal : Cert.KernelIdeal.Facts] [hReferenceIdeal : Cert.ReferenceIdeal.Facts] :
    Cert.algebraic_KernelIdeal_ReferenceIdeal := by
  intro m g m' g' _ hargs
  refine ⟨_, _, _, Cert.KernelIdeal.Dma.run m g, (θ_run _ _ _).mono (fun r h c => ⟨(h c).1.trans ?_, (h c).2.1.trans ?_, (h c).2.2.1.trans ?_, (h c).2.2.2⟩)
    (Cert.ReferenceIdeal.Dma.run m' g')⟩
  all_goals obtain ⟨h0, h1, h2, h3, h4, h5, h6, h7⟩ := hargs c
  · unfold Cert.ReferenceIdeal.Dma.resY
    rw [h0, h1, h2, h3, h4, h5, h6, h7]
    rfl
  · unfold Cert.ReferenceIdeal.Dma.resCodes
    rw [h0, h1, h4, h5]
    rfl
  · unfold Cert.ReferenceIdeal.Dma.resScales
    rw [h0, h1, h4, h5]
    rfl

theorem claim : Cert.Claim := ⟨Cert.Kernel.Gen.facts, Cert.KernelIdeal.Gen.facts, Cert.ReferenceIdeal.Gen.facts,
  fun m ρ _ => Cert.Kernel.Dma.frame m ρ, fun m ρ _ => Cert.KernelIdeal.Dma.frame m ρ, fun m ρ _ => Cert.ReferenceIdeal.Gen.frame m ρ,
  trivial, algebraic⟩

end Cert.Proof

end
